-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_table_names_experts : Cert.Pre_table_names_experts.Facts] (m : (ℓ : Loc Cert.Kernel3.nD Cert.Kernel3.τ Cert.Kernel3.sig) → Buf (Elt Bits) ℓ) : Prop :=
  ∀ c : Dev Cert.Kernel3.nD,
    (Cert.Pre_table_names_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_table_names_experts : Cert.Pre_table_names_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_table_names_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_table_names_experts : Cert.Pre_table_names_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_table_names_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] [hPre_table_names_experts : Cert.Pre_table_names_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_table_names_experts : Cert.Pre_table_names_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_table_names_experts : Cert.Pre_table_names_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] [hPre_table_names_experts : Cert.Pre_table_names_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v119) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v123) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts) (hPre_table_names_experts : Cert.Pre_table_names_experts.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_table_names_experts := hPre_table_names_experts)
    ∧ quiescent_Kernel3Ideal (hKernel3Ideal := hKernel3Ideal) (hPre_table_names_experts := hPre_table_names_experts)
    ∧ quiescent_Reference3Ideal (hReference3Ideal := hReference3Ideal) (hPre_table_names_experts := hPre_table_names_experts)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_table_names_experts := hPre_table_names_experts)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16 : Shape := ⟨1, ![16]⟩
abbrev S_ : Shape := ⟨0, ![]⟩

class Facts : Prop where
  bcast_S_S16x4096x4x4x64 : S_.BroadcastsInDim S16x4096x4x4x64 (![] : Fin 0 → Fin S16x4096x4x4x64.rank)
  reducesTo_S16x4096x4x4x64_S_d0_1_2_3_4 : S16x4096x4x4x64.ReducesTo [0, 1, 2, 3, 4] S_
  h_S_ : 0 < S_.numel
  bcast_S_S16x4096x4x64 : S_.BroadcastsInDim S16x4096x4x64 (![] : Fin 0 → Fin S16x4096x4x64.rank)
  reducesTo_S16x4096x4x64_S_d0_1_2_3 : S16x4096x4x64.ReducesTo [0, 1, 2, 3] S_
  bcast_S_S16x256x4x64 : S_.BroadcastsInDim S16x256x4x64 (![] : Fin 0 → Fin S16x256x4x64.rank)
  reducesTo_S16x256x4x64_S_d0_1_2_3 : S16x256x4x64.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S16x4096x4x4x64 .f32) (main_arg1 : FVec F S16x4096x4x64 .f32) (main_arg2 : FVec F S16x4096x4x64 .f32) (main_arg3 : FVec F S16x256x4x64 .f32) (main_arg4 : FVec F S16x256x4x64 .f32) (main_arg5 : FVec F S16 .f32) : IVec S_ 1 :=
  let main_v0 : FVec F S16x4096x4x4x64 .f32 := Host.absf main_arg0
  let main_cst : FVec F S_ .f32 := constant S_ .f32 0x7F800000#32
  let main_v1 : FVec F S16x4096x4x4x64 .f32 := broadcastInDim S16x4096x4x4x64 ![] bcast_S_S16x4096x4x4x64 main_cst
  let main_v2 : IVec S16x4096x4x4x64 1 := cmpf .olt main_v0 main_v1
  let main_c : IVec S_ 1 := constantI S_ 1 1#1
  let main_v3 : IVec S_ 1 := (fun x v => Host.reduce IntOp.andi x v reducesTo_S16x4096x4x4x64_S_d0_1_2_3_4 h_S_) main_v2 main_c
  let main_v4 : FVec F S16x4096x4x64 .f32 := Host.absf main_arg1
  let main_cst_0 : FVec F S_ .f32 := constant S_ .f32 0x7F800000#32
  let main_v5 : FVec F S16x4096x4x64 .f32 := broadcastInDim S16x4096x4x64 ![] bcast_S_S16x4096x4x64 main_cst_0
  let main_v6 : IVec S16x4096x4x64 1 := cmpf .olt main_v4 main_v5
  let main_c_1 : IVec S_ 1 := constantI S_ 1 1#1
  let main_v7 : IVec S_ 1 := (fun x v => Host.reduce IntOp.andi x v reducesTo_S16x4096x4x64_S_d0_1_2_3 h_S_) main_v6 main_c_1
  let main_v8 : IVec S_ 1 := andi main_v3 main_v7
  let main_v9 : FVec F S16x256x4x64 .f32 := Host.absf main_arg3
  let main_cst_2 : FVec F S_ .f32 := constant S_ .f32 0x7F800000#32
  let main_v10 : FVec F S16x256x4x64 .f32 := broadcastInDim S16x256x4x64 ![] bcast_S_S16x256x4x64 main_cst_2
  let main_v11 : IVec S16x256x4x64 1 := cmpf .olt main_v9 main_v10
  let main_c_3 : IVec S_ 1 := constantI S_ 1 1#1
  let main_v12 : IVec S_ 1 := (fun x v => Host.reduce IntOp.andi x v reducesTo_S16x256x4x64_S_d0_1_2_3 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_table_names_experts.lean ====
abbrev S146432x1024 : Shape := ⟨2, ![146432, 1024]⟩
abbrev S286 : Shape := ⟨1, ![286]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S286 : S_.BroadcastsInDim S286 (![] : Fin 0 → Fin S286.rank)
  reducesTo_S286_S_d0 : S286.ReducesTo [0] S_
  h_S_ : 0 < S_.numel

variable [Facts]

def fn {F : FTy → Type} [FloatOps F] (main_arg0 : FVec F S146432x1024 .f32) (main_arg1 : IVec S286 32) (main_arg2 : IVec S286 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S286 32 := broadcastInDim S286 ![] bcast_S_S286 main_c
  let main_v1 : IVec S286 1 := cmpi .sge main_arg1 main_v0
  let main_c_0 : IVec S_ 32 := constantI S_ 32 8#32
  let main_v2 : IVec S286 32 := broadcastInDim S286 ![] bcast_S_S286 main_c_0
  let main_v3 : IVec S286 1 := cmpi .slt main_arg1 main_v2
  let main_v4 : IVec S286 1 := andi main_v1 main_v3
  let main_c_1 : IVec S_ 1 := constantI S_ 1 1#1
  let main_v5 : IVec S_ 1 := (fun x v => Host.reduce IntOp.andi x v reducesTo_S286_S_d0 h_S_) main_v4 main_c_1
  let main_c_2 : IVec S_ 32 := constantI S_ 32 0#32
  let main_v6 : IVec S286 32 := broadcastInDim S286 ![] bcast_S_S286 main_c_2
  let main_v7 : IVec S286 1 := cmpi .sge main_arg2 main_v6
  let main_c_3 : IVec S_ 32 := constantI S_ 32 1#32
  let main_v8 : IVec S286 32 := broadcastInDim S286 ![] bcast_S_S286 main_c_3
  let main_v9 : IVec S286 1 := cmpi .sle main_arg2 main_v8
  let main_v10 : IVec S286 1 := andi main_v7 main_v9
  let main_c_4 : IVec S_ 1 := constantI S_ 1 1#1
  let main_v11 : IVec S_ 1 := (fun x v => Host.reduce IntOp.andi x v reducesTo_S286_S_d0 h_S_) main_v10 main_c_4
  let main_v12 : IVec S_ 1 := andi main_v5 main_v11
  main_v12
-- ==== Kernel.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16 : Shape := ⟨1, ![16]⟩
abbrev S16x4096x1024 : Shape := ⟨3, ![16, 4096, 1024]⟩
abbrev S_ : Shape := ⟨0, ![]⟩
abbrev S16x4096x256 : Shape := ⟨3, ![16, 4096, 256]⟩
abbrev S16x256x256 : Shape := ⟨3, ![16, 256, 256]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S1x512x1024 : Shape := ⟨3, ![1, 512, 1024]⟩
abbrev S1x128x256 : Shape := ⟨3, ![1, 128, 256]⟩
abbrev S1x512x256 : Shape := ⟨3, ![1, 512, 256]⟩
abbrev S1x256x256 : Shape := ⟨3, ![1, 256, 256]⟩
abbrev S512x640 : Shape := ⟨2, ![512, 640]⟩
abbrev S1x128x64 : Shape := ⟨3, ![1, 128, 64]⟩
abbrev S128x64 : Shape := ⟨2, ![128, 64]⟩
abbrev S1x256x64 : Shape := ⟨3, ![1, 256, 64]⟩
abbrev S256x64 : Shape := ⟨2, ![256, 64]⟩
abbrev S640x64 : Shape := ⟨2, ![640, 64]⟩
abbrev S512x64 : Shape := ⟨2, ![512, 64]⟩
abbrev S1x512x1 : Shape := ⟨3, ![1, 512, 1]⟩
abbrev S512x1 : Shape := ⟨2, ![512, 1]⟩
abbrev S512 : Shape := ⟨1, ![512]⟩

abbrev nBuf : Space → Nat
  | .hbm => 24
  | .vmem => 21
  | .smem => 0
  | _ => 0

abbrev bufTy : (tb : Table) → Fin (tcTables nBuf tb) → BufTy
  | .hbm, ⟨0, _⟩ => ⟨S16x4096x4x4x64, .f32⟩
  | .hbm, ⟨1, _⟩ => ⟨S16x4096x4x64, .f32⟩
  | .hbm, ⟨2, _⟩ => ⟨S16x4096x4x64, .f32⟩
  | .hbm, ⟨3, _⟩ => ⟨S16x256x4x64, .f32⟩
  | .hbm, ⟨4, _⟩ => ⟨S16x256x4x64, .f32⟩
  | .hbm, ⟨5, _⟩ => ⟨S16, .f32⟩
  | .hbm, ⟨6, _⟩ => ⟨S16x4096x1024, .f32⟩
  | .hbm, ⟨7, _⟩ => ⟨S_, .f32⟩
  | .hbm, ⟨8, _⟩ => ⟨S16x4096x1024, .f32⟩
  | .hbm, ⟨9, _⟩ => ⟨S16x4096x1024, .f32⟩
  | .hbm, ⟨10, _⟩ => ⟨S16x4096x1024, .bf16⟩
  | .hbm, ⟨11, _⟩ => ⟨S16x4096x256, .f32⟩
  | .hbm, ⟨12, _⟩ => ⟨S16x4096x256, .bf16⟩
  | .hbm, ⟨13, _⟩ => ⟨S16x4096x256, .f32⟩
  | .hbm, ⟨14, _⟩ => ⟨S16x4096x256, .bf16⟩
  | .hbm, ⟨15, _⟩ => ⟨S16x256x256, .f32⟩
  | .hbm, ⟨16, _⟩ => ⟨S16x256x256, .bf16⟩
  | .hbm, ⟨17, _⟩ => ⟨S16x256x256, .f32⟩
  | .hbm, ⟨18, _⟩ => ⟨S16x256x256, .bf16⟩
  | .hbm, ⟨19, _⟩ => ⟨S4x4, .f32⟩
  | .hbm, ⟨20, _⟩ => ⟨S4x4x128, .f32⟩
  | .hbm, ⟨21, _⟩ => ⟨S4x512, .f32⟩
  | .hbm, ⟨22, _⟩ => ⟨S4x512x1, .f32⟩
  | .hbm, ⟨23, _⟩ => ⟨S16x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S4x512x1, .f32⟩
  | .local _ .vmem, ⟨19, _⟩ => ⟨S1x512x1024, .bf16⟩
  | .local _ .vmem, ⟨20, _⟩ => ⟨S1x512x1024, .bf16⟩
  | _, _ => ⟨S16x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c4_i32_0 : BitVec 32 := 4#32
  let v1 : BitVec 32 := Scalar.addi v0 c4_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x4x4x64 : Shape := ⟨5, ![16, 4096, 4, 4, 64]⟩
abbrev S16x4096x4x64 : Shape := ⟨4, ![16, 4096, 4, 64]⟩
abbrev S16x256x4x64 : Shape := ⟨4, ![16, 256, 4, 64]⟩
abbrev S16 : Shape := ⟨1, ![16]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x4x4096x4096x4 : Shape := ⟨5, ![16, 4, 4096, 4096, 4]⟩
abbrev S16x4x4x4096x4096 : Shape := ⟨5, ![16, 4, 4, 4096, 4096]⟩
abbrev S16x4x256x4096x4 : Shape := ⟨5, ![16, 4, 256, 4096, 4]⟩
abbrev S16x4x4x4096x256 : Shape := ⟨5, ![16, 4, 4, 4096, 256]⟩
abbrev S1x4x4x1x1 : Shape := ⟨5, ![1, 4, 4, 1, 1]⟩
abbrev S16x4x4x4096x1 : Shape := ⟨5, ![16, 4, 4, 4096, 1]⟩
abbrev S16x4x4x4096x4353 : Shape := ⟨5, ![16, 4, 4, 4096, 4353]⟩
abbrev S16x4x4x4096 : Shape := ⟨4, ![16, 4, 4, 4096]⟩
abbrev S16x4x64x4x4096 : Shape := ⟨5, ![16, 4, 64, 4, 4096]⟩
abbrev S16x4096x1024 : Shape := ⟨3, ![16, 4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16x4096x4x4x64, .f32⟩
  | .hbm, ⟨1, _⟩ => ⟨S16x4096x4x64, .f32⟩
  | .hbm, ⟨2, _⟩ => ⟨S16x4096x4x64, .f32⟩
  | .hbm, ⟨3, _⟩ => ⟨S16x256x4x64, .f32⟩
  | .hbm, ⟨4, _⟩ => ⟨S16x256x4x64, .f32⟩
  | .hbm, ⟨5, _⟩ => ⟨S16, .f32⟩
  | .hbm, ⟨6, _⟩ => ⟨S4096, .i32⟩
  | .hbm, ⟨7, _⟩ => ⟨S4096x1, .i32⟩
  | .hbm, ⟨8, _⟩ => ⟨S1x4096, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S16x4x4096x4096x4, .f32⟩
  | .hbm, ⟨17, _⟩ => ⟨S16x4x4x4096x4096, .f32⟩
  | .hbm, ⟨18, _⟩ => ⟨S_, .f32⟩
  | .hbm, ⟨19, _⟩ => ⟨S16x4x4x4096x4096, .f32⟩
  | .hbm, ⟨20, _⟩ => ⟨S16x4x4x4096x4096, .f32⟩
  | .hbm, ⟨21, _⟩ => ⟨S_, .f32⟩
  | .hbm, ⟨22, _⟩ => ⟨S_, .f32⟩
  | .hbm, ⟨23, _⟩ => ⟨S16x4x4x4096x4096, .i1⟩
  | .hbm, ⟨24, _⟩ => ⟨S16x4x4x4096x4096, .f32⟩
  | .hbm, ⟨25, _⟩ => ⟨S16x4x4x4096x4096, .f32⟩
  | .hbm, ⟨26, _⟩ => ⟨S16x4x256x4096x4, .f32⟩
  | .hbm, ⟨27, _⟩ => ⟨S16x4x4x4096x256, .f32⟩
  | .hbm, ⟨28, _⟩ => ⟨S_, .f32⟩
  | .hbm, ⟨29, _⟩ => ⟨S16x4x4x4096x256, .f32⟩
  | .hbm, ⟨30, _⟩ => ⟨S16x4x4x4096x256, .f32⟩
  | .hbm, ⟨31, _⟩ => ⟨S1x4x4x1x1, .f32⟩
  | .hbm, ⟨32, _⟩ => ⟨S16x4x4x4096x1, .f32⟩
  | .hbm, ⟨33, _⟩ => ⟨S16x4x4x4096x4353, .f32⟩
  | .hbm, ⟨34, _⟩ => ⟨S_, .f32⟩
  | .hbm, ⟨35, _⟩ => ⟨S16x4x4x4096, .f32⟩
  | .hbm, ⟨36, _⟩ => ⟨S_, .f32⟩
  | .hbm, ⟨37, _⟩ => ⟨S16x4x4x4096, .f32⟩
  | .hbm, ⟨38, _⟩ => ⟨S16x4x4x4096, .f32⟩
  | .hbm, ⟨39, _⟩ => ⟨S16x4x4x4096x1, .f32⟩
  | .hbm, ⟨40, _⟩ => ⟨S16x4x4x4096x4353, .f32⟩
  | .hbm, ⟨41, _⟩ => ⟨S16x4x4x4096x4353, .f32⟩
  | .hbm, ⟨42, _⟩ => ⟨S16x4x4x4096x4353, .f32⟩
  | .hbm, ⟨43, _⟩ => ⟨S_, .f32⟩
  | .hbm, ⟨44, _⟩ => ⟨S16x4x4x4096, .f32⟩
  | .hbm, ⟨45, _⟩ => ⟨S16x4x4x4096x1, .f32⟩
  | .hbm, ⟨46, _⟩ => ⟨S16x4x4x4096x4353, .f32⟩
  | .hbm, ⟨47, _⟩ => ⟨S16x4x4x4096x4353, .f32⟩
  | .hbm, ⟨48, _⟩ => ⟨S16x4x4x4096x4096, .f32⟩
  | .hbm, ⟨49, _⟩ => ⟨S16x4x64x4x4096, .f32⟩
  | .hbm, ⟨50, _⟩ => ⟨S16x4096x4x4x64, .f32⟩
  | .hbm, ⟨51, _⟩ => ⟨S16x4x4x4096x256, .f32⟩
  | .hbm, ⟨52, _⟩ => ⟨S16x4x64x4x4096, .f32⟩
  | .hbm, ⟨53, _⟩ => ⟨S16x4096x4x4x64, .f32⟩
  | .hbm, ⟨54, _⟩ => ⟨S16x4096x4x4x64, .f32⟩
  | .hbm, ⟨55, _⟩ => ⟨S16x4096x1024, .f32⟩
  | .hbm, ⟨56, _⟩ => ⟨S16x4096x1024, .bf16⟩
  | _, _ => ⟨S16x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1024x1024 : Shape := ⟨2, ![1024, 1024]⟩
abbrev S16x1x1024 : Shape := ⟨3, ![16, 1, 1024]⟩
abbrev S1024 : Shape := ⟨1, ![1024]⟩
abbrev S1024x3584 : Shape := ⟨2, ![1024, 3584]⟩
abbrev S3584x1024 : Shape := ⟨2, ![3584, 1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x3584 : Shape := ⟨2, ![512, 3584]⟩

abbrev nBuf : Space → Nat
  | .hbm => 18
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S16x1x1024, .f32⟩
  | .hbm, ⟨5, _⟩ => ⟨S1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S1024x3584, .f32⟩
  | .hbm, ⟨10, _⟩ => ⟨S1024x3584, .f32⟩
  | .hbm, ⟨11, _⟩ => ⟨S3584x1024, .f32⟩
  | .hbm, ⟨12, _⟩ => ⟨S1024x1024, .bf16⟩
  | .hbm, ⟨13, _⟩ => ⟨S1024x3584, .bf16⟩
  | .hbm, ⟨14, _⟩ => ⟨S1024x3584, .bf16⟩
  | .hbm, ⟨15, _⟩ => ⟨S3584x1024, .bf16⟩
  | .hbm, ⟨16, _⟩ => ⟨S1x1024, .f32⟩
  | .hbm, ⟨17, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x3584, .bf16⟩
  | .local _ .vmem, ⟨17, _⟩ => ⟨S1024x3584, .bf16⟩
  | .local _ .vmem, ⟨18, _⟩ => ⟨S3584x1024, .bf16⟩
  | .local _ .vmem, ⟨19, _⟩ => ⟨S1x512x1024, .f32⟩
  | .local _ .vmem, ⟨20, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3584x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S1024x1024 : Shape := ⟨2, ![1024, 1024]⟩
abbrev S16x1x1024 : Shape := ⟨3, ![16, 1, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3584 : Shape := ⟨3, ![16, 4096, 3584]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S16x1x1024, .f32⟩
  | .hbm, ⟨5, _⟩ => ⟨S1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S1024x3584, .f32⟩
  | .hbm, ⟨10, _⟩ => ⟨S1024x3584, .f32⟩
  | .hbm, ⟨11, _⟩ => ⟨S3584x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x3584, .f32⟩
  | .hbm, ⟨41, _⟩ => ⟨S16x4096x3584, .f32⟩
  | .hbm, ⟨42, _⟩ => ⟨S16x4096x3584, .f32⟩
  | .hbm, ⟨43, _⟩ => ⟨S_, .f32⟩
  | .hbm, ⟨44, _⟩ => ⟨S16x4096x3584, .f32⟩
  | .hbm, ⟨45, _⟩ => ⟨S16x4096x3584, .f32⟩
  | .hbm, ⟨46, _⟩ => ⟨S_, .f32⟩
  | .hbm, ⟨47, _⟩ => ⟨S16x4096x3584, .f32⟩
  | .hbm, ⟨48, _⟩ => ⟨S16x4096x3584, .f32⟩
  | .hbm, ⟨49, _⟩ => ⟨S16x4096x3584, .f32⟩
  | .hbm, ⟨50, _⟩ => ⟨S16x4096x3584, .f32⟩
  | .hbm, ⟨51, _⟩ => ⟨S16x4096x3584, .f32⟩
  | .hbm, ⟨52, _⟩ => ⟨S16x4096x1024, .f32⟩
  | .hbm, ⟨53, _⟩ => ⟨S16x4096x1024, .f32⟩
  | .hbm, ⟨54, _⟩ => ⟨S16x4096x1024, .f32⟩
  | .hbm, ⟨55, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel3.lean ====
abbrev S146432x1024 : Shape := ⟨2, ![146432, 1024]⟩
abbrev S286 : Shape := ⟨1, ![286]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x3584 : Shape := ⟨3, ![1, 1024, 3584]⟩
abbrev S1 : Shape := ⟨1, ![1]⟩
abbrev S1x3584x1024 : Shape := ⟨3, ![1, 3584, 1024]⟩
abbrev S1024x3584 : Shape := ⟨2, ![1024, 3584]⟩
abbrev S512x3584 : Shape := ⟨2, ![512, 3584]⟩
abbrev S3584x1024 : Shape := ⟨2, ![3584, 1024]⟩

abbrev nBuf : Space → Nat
  | .hbm => 8
  | .vmem => 7
  | .smem => 2
  | _ => 0

abbrev bufTy : (tb : Table) → Fin (tcTables nBuf tb) → BufTy
  | .hbm, ⟨0, _⟩ => ⟨S146432x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S146432x1024, .f32⟩
  | .local _ .vmem, ⟨0, _⟩ => ⟨S512x1024, .f32⟩
  | .local _ .vmem, ⟨1, _⟩ => ⟨S512x1024, .f32⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .smem, ⟨0, _⟩ => ⟨S286, .i32⟩
  | .local _ .smem, ⟨1, _⟩ => ⟨S286, .i32⟩
  | _, _ => ⟨S146432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![286], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S286.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S286) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S286.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S286) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S286.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S286) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S146432x1024 : Shape := ⟨2, ![146432, 1024]⟩
abbrev S286 : Shape := ⟨1, ![286]⟩
abbrev S8x1024x3584 : Shape := ⟨3, ![8, 1024, 3584]⟩
abbrev S8x3584x1024 : Shape := ⟨3, ![8, 3584, 1024]⟩
abbrev S286x512 : Shape := ⟨2, ![286, 512]⟩
abbrev S146432 : Shape := ⟨1, ![146432]⟩
abbrev S146432x1 : Shape := ⟨2, ![146432, 1]⟩
abbrev S_ : Shape := ⟨0, ![]⟩
abbrev S1x1024x3584 : Shape := ⟨3, ![1, 1024, 3584]⟩
abbrev S1024x3584 : Shape := ⟨2, ![1024, 3584]⟩
abbrev S146432x3584 : Shape := ⟨2, ![146432, 3584]⟩
abbrev S1x3584x1024 : Shape := ⟨3, ![1, 3584, 1024]⟩
abbrev S3584x1024 : Shape := ⟨2, ![3584, 1024]⟩

abbrev nBuf : Space → Nat
  | .hbm => 217
  | .vmem => 0
  | .smem => 0
  | _ => 0

abbrev hbmTy0_0 (i : Nat) : BufTy := match i % 128 with
  | 0 => ⟨S146432x1024, .f32⟩
  | 1 => ⟨S286, .i32⟩
  | 2 => ⟨S286, .i32⟩
  | 3 => ⟨S8x1024x3584, .f32⟩
  | 4 => ⟨S8x1024x3584, .f32⟩
  | 5 => ⟨S8x3584x1024, .f32⟩
  | 6 => ⟨S286x512, .i32⟩
  | 7 => ⟨S146432, .i32⟩
  | 8 => ⟨S146432x1, .i32⟩
  | 9 => ⟨S286x512, .i32⟩
  | 10 => ⟨S146432, .i32⟩
  | 11 => ⟨S146432x1, .i32⟩
  | 12 => ⟨S_, .i32⟩
  | 13 => ⟨S146432x1, .i32⟩
  | 14 => ⟨S146432x1, .i1⟩
  | 15 => ⟨S_, .f32⟩
  | 16 => ⟨S146432x1024, .f32⟩
  | 17 => ⟨S1x1024x3584, .f32⟩
  | 18 => ⟨S1024x3584, .f32⟩
  | 19 => ⟨S146432x3584, .f32⟩
  | 20 => ⟨S146432x3584, .f32⟩
  | 21 => ⟨S146432x3584, .f32⟩
  | 22 => ⟨S_, .f32⟩
  | 23 => ⟨S146432x3584, .f32⟩
  | 24 => ⟨S146432x3584, .f32⟩
  | 25 => ⟨S_, .f32⟩
  | 26 => ⟨S146432x3584, .f32⟩
  | 27 => ⟨S146432x3584, .f32⟩
  | 28 => ⟨S146432x3584, .f32⟩
  | 29 => ⟨S1x1024x3584, .f32⟩
  | 30 => ⟨S1024x3584, .f32⟩
  | 31 => ⟨S146432x3584, .f32⟩
  | 32 => ⟨S146432x3584, .f32⟩
  | 33 => ⟨S1x3584x1024, .f32⟩
  | 34 => ⟨S3584x1024, .f32⟩
  | 35 => ⟨S146432x1024, .f32⟩
  | 36 => ⟨S_, .i32⟩
  | 37 => ⟨S146432x1, .i32⟩
  | 38 => ⟨S146432x1, .i1⟩
  | 39 => ⟨S146432x1, .i1⟩
  | 40 => ⟨S146432x1024, .i1⟩
  | 41 => ⟨S146432x1024, .f32⟩
  | 42 => ⟨S1x1024x3584, .f32⟩
  | 43 => ⟨S1024x3584, .f32⟩
  | 44 => ⟨S146432x3584, .f32⟩
  | 45 => ⟨S146432x3584, .f32⟩
  | 46 => ⟨S146432x3584, .f32⟩
  | 47 => ⟨S_, .f32⟩
  | 48 => ⟨S146432x3584, .f32⟩
  | 49 => ⟨S146432x3584, .f32⟩
  | 50 => ⟨S_, .f32⟩
  | 51 => ⟨S146432x3584, .f32⟩
  | 52 => ⟨S146432x3584, .f32⟩
  | 53 => ⟨S146432x3584, .f32⟩
  | 54 => ⟨S1x1024x3584, .f32⟩
  | 55 => ⟨S1024x3584, .f32⟩
  | 56 => ⟨S146432x3584, .f32⟩
  | 57 => ⟨S146432x3584, .f32⟩
  | 58 => ⟨S1x3584x1024, .f32⟩
  | 59 => ⟨S3584x1024, .f32⟩
  | 60 => ⟨S146432x1024, .f32⟩
  | 61 => ⟨S_, .i32⟩
  | 62 => ⟨S146432x1, .i32⟩
  | 63 => ⟨S146432x1, .i1⟩
  | 64 => ⟨S146432x1, .i1⟩
  | 65 => ⟨S146432x1024, .i1⟩
  | 66 => ⟨S146432x1024, .f32⟩
  | 67 => ⟨S1x1024x3584, .f32⟩
  | 68 => ⟨S1024x3584, .f32⟩
  | 69 => ⟨S146432x3584, .f32⟩
  | 70 => ⟨S146432x3584, .f32⟩
  | 71 => ⟨S146432x3584, .f32⟩
  | 72 => ⟨S_, .f32⟩
  | 73 => ⟨S146432x3584, .f32⟩
  | 74 => ⟨S146432x3584, .f32⟩
  | 75 => ⟨S_, .f32⟩
  | 76 => ⟨S146432x3584, .f32⟩
  | 77 => ⟨S146432x3584, .f32⟩
  | 78 => ⟨S146432x3584, .f32⟩
  | 79 => ⟨S1x1024x3584, .f32⟩
  | 80 => ⟨S1024x3584, .f32⟩
  | 81 => ⟨S146432x3584, .f32⟩
  | 82 => ⟨S146432x3584, .f32⟩
  | 83 => ⟨S1x3584x1024, .f32⟩
  | 84 => ⟨S3584x1024, .f32⟩
  | 85 => ⟨S146432x1024, .f32⟩
  | 86 => ⟨S_, .i32⟩
  | 87 => ⟨S146432x1, .i32⟩
  | 88 => ⟨S146432x1, .i1⟩
  | 89 => ⟨S146432x1, .i1⟩
  | 90 => ⟨S146432x1024, .i1⟩
  | 91 => ⟨S146432x1024, .f32⟩
  | 92 => ⟨S1x1024x3584, .f32⟩
  | 93 => ⟨S1024x3584, .f32⟩
  | 94 => ⟨S146432x3584, .f32⟩
  | 95 => ⟨S146432x3584, .f32⟩
  | 96 => ⟨S146432x3584, .f32⟩
  | 97 => ⟨S_, .f32⟩
  | 98 => ⟨S146432x3584, .f32⟩
  | 99 => ⟨S146432x3584, .f32⟩
  | 100 => ⟨S_, .f32⟩
  | 101 => ⟨S146432x3584, .f32⟩
  | 102 => ⟨S146432x3584, .f32⟩
  | 103 => ⟨S146432x3584, .f32⟩
  | 104 => ⟨S1x1024x3584, .f32⟩
  | 105 => ⟨S1024x3584, .f32⟩
  | 106 => ⟨S146432x3584, .f32⟩
  | 107 => ⟨S146432x3584, .f32⟩
  | 108 => ⟨S1x3584x1024, .f32⟩
  | 109 => ⟨S3584x1024, .f32⟩
  | 110 => ⟨S146432x1024, .f32⟩
  | 111 => ⟨S_, .i32⟩
  | 112 => ⟨S146432x1, .i32⟩
  | 113 => ⟨S146432x1, .i1⟩
  | 114 => ⟨S146432x1, .i1⟩
  | 115 => ⟨S146432x1024, .i1⟩
  | 116 => ⟨S146432x1024, .f32⟩
  | 117 => ⟨S1x1024x3584, .f32⟩
  | 118 => ⟨S1024x3584, .f32⟩
  | 119 => ⟨S146432x3584, .f32⟩
  | 120 => ⟨S146432x3584, .f32⟩
  | 121 => ⟨S146432x3584, .f32⟩
  | 122 => ⟨S_, .f32⟩
  | 123 => ⟨S146432x3584, .f32⟩
  | 124 => ⟨S146432x3584, .f32⟩
  | 125 => ⟨S_, .f32⟩
  | 126 => ⟨S146432x3584, .f32⟩
  | 127 => ⟨S146432x3584, .f32⟩
  | _ => ⟨S146432x1024, .f32⟩

abbrev hbmTy0_1 (i : Nat) : BufTy := match i % 128 with
  | 0 => ⟨S146432x3584, .f32⟩
  | 1 => ⟨S1x1024x3584, .f32⟩
  | 2 => ⟨S1024x3584, .f32⟩
  | 3 => ⟨S146432x3584, .f32⟩
  | 4 => ⟨S146432x3584, .f32⟩
  | 5 => ⟨S1x3584x1024, .f32⟩
  | 6 => ⟨S3584x1024, .f32⟩
  | 7 => ⟨S146432x1024, .f32⟩
  | 8 => ⟨S_, .i32⟩
  | 9 => ⟨S146432x1, .i32⟩
  | 10 => ⟨S146432x1, .i1⟩
  | 11 => ⟨S146432x1, .i1⟩
  | 12 => ⟨S146432x1024, .i1⟩
  | 13 => ⟨S146432x1024, .f32⟩
  | 14 => ⟨S1x1024x3584, .f32⟩
  | 15 => ⟨S1024x3584, .f32⟩
  | 16 => ⟨S146432x3584, .f32⟩
  | 17 => ⟨S146432x3584, .f32⟩
  | 18 => ⟨S146432x3584, .f32⟩
  | 19 => ⟨S_, .f32⟩
  | 20 => ⟨S146432x3584, .f32⟩
  | 21 => ⟨S146432x3584, .f32⟩
  | 22 => ⟨S_, .f32⟩
  | 23 => ⟨S146432x3584, .f32⟩
  | 24 => ⟨S146432x3584, .f32⟩
  | 25 => ⟨S146432x3584, .f32⟩
  | 26 => ⟨S1x1024x3584, .f32⟩
  | 27 => ⟨S1024x3584, .f32⟩
  | 28 => ⟨S146432x3584, .f32⟩
  | 29 => ⟨S146432x3584, .f32⟩
  | 30 => ⟨S1x3584x1024, .f32⟩
  | 31 => ⟨S3584x1024, .f32⟩
  | 32 => ⟨S146432x1024, .f32⟩
  | 33 => ⟨S_, .i32⟩
  | 34 => ⟨S146432x1, .i32⟩
  | 35 => ⟨S146432x1, .i1⟩
  | 36 => ⟨S146432x1, .i1⟩
  | 37 => ⟨S146432x1024, .i1⟩
  | 38 => ⟨S146432x1024, .f32⟩
  | 39 => ⟨S1x1024x3584, .f32⟩
  | 40 => ⟨S1024x3584, .f32⟩
  | 41 => ⟨S146432x3584, .f32⟩
  | 42 => ⟨S146432x3584, .f32⟩
  | 43 => ⟨S146432x3584, .f32⟩
  | 44 => ⟨S_, .f32⟩
  | 45 => ⟨S146432x3584, .f32⟩
  | 46 => ⟨S146432x3584, .f32⟩
  | 47 => ⟨S_, .f32⟩
  | 48 => ⟨S146432x3584, .f32⟩
  | 49 => ⟨S146432x3584, .f32⟩
  | 50 => ⟨S146432x3584, .f32⟩
  | 51 => ⟨S1x1024x3584, .f32⟩
  | 52 => ⟨S1024x3584, .f32⟩
  | 53 => ⟨S146432x3584, .f32⟩
  | 54 => ⟨S146432x3584, .f32⟩
  | 55 => ⟨S1x3584x1024, .f32⟩
  | 56 => ⟨S3584x1024, .f32⟩
  | 57 => ⟨S146432x1024, .f32⟩
  | 58 => ⟨S_, .i32⟩
  | 59 => ⟨S146432x1, .i32⟩
  | 60 => ⟨S146432x1, .i1⟩
  | 61 => ⟨S146432x1, .i1⟩
  | 62 => ⟨S146432x1024, .i1⟩
  | 63 => ⟨S146432x1024, .f32⟩
  | 64 => ⟨S1x1024x3584, .f32⟩
  | 65 => ⟨S1024x3584, .f32⟩
  | 66 => ⟨S146432x3584, .f32⟩
  | 67 => ⟨S146432x3584, .f32⟩
  | 68 => ⟨S146432x3584, .f32⟩
  | 69 => ⟨S_, .f32⟩
  | 70 => ⟨S146432x3584, .f32⟩
  | 71 => ⟨S146432x3584, .f32⟩
  | 72 => ⟨S_, .f32⟩
  | 73 => ⟨S146432x3584, .f32⟩
  | 74 => ⟨S146432x3584, .f32⟩
  | 75 => ⟨S146432x3584, .f32⟩
  | 76 => ⟨S1x1024x3584, .f32⟩
  | 77 => ⟨S1024x3584, .f32⟩
  | 78 => ⟨S146432x3584, .f32⟩
  | 79 => ⟨S146432x3584, .f32⟩
  | 80 => ⟨S1x3584x1024, .f32⟩
  | 81 => ⟨S3584x1024, .f32⟩
  | 82 => ⟨S146432x1024, .f32⟩
  | 83 => ⟨S_, .i32⟩
  | 84 => ⟨S146432x1, .i32⟩
  | 85 => ⟨S146432x1, .i1⟩
  | 86 => ⟨S146432x1, .i1⟩
  | 87 => ⟨S146432x1024, .i1⟩
  | 88 => ⟨S146432x1024, .f32⟩
  | _ => ⟨S146432x1024, .f32⟩

abbrev hbmTy (i : Nat) : BufTy := match i / 128 with
  | 0 => hbmTy0_0 i
  | 1 => hbmTy0_1 i
  | _ => ⟨S146432x1024, .f32⟩

abbrev bufTy : (tb : Table) → Fin (tcTables nBuf tb) → BufTy
  | .hbm, ⟨i, _⟩ => hbmTy i
  | _, _ => ⟨S146432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call3_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call4_v0 : Ref sig .tc := ⟨.hbm, 70, rfl⟩
abbrev main_call4_v1 : Ref sig .tc := ⟨.hbm, 71, rfl⟩
abbrev main_call4_cst : Ref sig .tc := ⟨.hbm, 72, rfl⟩
abbrev main_call4_v2 : Ref sig .tc := ⟨.hbm, 73, rfl⟩
abbrev main_call4_v3 : Ref sig .tc := ⟨.hbm, 74, rfl⟩
abbrev main_call4_cst_0 : Ref sig .tc := ⟨.hbm, 75, rfl⟩
abbrev main_call4_v4 : Ref sig .tc := ⟨.hbm, 76, rfl⟩
abbrev main_call4_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_2 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call5_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call6_v0 : Ref sig .tc := ⟨.hbm, 95, rfl⟩
abbrev main_call6_v1 : Ref sig .tc := ⟨.hbm, 96, rfl⟩
abbrev main_call6_cst : Ref sig .tc := ⟨.hbm, 97, rfl⟩
abbrev main_call6_v2 : Ref sig .tc := ⟨.hbm, 98, rfl⟩
abbrev main_call6_v3 : Ref sig .tc := ⟨.hbm, 99, rfl⟩
abbrev main_call6_cst_0 : Ref sig .tc := ⟨.hbm, 100, rfl⟩
abbrev main_call6_v4 : Ref sig .tc := ⟨.hbm, 101, rfl⟩
abbrev main_call6_v5 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_3 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_call7_v0 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call8_v0 : Ref sig .tc := ⟨.hbm, 120, rfl⟩
abbrev main_call8_v1 : Ref sig .tc := ⟨.hbm, 121, rfl⟩
abbrev main_call8_cst : Ref sig .tc := ⟨.hbm, 122, rfl⟩
abbrev main_call8_v2 : Ref sig .tc := ⟨.hbm, 123, rfl⟩
abbrev main_call8_v3 : Ref sig .tc := ⟨.hbm, 124, rfl⟩
abbrev main_call8_cst_0 : Ref sig .tc := ⟨.hbm, 125, rfl⟩
abbrev main_call8_v4 : Ref sig .tc := ⟨.hbm, 126, rfl⟩
abbrev main_call8_v5 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_4 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call9_v0 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_call10_v0 : Ref sig .tc := ⟨.hbm, 145, rfl⟩
abbrev main_call10_v1 : Ref sig .tc := ⟨.hbm, 146, rfl⟩
abbrev main_call10_cst : Ref sig .tc := ⟨.hbm, 147, rfl⟩
abbrev main_call10_v2 : Ref sig .tc := ⟨.hbm, 148, rfl⟩
abbrev main_call10_v3 : Ref sig .tc := ⟨.hbm, 149, rfl⟩
abbrev main_call10_cst_0 : Ref sig .tc := ⟨.hbm, 150, rfl⟩
abbrev main_call10_v4 : Ref sig .tc := ⟨.hbm, 151, rfl⟩
abbrev main_call10_v5 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_c_5 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_call11_v0 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_call12_v0 : Ref sig .tc := ⟨.hbm, 170, rfl⟩
abbrev main_call12_v1 : Ref sig .tc := ⟨.hbm, 171, rfl⟩
abbrev main_call12_cst : Ref sig .tc := ⟨.hbm, 172, rfl⟩
abbrev main_call12_v2 : Ref sig .tc := ⟨.hbm, 173, rfl⟩
abbrev main_call12_v3 : Ref sig .tc := ⟨.hbm, 174, rfl⟩
abbrev main_call12_cst_0 : Ref sig .tc := ⟨.hbm, 175, rfl⟩
abbrev main_call12_v4 : Ref sig .tc := ⟨.hbm, 176, rfl⟩
abbrev main_call12_v5 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_c_6 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_call13_v0 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_call14_v0 : Ref sig .tc := ⟨.hbm, 195, rfl⟩
abbrev main_call14_v1 : Ref sig .tc := ⟨.hbm, 196, rfl⟩
abbrev main_call14_cst : Ref sig .tc := ⟨.hbm, 197, rfl⟩
abbrev main_call14_v2 : Ref sig .tc := ⟨.hbm, 198, rfl⟩
abbrev main_call14_v3 : Ref sig .tc := ⟨.hbm, 199, rfl⟩
abbrev main_call14_cst_0 : Ref sig .tc := ⟨.hbm, 200, rfl⟩
abbrev main_call14_v4 : Ref sig .tc := ⟨.hbm, 201, rfl⟩
abbrev main_call14_v5 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_c_7 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_call15_v0 : Ref sig .tc := ⟨.hbm, 215, rfl⟩
abbrev main_v128 : Ref sig .tc := ⟨.hbm, 216, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024 : Shape := ⟨1, ![1024]⟩
abbrev S16x1x1024 : Shape := ⟨3, ![16, 1, 1024]⟩
abbrev S1024x1536 : Shape := ⟨2, ![1024, 1536]⟩
abbrev S1024x1024 : Shape := ⟨2, ![1024, 1024]⟩
abbrev S1024x2560 : Shape := ⟨2, ![1024, 2560]⟩
abbrev S1x1024 : Shape := ⟨2, ![1, 1024]⟩
abbrev S16x4096x1536 : Shape := ⟨3, ![16, 4096, 1536]⟩
abbrev S16x4096x512 : Shape := ⟨3, ![16, 4096, 512]⟩
abbrev S1x512x1024 : Shape := ⟨3, ![1, 512, 1024]⟩
abbrev S1x1x1024 : Shape := ⟨3, ![1, 1, 1024]⟩
abbrev S1x512x1536 : Shape := ⟨3, ![1, 512, 1536]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩
abbrev S512x1536 : Shape := ⟨2, ![512, 1536]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x1536, .f32⟩
  | .hbm, ⟨5, _⟩ => ⟨S1024x1024, .f32⟩
  | .hbm, ⟨6, _⟩ => ⟨S1024x2560, .f32⟩
  | .hbm, ⟨7, _⟩ => ⟨S1024x2560, .bf16⟩
  | .hbm, ⟨8, _⟩ => ⟨S1x1024, .f32⟩
  | .hbm, ⟨9, _⟩ => ⟨S16x4096x1536, .bf16⟩
  | .hbm, ⟨10, _⟩ => ⟨S16x4096x512, .f32⟩
  | .hbm, ⟨11, _⟩ => ⟨S16x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1x512x1536, .bf16⟩
  | .local _ .vmem, ⟨9, _⟩ => ⟨S1x512x1536, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x4096x1024 : Shape := ⟨3, ![16, 4096, 1024]⟩
abbrev S1024 : Shape := ⟨1, ![1024]⟩
abbrev S16x1x1024 : Shape := ⟨3, ![16, 1, 1024]⟩
abbrev S1024x1536 : Shape := ⟨2, ![1024, 1536]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x512 : Shape := ⟨2, ![1024, 512]⟩
abbrev S16x4096x1536 : Shape := ⟨3, ![16, 4096, 1536]⟩
abbrev S16x4096x512 : Shape := ⟨3, ![16, 4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x1536, .f32⟩
  | .hbm, ⟨5, _⟩ => ⟨S1024x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S1024x512, .f32⟩
  | .hbm, ⟨30, _⟩ => ⟨S1024x512, .f32⟩
  | .hbm, ⟨31, _⟩ => ⟨S16x4096x1536, .f32⟩
  | .hbm, ⟨32, _⟩ => ⟨S16x4096x1536, .bf16⟩
  | .hbm, ⟨33, _⟩ => ⟨S16x4096x512, .f32⟩
  | .hbm, ⟨34, _⟩ => ⟨S16x4096x512, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024x1024 : Shape := ⟨2, ![1024, 1024]⟩
abbrev S16x1x1024 : Shape := ⟨3, ![16, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1024x1024, .f32⟩
  | .hbm, ⟨3, _⟩ => ⟨S16x1x1024, .f32⟩
  | .hbm, ⟨4, _⟩ => ⟨S1024x1024, .bf16⟩
  | .hbm, ⟨5, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x4096x1024 : Shape := ⟨3, ![16, 4096, 1024]⟩
abbrev S1024x1024 : Shape := ⟨2, ![1024, 1024]⟩
abbrev S16x1x1024 : Shape := ⟨3, ![16, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1024x1024, .f32⟩
  | .hbm, ⟨3, _⟩ => ⟨S16x1x1024, .f32⟩
  | .hbm, ⟨4, _⟩ => ⟨S16x4096x1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16x4096x1024 : Shape := ⟨3, ![16, 4096, 1024]⟩
abbrev S1024 : Shape := ⟨1, ![1024]⟩
abbrev S16x1x1024 : Shape := ⟨3, ![16, 1, 1024]⟩
abbrev S1024x1536 : Shape := ⟨2, ![1024, 1536]⟩
abbrev S64 : Shape := ⟨1, ![64]⟩
abbrev S4096x16 : Shape := ⟨2, ![4096, 16]⟩
abbrev S16 : Shape := ⟨1, ![16]⟩
abbrev S16x1 : Shape := ⟨2, ![16, 1]⟩
abbrev S16x64 : Shape := ⟨2, ![16, 64]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x64 : Shape := ⟨2, ![1, 64]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S_ : Shape := ⟨0, ![]⟩
abbrev S4096x128 : Shape := ⟨2, ![4096, 128]⟩
abbrev S16x4096x256 : Shape := ⟨3, ![16, 4096, 256]⟩
abbrev S1x512x1024 : Shape := ⟨3, ![1, 512, 1024]⟩
abbrev S1x1x1024 : Shape := ⟨3, ![1, 1, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S256x128 : Shape := ⟨2, ![256, 128]⟩
abbrev S128x256 : Shape := ⟨2, ![128, 256]⟩

abbrev nBuf : Space → Nat
  | .hbm => 44
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1x1024, .f32⟩
  | .hbm, ⟨3, _⟩ => ⟨S16x1x1024, .f32⟩
  | .hbm, ⟨4, _⟩ => ⟨S1024x1536, .f32⟩
  | .hbm, ⟨5, _⟩ => ⟨S64, .f32⟩
  | .hbm, ⟨6, _⟩ => ⟨S64, .f32⟩
  | .hbm, ⟨7, _⟩ => ⟨S4096x16, .f32⟩
  | .hbm, ⟨8, _⟩ => ⟨S4096x16, .f32⟩
  | .hbm, ⟨9, _⟩ => ⟨S1024x1536, .bf16⟩
  | .hbm, ⟨10, _⟩ => ⟨S16, .i32⟩
  | .hbm, ⟨11, _⟩ => ⟨S16x1, .i32⟩
  | .hbm, ⟨12, _⟩ => ⟨S16x64, .i32⟩
  | .hbm, ⟨13, _⟩ => ⟨S1024x1, .i32⟩
  | .hbm, ⟨14, _⟩ => ⟨S128, .i32⟩
  | .hbm, ⟨15, _⟩ => ⟨S1x128, .i32⟩
  | .hbm, ⟨16, _⟩ => ⟨S1024x128, .i32⟩
  | .hbm, ⟨17, _⟩ => ⟨S1024x128, .i32⟩
  | .hbm, ⟨18, _⟩ => ⟨S1024x128, .i1⟩
  | .hbm, ⟨19, _⟩ => ⟨S1024x128, .bf16⟩
  | .hbm, ⟨20, _⟩ => ⟨S128x1024, .bf16⟩
  | .hbm, ⟨21, _⟩ => ⟨S1x64, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S1x64, .f32⟩
  | .hbm, ⟨26, _⟩ => ⟨S4x64, .f32⟩
  | .hbm, ⟨27, _⟩ => ⟨S256, .f32⟩
  | .hbm, ⟨28, _⟩ => ⟨S1x256, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S_, .f32⟩
  | .hbm, ⟨34, _⟩ => ⟨S4096x16, .f32⟩
  | .hbm, ⟨35, _⟩ => ⟨S4096x128, .f32⟩
  | .hbm, ⟨36, _⟩ => ⟨S4096x16, .f32⟩
  | .hbm, ⟨37, _⟩ => ⟨S4096x16, .f32⟩
  | .hbm, ⟨38, _⟩ => ⟨S4096x128, .f32⟩
  | .hbm, ⟨39, _⟩ => ⟨S4096x128, .f32⟩
  | .hbm, ⟨40, _⟩ => ⟨S1x1024, .f32⟩
  | .hbm, ⟨41, _⟩ => ⟨S16x4096x1024, .bf16⟩
  | .hbm, ⟨42, _⟩ => ⟨S16x4096x256, .bf16⟩
  | .hbm, ⟨43, _⟩ => ⟨S16x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S1024x128, .bf16⟩
  | .local _ .vmem, ⟨9, _⟩ => ⟨S128x1024, .bf16⟩
  | .local _ .vmem, ⟨10, _⟩ => ⟨S1x1024, .f32⟩
  | .local _ .vmem, ⟨11, _⟩ => ⟨S1x256, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference6Ideal.lean ====
abbrev S16x4096x1024 : Shape := ⟨3, ![16, 4096, 1024]⟩
abbrev S1024 : Shape := ⟨1, ![1024]⟩
abbrev S16x1x1024 : Shape := ⟨3, ![16, 1, 1024]⟩
abbrev S1024x1536 : Shape := ⟨2, ![1024, 1536]⟩
abbrev S64 : Shape := ⟨1, ![64]⟩
abbrev S4096x16 : Shape := ⟨2, ![4096, 16]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1536 : Shape := ⟨3, ![16, 4096, 1536]⟩
abbrev S16x4096x16x64 : Shape := ⟨4, ![16, 4096, 16, 64]⟩
abbrev S16x4096x16 : Shape := ⟨3, ![16, 4096, 16]⟩
abbrev S16x4096x16x1 : Shape := ⟨4, ![16, 4096, 16, 1]⟩
abbrev S1x1x1x64 : Shape := ⟨4, ![1, 1, 1, 64]⟩
abbrev S16x4096x16x16 : Shape := ⟨4, ![16, 4096, 16, 16]⟩
abbrev S1x4096x1x16 : Shape := ⟨4, ![1, 4096, 1, 16]⟩
abbrev S16x4096x256 : Shape := ⟨3, ![16, 4096, 256]⟩
abbrev S16x4096x4x64 : Shape := ⟨4, ![16, 4096, 4, 64]⟩
abbrev S16x4096x4 : Shape := ⟨3, ![16, 4096, 4]⟩
abbrev S16x4096x4x1 : Shape := ⟨4, ![16, 4096, 4, 1]⟩
abbrev S16x4096x4x16 : Shape := ⟨4, ![16, 4096, 4, 16]⟩

abbrev nBuf : Space → Nat
  | .hbm => 144
  | .vmem => 0
  | .smem => 0
  | _ => 0

abbrev hbmTy0_0 (i : Nat) : BufTy := match i % 128 with
  | 0 => ⟨S16x4096x1024, .f32⟩
  | 1 => ⟨S1024, .f32⟩
  | 2 => ⟨S16x1x1024, .f32⟩
  | 3 => ⟨S16x1x1024, .f32⟩
  | 4 => ⟨S1024x1536, .f32⟩
  | 5 => ⟨S64, .f32⟩
  | 6 => ⟨S64, .f32⟩
  | 7 => ⟨S4096x16, .f32⟩
  | 8 => ⟨S4096x16, .f32⟩
  | 9 => ⟨S16x4096x1024, .f32⟩
  | 10 => ⟨S_, .f32⟩
  | 11 => ⟨S16x4096, .f32⟩
  | 12 => ⟨S16x4096x1, .f32⟩
  | 13 => ⟨S_, .f32⟩
  | 14 => ⟨S16x4096x1, .f32⟩
  | 15 => ⟨S16x4096x1, .f32⟩
  | 16 => ⟨S_, .f32⟩
  | 17 => ⟨S16x4096x1, .f32⟩
  | 18 => ⟨S16x4096x1, .f32⟩
  | 19 => ⟨S16x4096x1, .f32⟩
  | 20 => ⟨S16x4096x1024, .f32⟩
  | 21 => ⟨S16x4096x1024, .f32⟩
  | 22 => ⟨S1x1x1024, .f32⟩
  | 23 => ⟨S16x4096x1024, .f32⟩
  | 24 => ⟨S16x4096x1024, .f32⟩
  | 25 => ⟨S_, .f32⟩
  | 26 => ⟨S16x1x1024, .f32⟩
  | 27 => ⟨S16x1x1024, .f32⟩
  | 28 => ⟨S16x4096x1024, .f32⟩
  | 29 => ⟨S16x4096x1024, .f32⟩
  | 30 => ⟨S16x4096x1024, .f32⟩
  | 31 => ⟨S16x4096x1024, .f32⟩
  | 32 => ⟨S16x4096x1536, .f32⟩
  | 33 => ⟨S16x4096x1024, .f32⟩
  | 34 => ⟨S16x4096x16x64, .f32⟩
  | 35 => ⟨S16x4096x16x64, .f32⟩
  | 36 => ⟨S_, .f32⟩
  | 37 => ⟨S16x4096x16, .f32⟩
  | 38 => ⟨S16x4096x16x1, .f32⟩
  | 39 => ⟨S_, .f32⟩
  | 40 => ⟨S16x4096x16x1, .f32⟩
  | 41 => ⟨S16x4096x16x1, .f32⟩
  | 42 => ⟨S_, .f32⟩
  | 43 => ⟨S16x4096x16x1, .f32⟩
  | 44 => ⟨S16x4096x16x1, .f32⟩
  | 45 => ⟨S16x4096x16x1, .f32⟩
  | 46 => ⟨S16x4096x16x64, .f32⟩
  | 47 => ⟨S16x4096x16x64, .f32⟩
  | 48 => ⟨S1x1x1x64, .f32⟩
  | 49 => ⟨S16x4096x16x64, .f32⟩
  | 50 => ⟨S16x4096x16x64, .f32⟩
  | 51 => ⟨S16x4096x16x16, .f32⟩
  | 52 => ⟨S16x4096x16x16, .f32⟩
  | 53 => ⟨S16x4096x16x16, .f32⟩
  | 54 => ⟨S16x4096x16x16, .f32⟩
  | 55 => ⟨S4096x16, .f32⟩
  | 56 => ⟨S1x4096x1x16, .f32⟩
  | 57 => ⟨S4096x16, .f32⟩
  | 58 => ⟨S1x4096x1x16, .f32⟩
  | 59 => ⟨S16x4096x16x16, .f32⟩
  | 60 => ⟨S16x4096x16x16, .f32⟩
  | 61 => ⟨S16x4096x16x16, .f32⟩
  | 62 => ⟨S16x4096x16x16, .f32⟩
  | 63 => ⟨S16x4096x16x16, .f32⟩
  | 64 => ⟨S16x4096x16x16, .f32⟩
  | 65 => ⟨S16x4096x16x16, .f32⟩
  | 66 => ⟨S16x4096x16x16, .f32⟩
  | 67 => ⟨S16x4096x16x16, .f32⟩
  | 68 => ⟨S16x4096x16x16, .f32⟩
  | 69 => ⟨S4096x16, .f32⟩
  | 70 => ⟨S1x4096x1x16, .f32⟩
  | 71 => ⟨S4096x16, .f32⟩
  | 72 => ⟨S1x4096x1x16, .f32⟩
  | 73 => ⟨S16x4096x16x16, .f32⟩
  | 74 => ⟨S16x4096x16x16, .f32⟩
  | 75 => ⟨S16x4096x16x16, .f32⟩
  | 76 => ⟨S16x4096x16x16, .f32⟩
  | 77 => ⟨S16x4096x16x16, .f32⟩
  | 78 => ⟨S16x4096x16x16, .f32⟩
  | 79 => ⟨S16x4096x16x16, .f32⟩
  | 80 => ⟨S16x4096x16x16, .f32⟩
  | 81 => ⟨S16x4096x16x16, .f32⟩
  | 82 => ⟨S16x4096x16x16, .f32⟩
  | 83 => ⟨S16x4096x16x64, .f32⟩
  | 84 => ⟨S_, .f32⟩
  | 85 => ⟨S16x4096x16x64, .f32⟩
  | 86 => ⟨S16x4096x16x64, .f32⟩
  | 87 => ⟨S16x4096x256, .f32⟩
  | 88 => ⟨S16x4096x4x64, .f32⟩
  | 89 => ⟨S16x4096x4x64, .f32⟩
  | 90 => ⟨S_, .f32⟩
  | 91 => ⟨S16x4096x4, .f32⟩
  | 92 => ⟨S16x4096x4x1, .f32⟩
  | 93 => ⟨S_, .f32⟩
  | 94 => ⟨S16x4096x4x1, .f32⟩
  | 95 => ⟨S16x4096x4x1, .f32⟩
  | 96 => ⟨S_, .f32⟩
  | 97 => ⟨S16x4096x4x1, .f32⟩
  | 98 => ⟨S16x4096x4x1, .f32⟩
  | 99 => ⟨S16x4096x4x1, .f32⟩
  | 100 => ⟨S16x4096x4x64, .f32⟩
  | 101 => ⟨S16x4096x4x64, .f32⟩
  | 102 => ⟨S1x1x1x64, .f32⟩
  | 103 => ⟨S16x4096x4x64, .f32⟩
  | 104 => ⟨S16x4096x4x64, .f32⟩
  | 105 => ⟨S16x4096x4x16, .f32⟩
  | 106 => ⟨S16x4096x4x16, .f32⟩
  | 107 => ⟨S16x4096x4x16, .f32⟩
  | 108 => ⟨S16x4096x4x16, .f32⟩
  | 109 => ⟨S4096x16, .f32⟩
  | 110 => ⟨S1x4096x1x16, .f32⟩
  | 111 => ⟨S4096x16, .f32⟩
  | 112 => ⟨S1x4096x1x16, .f32⟩
  | 113 => ⟨S16x4096x4x16, .f32⟩
  | 114 => ⟨S16x4096x4x16, .f32⟩
  | 115 => ⟨S16x4096x4x16, .f32⟩
  | 116 => ⟨S16x4096x4x16, .f32⟩
  | 117 => ⟨S16x4096x4x16, .f32⟩
  | 118 => ⟨S16x4096x4x16, .f32⟩
  | 119 => ⟨S16x4096x4x16, .f32⟩
  | 120 => ⟨S16x4096x4x16, .f32⟩
  | 121 => ⟨S16x4096x4x16, .f32⟩
  | 122 => ⟨S16x4096x4x16, .f32⟩
  | 123 => ⟨S4096x16, .f32⟩
  | 124 => ⟨S1x4096x1x16, .f32⟩
  | 125 => ⟨S4096x16, .f32⟩
  | 126 => ⟨S1x4096x1x16, .f32⟩
  | 127 => ⟨S16x4096x4x16, .f32⟩
  | _ => ⟨S16x4096x1024, .f32⟩

abbrev hbmTy0_1 (i : Nat) : BufTy := match i % 128 with
  | 0 => ⟨S16x4096x4x16, .f32⟩
  | 1 => ⟨S16x4096x4x16, .f32⟩
  | 2 => ⟨S16x4096x4x16, .f32⟩
  | 3 => ⟨S16x4096x4x16, .f32⟩
  | 4 => ⟨S16x4096x4x16, .f32⟩
  | 5 => ⟨S16x4096x4x16, .f32⟩
  | 6 => ⟨S16x4096x4x16, .f32⟩
  | 7 => ⟨S16x4096x4x16, .f32⟩
  | 8 => ⟨S16x4096x4x16, .f32⟩
  | 9 => ⟨S16x4096x4x64, .f32⟩
  | 10 => ⟨S16x4096x1024, .f32⟩
  | 11 => ⟨S16x4096x1024, .bf16⟩
  | 12 => ⟨S16x4096x256, .f32⟩
  | 13 => ⟨S16x4096x256, .bf16⟩
  | 14 => ⟨S16x4096x256, .f32⟩
  | 15 => ⟨S16x4096x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩

abbrev nD : Nat := 1
abbrev τ : Topo := Topo.v7x

variable {F : FTy → Type} [FloatOps F]
-- ==== Proof.AttnRow.lean ====
/- One query's softmax over its keys and a sink, as plain sums over the extended reals. -/
module

public import Idealize.ShloMosaic.PureOps.Ideal
public import Mathlib.Algebra.BigOperators.Fin

@[expose] public section

noncomputable section

namespace Cert.Attn

open Idealize.ShloMosaic
open scoped BigOperators

/-- The largest of the scores and the sink. -/
def top {ι : Type} [Fintype ι] (s : ι → EReal) (S : EReal) : EReal := max (Finset.univ.sup s) S

/-- The weighted sum of the values, each weight the exponential of its score less the largest, over the sum of the weights
    and the sink's weight. -/
def attend {ι : Type} [Fintype ι] (s v : ι → EReal) (S : EReal) : EReal :=
  Ideal.div (∑ i, Ideal.exp (s i - top s S) * v i) (∑ i, Ideal.exp (s i - top s S) + Ideal.exp (S - top s S))

/-- An exponential is at least zero. -/
theorem exp_nonneg (t : EReal) : (0 : EReal) ≤ Ideal.exp t := by
  induction t with
  | bot => simp
  | top => simp
  | coe r => simpa using (Real.exp_pos r).le

/-- A score of minus infinity has weight zero, unless the largest score is minus infinity itself, and there too. -/
theorem exp_bot_sub (M : EReal) : Ideal.exp (⊥ - M) = 0 := by
  rw [EReal.bot_sub, Ideal.exp_bot]

/-- A sum whose terms outside `P` vanish, carried along a map that is one-to-one on `P` to a sum whose terms outside the
    map's range vanish. -/
theorem sum_carry {ι κ : Type} [Fintype ι] [Fintype κ] (P : ι → Prop) (g : ι → κ) (f : ι → EReal) (f' : κ → EReal)
    (inj : ∀ a b, P a → P b → g a = g b → a = b) (eq : ∀ a, P a → f' (g a) = f a) (out : ∀ a, ¬ P a → f a = 0)
    (out' : ∀ k, (∃ a, P a ∧ g a = k) ∨ f' k = 0) : ∑ a, f a = ∑ k, f' k := by
  classical
  rw [← Finset.sum_filter_of_ne (p := P) (fun a _ h => by_contra fun hp => h (out a hp))]
  refine Finset.sum_of_injOn g (fun a ha b hb h => inj a b ?_ ?_ h) (fun _ _ => by simp) (fun k _ hk => ?_) (fun a ha => ?_)
  · simpa using ha
  · simpa using hb
  · refine (out' k).resolve_left fun ⟨a, pa, e⟩ => hk ⟨a, ?_, e⟩
    simpa using pa
  · exact (eq a (by simpa using ha)).symm

/-- The same for the largest score, minus infinity in the place of zero. -/
theorem sup_carry {ι κ : Type} [Fintype ι] [Fintype κ] (P : ι → Prop) (g : ι → κ) (f : ι → EReal) (f' : κ → EReal)
    (eq : ∀ a, P a → f' (g a) = f a) (out : ∀ a, ¬ P a → f a = ⊥)
    (out' : ∀ k, (∃ a, P a ∧ g a = k) ∨ f' k = ⊥) : Finset.univ.sup f = Finset.univ.sup f' := by
  apply le_antisymm
  · refine Finset.sup_le fun a _ => ?_
    by_cases h : P a
    · exact (eq a h) ▸ Finset.le_sup (f := f') (Finset.mem_univ (g a))
    · rw [out a h]; exact bot_le
  · refine Finset.sup_le fun k _ => ?_
    rcases out' k with ⟨a, pa, rfl⟩ | h
    · rw [eq a pa]; exact Finset.le_sup (f := f) (Finset.mem_univ a)
    · rw [h]; exact bot_le

/-- Attention over a band of keys, those outside `P` masked, is attention over all keys, those outside the band masked. -/
theorem attend_carry {ι κ : Type} [Fintype ι] [Fintype κ] (P : ι → Prop) (g : ι → κ) (s v : ι → EReal) (s' v' : κ → EReal)
    (S : EReal) (inj : ∀ a b, P a → P b → g a = g b → a = b) (hs : ∀ a, P a → s' (g a) = s a)
    (hv : ∀ a, P a → v' (g a) = v a) (out : ∀ a, ¬ P a → s a = ⊥) (out' : ∀ k, (∃ a, P a ∧ g a = k) ∨ s' k = ⊥) :
    attend s v S = attend s' v' S := by
  have e : top s S = top s' S := by rw [top, top, sup_carry P g s s' hs out out']
  rw [attend, attend, e]
  congr 1
  · refine sum_carry P g _ _ inj (fun a h => by rw [hs a h, hv a h])
      (fun a h => by rw [out a h, exp_bot_sub, zero_mul]) (fun k => (out' k).imp_right fun h => by rw [h, exp_bot_sub, zero_mul])
  · congr 1
    exact sum_carry P g _ _ inj (fun a h => by rw [hs a h]) (fun a h => by rw [out a h, exp_bot_sub])
      (fun k => (out' k).imp_right fun h => by rw [h, exp_bot_sub])

/-- A sum over a row that is two runs and one last entry. -/
theorem sum_split (a b : ℕ) (Φ : EReal → EReal) (F : Fin a → EReal) (G : Fin b → EReal) (H : EReal) :
    (∑ x : Fin (a + b + 1), Φ (if h : (x : ℕ) < a then F ⟨x, h⟩ else if h' : (x : ℕ) - a < b then G ⟨x - a, h'⟩ else H))
      = ∑ x, Φ (F x) + ∑ x, Φ (G x) + Φ H := by
  rw [Fin.sum_univ_castSucc, Fin.sum_univ_add]
  congr 1
  · congr 1
    · refine Finset.sum_congr rfl fun x _ => ?_
      rw [dif_pos (by simp)]
      simp
    · refine Finset.sum_congr rfl fun x _ => ?_
      rw [dif_neg (by simp), dif_pos (by simp)]
      simp
  · rw [dif_neg (by simp), dif_neg (by simp)]

/-- The largest entry of such a row. -/
theorem sup_split (a b : ℕ) (F : Fin a → EReal) (G : Fin b → EReal) (H : EReal) :
    (Finset.univ.sup fun x : Fin (a + b + 1) =>
      if h : (x : ℕ) < a then F ⟨x, h⟩ else if h' : (x : ℕ) - a < b then G ⟨x - a, h'⟩ else H)
      = max (Finset.univ.sup (Sum.elim F G)) H := by
  apply le_antisymm
  · refine Finset.sup_le fun x _ => ?_
    split
    · exact le_max_of_le_left (Finset.le_sup (f := Sum.elim F G) (Finset.mem_univ (Sum.inl _)))
    · split
      · exact le_max_of_le_left (Finset.le_sup (f := Sum.elim F G) (Finset.mem_univ (Sum.inr _)))
      · exact le_max_right _ _
  · refine max_le (Finset.sup_le fun k _ => ?_) ?_
    · rcases k with k | k
      · refine le_trans (le_of_eq ?_) (Finset.le_sup (Finset.mem_univ (⟨k, by omega⟩ : Fin (a + b + 1))))
        simp
      · refine le_trans (le_of_eq ?_) (Finset.le_sup (Finset.mem_univ (⟨a + k, by omega⟩ : Fin (a + b + 1))))
        simp
    · refine le_trans (le_of_eq ?_) (Finset.le_sup (Finset.mem_univ (Fin.last (a + b))))
      simp

/-- A largest score that is a real number bounds every weight: none is infinite. -/
theorem exp_ne_top {ι : Type} [Fintype ι] (s : ι → EReal) (S : EReal) (h : top s S ≠ ⊤) (h' : top s S ≠ ⊥) (i : ι) :
    Ideal.exp (s i - top s S) ≠ ⊤ := by
  have hi : s i ≤ top s S := le_max_of_le_left (Finset.le_sup (Finset.mem_univ i))
  generalize top s S = M at *
  generalize s i = t at *
  induction M with
  | bot => exact absurd rfl h'
  | top => exact absurd rfl h
  | coe r =>
    induction t with
    | bot => rw [exp_bot_sub]; exact EReal.zero_ne_top
    | top => exact absurd hi (by simp)
    | coe u => rw [← EReal.coe_sub]; exact EReal.coe_ne_top _

/-- The sink's weight is finite and the quotient's divisor is positive when the largest is a real number: some weight is one.
    The weights may then be normalised one by one. -/
theorem attend_normal (a b : ℕ) (F : Fin a → EReal) (G : Fin b → EReal) (v : Fin a → EReal) (w : Fin b → EReal) (S M D : EReal)
    (hM : M = top (Sum.elim F G) S) (h : M ≠ ⊤) (h' : S ≠ ⊥)
    (hD : D = ∑ x, Ideal.exp (F x - M) + ∑ x, Ideal.exp (G x - M) + Ideal.exp (S - M)) :
    ∑ x, v x * Ideal.div (Ideal.exp (F x - M)) D + ∑ x, w x * Ideal.div (Ideal.exp (G x - M)) D
      = attend (Sum.elim F G) (Sum.elim v w) S := by
  have hS : S ≤ M := hM ▸ le_max_right _ _
  have hb : M ≠ ⊥ := fun e => h' (le_bot_iff.1 (e ▸ hS))
  have hF : ∀ x, Ideal.exp (F x - M) ≠ ⊤ := fun x => by
    have := exp_ne_top (Sum.elim F G) S (hM ▸ h) (hM ▸ hb) (Sum.inl x)
    rwa [← hM] at this
  have hG : ∀ x, Ideal.exp (G x - M) ≠ ⊤ := fun x => by
    have := exp_ne_top (Sum.elim F G) S (hM ▸ h) (hM ▸ hb) (Sum.inr x)
    rwa [← hM] at this
  -- the sink's weight is positive
  have hp : (0 : EReal) < Ideal.exp (S - M) := by
    induction M with
    | bot => exact absurd rfl hb
    | top => exact absurd rfl h
    | coe r =>
      induction S with
      | bot => exact absurd rfl h'
      | top => exact absurd hS (by simp)
      | coe u =>
        rw [← EReal.coe_sub]
        exact EReal.coe_pos.2 (Real.exp_pos _)
  have h0 : (0 : EReal) < D := by
    rw [hD]
    exact lt_of_lt_of_le hp (le_add_of_nonneg_left (add_nonneg (Finset.sum_nonneg fun _ _ => exp_nonneg _)
      (Finset.sum_nonneg fun _ _ => exp_nonneg _)))
  have hinv : (0 : EReal) ≤ D⁻¹ := EReal.inv_nonneg_of_nonneg h0.le
  have htop : D⁻¹ ≠ ⊤ := by
    induction D with
    | bot => simp
    | top => simp
    | coe r => rw [← EReal.coe_inv]; exact EReal.coe_ne_top _
  have hd : ∀ t, Ideal.div t D = t * D⁻¹ := fun t => by rw [Ideal.div, if_neg h0.ne']
  have eq : ∀ {n : ℕ} (f : Fin n → EReal) (u : Fin n → EReal), ∑ x, u x * Ideal.div (f x) D = (∑ x, f x * u x) * D⁻¹ := by
    intro n f u
    have key : ∀ (s : Finset (Fin n)), (∑ x ∈ s, f x * u x) * D⁻¹ = ∑ x ∈ s, f x * u x * D⁻¹ := by
      intro s
      induction s using Finset.cons_induction with
      | empty => simp
      | cons x s hx ih => rw [Finset.sum_cons, Finset.sum_cons, EReal.right_distrib_of_nonneg_of_ne_top hinv htop, ih]
    rw [key]
    refine Finset.sum_congr rfl fun x _ => ?_
    rw [hd, mul_comm, mul_right_comm]
  rw [eq, eq, attend, ← hM, ← EReal.right_distrib_of_nonneg_of_ne_top hinv htop, Fintype.sum_sum_type, Fintype.sum_sum_type]
  simp only [Sum.elim_inl, Sum.elim_inr]
  rw [← hD, hd]

end Cert.Attn

end
-- ==== Proof.AttnMask.lean ====
/- The attention's mask words: which of a tile's 640 key columns a query row may see. -/
module

public import proofs.«01_k».proof.Proof.Gen.KernelIdeal
public import Idealize.ShloMosaic.Lib.WordCmp

@[expose] public section

set_option maxRecDepth 65536

noncomputable section

namespace Cert.KernelIdeal.Attn

open Idealize.ShloMosaic Idealize.ShloMosaic.TcCoe Idealize.SL.Sem

/-- The place of a stacked row within its tile of 128 rows, as the kernel's words spell the remainder. -/
def remWord (r : ℕ) : BitVec 32 :=
  Scalar.select
    (IntOp.andi
      (IntOp.xori
        (IntOp.cmpi .slt
          (IntOp.remsi ArithUnit.vector (BitVec.ofNat 32 r) (Scalar.select (Scalar.cmpi .eq 128#32 0#32) 1#32 128#32))
          0#32)
        (Scalar.cmpi .slt (Scalar.select (Scalar.cmpi .eq 128#32 0#32) 1#32 128#32) 0#32))
      (IntOp.cmpi .ne
        (IntOp.remsi ArithUnit.vector (BitVec.ofNat 32 r) (Scalar.select (Scalar.cmpi .eq 128#32 0#32) 1#32 128#32))
        0#32))
    (IntOp.addi
      (IntOp.remsi ArithUnit.vector (BitVec.ofNat 32 r) (Scalar.select (Scalar.cmpi .eq 128#32 0#32) 1#32 128#32))
      (Scalar.select (Scalar.cmpi .eq 128#32 0#32) 1#32 128#32))
    (IntOp.remsi ArithUnit.vector (BitVec.ofNat 32 r) (Scalar.select (Scalar.cmpi .eq 128#32 0#32) 1#32 128#32))

/-- The sequence position of a tile's first query row, as a word. -/
def ownWord (tw : BitVec 32) (i1 : ℕ) : BitVec 32 :=
  Scalar.muli (Scalar.addi (Scalar.muli (4#32) (BitVec.ofNat 32 i1)) tw) 128#32

/-- The sequence position of a tile's first key column, as a word: 128 positions earlier. -/
def firstWord (tw : BitVec 32) (i1 : ℕ) : BitVec 32 :=
  Scalar.muli (Scalar.subi (Scalar.addi (Scalar.muli (4#32) (BitVec.ofNat 32 i1)) tw) 1#32) 128#32

/-- The mask word of row `r` and column `j`, from the words of the remainder and of the two positions. -/
def seenWord (rw own first jw : BitVec 32) : BitVec 1 :=
  IntOp.ori (IntOp.cmpi .sge jw 384#32)
    (IntOp.andi
      (IntOp.andi (IntOp.cmpi .sge (IntOp.addi first jw) 0#32) (IntOp.cmpi .slt (IntOp.addi first jw) 4096#32))
      (IntOp.cmpi .sle (IntOp.absi (IntOp.subi (IntOp.addi own rw) (IntOp.addi first jw))) 128#32))

/-- The mask word of tile `tw` in row block `i1`. -/
def maskWord (tw : BitVec 32) (i1 r j : ℕ) : BitVec 1 :=
  seenWord (remWord r) (ownWord tw i1) (firstWord tw i1) (BitVec.ofNat 32 j)

theorem remWord_eq : ∀ r : Fin 512, remWord r = BitVec.ofNat 32 (r % 128) := by decide +kernel

theorem ownWord_eq : ∀ (t : Fin 4) (i : Fin 8), ownWord (BitVec.ofNat 32 t) i = BitVec.ofNat 32 (512 * i + 128 * t) := by
  decide +kernel

theorem firstWord_eq : ∀ (t : Fin 4) (i : Fin 8),
    firstWord (BitVec.ofNat 32 t) i = BitVec.ofNat 32 (512 * i + 128 * t) - 128#32 := by
  decide +kernel

/-- The key position read as a signed word. -/
theorem key_toInt (n j : ℕ) (hn : n ≤ 4096) (hj : j < 640) :
    (IntOp.addi (BitVec.ofNat 32 n - 128#32) (BitVec.ofNat 32 j)).toInt = (n : ℤ) + j - 128 := by
  rw [IntOp.addi, BitVec.toInt_eq_toNat_cond]
  simp only [BitVec.toNat_add, BitVec.toNat_sub, BitVec.toNat_ofNat]
  split <;> omega

/-- The distance of query and key position read as a signed word: the row block's own position cancels. -/
theorem gap_toInt (n a j : ℕ) (hn : n ≤ 4096) (ha : a < 128) (hj : j < 640) :
    (IntOp.absi (IntOp.subi (IntOp.addi (BitVec.ofNat 32 n) (BitVec.ofNat 32 a))
      (IntOp.addi (BitVec.ofNat 32 n - 128#32) (BitVec.ofNat 32 j)))).toInt = |(a : ℤ) + 128 - j| := by
  have e : (IntOp.subi (IntOp.addi (BitVec.ofNat 32 n) (BitVec.ofNat 32 a))
      (IntOp.addi (BitVec.ofNat 32 n - 128#32) (BitVec.ofNat 32 j))).toInt = (a : ℤ) + 128 - j := by
    rw [IntOp.subi, IntOp.addi, IntOp.addi, BitVec.toInt_eq_toNat_cond]
    simp only [BitVec.toNat_add, BitVec.toNat_sub, BitVec.toNat_ofNat]
    split <;> omega
  generalize IntOp.subi (IntOp.addi (BitVec.ofNat 32 n) (BitVec.ofNat 32 a))
      (IntOp.addi (BitVec.ofNat 32 n - 128#32) (BitVec.ofNat 32 j)) = w at e
  rw [IntOp.absi, BitVec.msb_eq_toInt]
  by_cases h : w.toInt < 0
  · rw [if_pos (by simpa using h), ← e, abs_of_neg h]
    have lt := w.isLt
    have := w.toInt_eq_toNat_cond
    rw [BitVec.toInt_eq_toNat_cond (x := -w), BitVec.toNat_neg]
    split at this <;> split <;> omega
  · rw [if_neg (by simpa using h), ← e, abs_of_nonneg (by omega)]

/-- Which columns a row sees: every context column, and of the 384 band columns those in the sequence and at most 128
    positions from the row. -/
theorem maskWord_iff (t : Fin 4) (i : Fin 8) (r : Fin 512) (j : Fin 640) :
    maskWord (BitVec.ofNat 32 t) i r j = 1#1 ↔ 384 ≤ (j : ℕ) ∨
      (128 ≤ 512 * (i : ℕ) + 128 * t + j ∧ 512 * (i : ℕ) + 128 * t + j < 4224 ∧ (r : ℕ) % 128 ≤ j ∧ (j : ℕ) ≤ r % 128 + 256) := by
  have hi := i.isLt
  have ht := t.isLt
  have hj := j.isLt
  rw [maskWord, remWord_eq, ownWord_eq, firstWord_eq, seenWord]
  have k := key_toInt (512 * (i : ℕ) + 128 * t) j (by omega) hj
  have g := gap_toInt (512 * (i : ℕ) + 128 * t) (r % 128) j (by omega) (Nat.mod_lt _ (by norm_num)) hj
  have jj : (BitVec.ofNat 32 (j : ℕ)).toInt = (j : ℤ) := by
    rw [BitVec.toInt_eq_toNat_cond, BitVec.toNat_ofNat]; split <;> omega
  have c0 : (0#32).toInt = 0 := by decide
  have c1 : (384#32).toInt = 384 := by decide
  have c2 : (4096#32).toInt = 4096 := by decide
  have c3 : (128#32).toInt = 128 := by decide
  simp only [show ∀ x y : BitVec 32, IntOp.cmpi .sge x y = BitVec.ofBool (decide (y.toInt ≤ x.toInt)) from fun _ _ => rfl,
    show ∀ x y : BitVec 32, IntOp.cmpi .slt x y = BitVec.ofBool (decide (x.toInt < y.toInt)) from fun _ _ => rfl,
    show ∀ x y : BitVec 32, IntOp.cmpi .sle x y = BitVec.ofBool (decide (x.toInt ≤ y.toInt)) from fun _ _ => rfl, k, g, jj, c0, c1, c2, c3]
  have ow : ∀ p q : Bool, IntOp.ori (BitVec.ofBool p) (BitVec.ofBool q) = BitVec.ofBool (p || q) := by decide
  have aw : ∀ p q : Bool, IntOp.andi (BitVec.ofBool p) (BitVec.ofBool q) = BitVec.ofBool (p && q) := by decide
  have bw : ∀ p : Bool, BitVec.ofBool p = 1#1 ↔ p = true := by decide
  rw [aw, aw, ow, bw]
  simp only [Bool.or_eq_true, Bool.and_eq_true, decide_eq_true_eq]
  rw [abs_le]
  omega

end Cert.KernelIdeal.Attn

end
-- ==== Proof.AttnTile.lean ====
/- The attention call's body: each stored tile is one query's attention over the keys its row may see. -/
module

public import proofs.«01_k».proof.Proof.AttnRow
public import proofs.«01_k».proof.Proof.AttnMask
public import proofs.«01_k».proof.Proof.Gen.KernelIdeal.Frame
public import proofs.«01_k».proof.Proof.Gen.KernelIdeal.Value
public import Idealize.ShloMosaic.Lib.Pipeline.ValueKit

@[expose] public section

set_option maxRecDepth 65536

noncomputable section

namespace Cert.KernelIdeal.Attn

open Idealize.ShloMosaic Idealize.ShloMosaic.TcCoe Idealize.SL.Sem
open scoped BigOperators
open Cert.KernelIdeal Cert.KernelIdeal.Gen Cert.Attn

/-- Row `n` of the strip of 768 key (or value) rows around a block: 128 rows before it, its own 512, 128 after it. -/
def strip (xp : Vec Ideal S1x128x256 .bf16) (xc : Vec Ideal S1x512x256 .bf16) (xn : Vec Ideal S1x128x256 .bf16) (n : ℕ)
    (e : Fin 256) : EReal :=
  if h : n < 128 then xp (ix3 0 ⟨n, h⟩ e)
  else if h : n - 128 < 512 then xc (ix3 0 ⟨n - 128, h⟩ e)
  else if h : n - 640 < 128 then xn (ix3 0 ⟨n - 640, h⟩ e) else 0

/-- Column `j` of tile `t`: 384 rows of the strip from the tile's first, then the context's rows. -/
def bandRead (xp : Vec Ideal S1x128x256 .bf16) (xc : Vec Ideal S1x512x256 .bf16) (xn : Vec Ideal S1x128x256 .bf16)
    (xx : Vec Ideal S1x256x256 .bf16) (t : ℕ) (j : Fin 640) (e : Fin 256) : EReal :=
  if (j : ℕ) < 384 then strip xp xc xn (t * 128 + j) e
  else if h : (j : ℕ) - 384 < 256 then xx (ix3 0 ⟨j - 384, h⟩ e) else 0

/-- The scores of a row of a tile: the products of its query and the keys, minus infinity where the row may not see. -/
def tileScore (m : Fin 640 → BitVec 1) (q : Fin 64 → EReal) (K : Fin 640 → Fin 64 → EReal) (j : Fin 640) : EReal :=
  if m j = 1#1 then ∑ e, q e * K j e else ⊥

theorem neg_inf : Ideal.ofBits .f32 0xFF800000#32 = ⊥ := by simp [Ideal.ofBits, Ideal.ieee]

theorem mask_bot : (Named.named κ "mask" 0xF149F2CA#32 : Ideal .f32) = (⊥ : EReal) := rfl

/-- The body's tile of 512 stacked query rows over abstract keys, values, queries, sinks and mask: attention of the row. -/
theorem core (M : IVec S512x640 1) (K V : FVec Ideal S640x64 .bf16) (Q : FVec Ideal S512x64 .bf16)
    (S : Vec Ideal S1x512x1 .f32) (r : Fin 512) (d : Fin 64) :
    k0_pay6 M K V Q S (ix2 r d)
      = attend (tileScore (fun j => M (ix2 r j)) (fun e => Q (ix2 r e)) fun j e => K (ix2 j e)) (fun j => V (ix2 j d))
          (S (ix3 0 r 0)) := by
  pointwise [k0_pay6]
  rw [mask_bot, neg_inf]
  rfl

/-- Two reads of a row array at equal places. -/
theorem rd {n p : ℕ} (x : Vec Ideal ⟨3, ![1, n, p]⟩ .bf16) (a b : Fin n) (c d : Fin p) (e : (a : ℕ) = b) (e' : (c : ℕ) = d) :
    x (ix3 0 a c) = x (ix3 0 b d) := by
  rw [Fin.ext e, Fin.ext e']

/-- The key (or value) columns of tile 0. -/
theorem band0 (xp : Vec Ideal S1x128x256 .bf16) (xc : Vec Ideal S1x512x256 .bf16) (xn : Vec Ideal S1x128x256 .bf16)
    (xx : Vec Ideal S1x256x256 .bf16) (h : ℕ) (hh : h < 4) (i1 i2 i3 i4) (j : Fin 640) (e : Fin 64) :
    k0_pay3 (View.ld xp (Rect.unit (s := S1x128x256) ![0, 0, h * 64] S1x128x64.size i1))
      (View.ld xc (Rect.unit (s := S1x512x256) ![0, 128, h * 64] S1x128x64.size i2))
      (View.ld xc (Rect.unit (s := S1x512x256) ![0, 0, h * 64] S1x128x64.size i3))
      (View.ld xx (Rect.unit (s := S1x256x256) ![0, 0, h * 64] S1x256x64.size i4)) (ix2 j e)
      = bandRead xp xc xn xx 0 j ⟨h * 64 + e, by omega⟩ := by
  have hj := j.isLt
  pointwise [k0_pay3, bandRead, strip]
  repeat' split
  all_goals first | (exfalso; omega) | (exact rd _ _ _ _ _ (by dsimp only <;> omega) rfl)

/-- The key (or value) columns of tile 1 or 2. -/
theorem bandMid (xp : Vec Ideal S1x128x256 .bf16) (xc : Vec Ideal S1x512x256 .bf16) (xn : Vec Ideal S1x128x256 .bf16)
    (xx : Vec Ideal S1x256x256 .bf16) (s : ℕ) (hs : s < 2) (h : ℕ) (hh : h < 4) (i1 i2 i3 i4) (j : Fin 640) (e : Fin 64) :
    k0_pay3 (View.ld xc (Rect.unit (s := S1x512x256) ![0, s * 128, h * 64] S1x128x64.size i1))
      (View.ld xc (Rect.unit (s := S1x512x256) ![0, (s + 2) * 128, h * 64] S1x128x64.size i2))
      (View.ld xc (Rect.unit (s := S1x512x256) ![0, (s + 1) * 128, h * 64] S1x128x64.size i3))
      (View.ld xx (Rect.unit (s := S1x256x256) ![0, 0, h * 64] S1x256x64.size i4)) (ix2 j e)
      = bandRead xp xc xn xx (s + 1) j ⟨h * 64 + e, by omega⟩ := by
  have hj := j.isLt
  pointwise [k0_pay3, bandRead, strip]
  repeat' split
  all_goals first | (exfalso; omega) | (exact rd _ _ _ _ _ (by dsimp only <;> omega) rfl)

/-- The key (or value) columns of tile 3. -/
theorem band3 (xp : Vec Ideal S1x128x256 .bf16) (xc : Vec Ideal S1x512x256 .bf16) (xn : Vec Ideal S1x128x256 .bf16)
    (xx : Vec Ideal S1x256x256 .bf16) (h : ℕ) (hh : h < 4) (i1 i2 i3 i4) (j : Fin 640) (e : Fin 64) :
    k0_pay3 (View.ld xc (Rect.unit (s := S1x512x256) ![0, 256, h * 64] S1x128x64.size i1))
      (View.ld xn (Rect.unit (s := S1x128x256) ![0, 0, h * 64] S1x128x64.size i2))
      (View.ld xc (Rect.unit (s := S1x512x256) ![0, 384, h * 64] S1x128x64.size i3))
      (View.ld xx (Rect.unit (s := S1x256x256) ![0, 0, h * 64] S1x256x64.size i4)) (ix2 j e)
      = bandRead xp xc xn xx 3 j ⟨h * 64 + e, by omega⟩ := by
  have hj := j.isLt
  pointwise [k0_pay3, bandRead, strip]
  repeat' split
  all_goals first | (exfalso; omega) | (exact rd _ _ _ _ _ (by dsimp only <;> omega) rfl)

/-- A row of the tile's 512 stacked query rows: head `h * 4 + g` of row `r`. -/
theorem heads (x : Vec Ideal S1x512x1024 .bf16) (t h : ℕ) (ht : t < 4) (hh : h < 4) (i1 i2 i3 i4) (g : Fin 4) (r : Fin 128)
    (e : Fin 64) :
    k0_pay5 (View.ld x (Rect.unit (s := S1x512x1024) ![0, t * 128, h * 256] S1x128x64.size i1))
      (View.ld x (Rect.unit (s := S1x512x1024) ![0, t * 128, h * 256 + 64] S1x128x64.size i2))
      (View.ld x (Rect.unit (s := S1x512x1024) ![0, t * 128, h * 256 + 128] S1x128x64.size i3))
      (View.ld x (Rect.unit (s := S1x512x1024) ![0, t * 128, h * 256 + 192] S1x128x64.size i4))
      (ix2 ⟨(g : ℕ) * 128 + r, by omega⟩ e)
      = x (ix3 0 ⟨t * 128 + r, by omega⟩ ⟨h * 256 + g * 64 + e, by omega⟩) := by
  have hr := r.isLt
  have hg := g.isLt
  pointwise [k0_pay5]
  split_ifs <;> (refine congrArg _ (congrArg₂ (ix3 0) (Fin.ext ?_) (Fin.ext ?_)) <;> dsimp only <;> omega)

/-- A head's sink row, read from the table. -/
theorem sinks (x : Vec Ideal S4x512x1 .f32) (h : ℕ) (hh : h < 4) (i1) (r : Fin 512) :
    (View.ld x (Rect.unit (s := S4x512x1) ![h, 0, 0] S1x512x1.size i1) : Vec Ideal S1x512x1 .f32) (ix3 0 r 0)
      = x (ix3 ⟨h, hh⟩ r 0) := by
  pointwise []

/-- The mask of tile 0. -/
theorem mask0 (i : grid0.Coords) (r : Fin 512) (j : Fin 640) : k0_pay2 i (ix2 r j) = maskWord 0#32 (i 1) r j := by
  pointwise [k0_pay2]
  rfl

/-- One entry of the body's output block, from the blocks it reads: attention of the row `y 1` of the block for the head of
    the column `y 2`, over the 384 band columns of the row's tile and the context's columns. -/
def tileOut (i1 : ℕ) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (y : S1x512x1024.Idx) : EReal :=
  have h1 : (y 1 : ℕ) < 512 := (y 1).isLt
  have h2 : (y 2 : ℕ) < 1024 := (y 2).isLt
  attend
    (tileScore (fun j => maskWord (BitVec.ofNat 32 ((y 1 : ℕ) / 128)) i1 ((y 2 : ℕ) / 64 % 4 * 128 + (y 1 : ℕ) % 128) j)
      (fun e => x0 (ix3 0 ⟨(y 1 : ℕ), h1⟩ ⟨(y 2 : ℕ) / 64 * 64 + e, by omega⟩))
      fun j e => bandRead x1 x2 x3 x7 ((y 1 : ℕ) / 128) j ⟨(y 2 : ℕ) / 256 * 64 + e, by omega⟩)
    (fun j => bandRead x4 x5 x6 x8 ((y 1 : ℕ) / 128) j ⟨(y 2 : ℕ) / 256 * 64 + (y 2 : ℕ) % 64, by omega⟩)
    (x9 (ix3 ⟨(y 2 : ℕ) / 256, by omega⟩ ⟨(y 2 : ℕ) / 64 % 4 * 128 + (y 1 : ℕ) % 128, by omega⟩ 0))

/-- A stored tile, over abstract operands known by their reads, is that entry. -/
theorem piece (i1 : ℕ) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (t h g : ℕ) (ht : t < 4) (hh : h < 4) (hg : g < 4) (M : IVec S512x640 1) (K V : FVec Ideal S640x64 .bf16)
    (Q : FVec Ideal S512x64 .bf16) (S : Vec Ideal S1x512x1 .f32)
    (hM : ∀ r j, M (ix2 r j) = maskWord (BitVec.ofNat 32 t) i1 r j)
    (hK : ∀ (j : Fin 640) (e : Fin 64), K (ix2 j e) = bandRead x1 x2 x3 x7 t j ⟨h * 64 + e, by omega⟩)
    (hV : ∀ (j : Fin 640) (e : Fin 64), V (ix2 j e) = bandRead x4 x5 x6 x8 t j ⟨h * 64 + e, by omega⟩)
    (hQ : ∀ (g : Fin 4) (r : Fin 128) (e : Fin 64), Q (ix2 ⟨(g : ℕ) * 128 + r, by omega⟩ e)
      = x0 (ix3 0 ⟨t * 128 + r, by omega⟩ ⟨h * 256 + g * 64 + e, by omega⟩))
    (hS : ∀ r : Fin 512, S (ix3 0 r 0) = x9 (ix3 ⟨h, hh⟩ r 0))
    (hs : S512x64.Slices ![g * 128, 0] S128x64) (z : S1x128x64.Idx) (y : S1x512x1024.Idx)
    (h1 : (y 1 : ℕ) = t * 128 + (z 1 : ℕ)) (h2 : (y 2 : ℕ) = h * 256 + g * 64 + (z 2 : ℕ)) :
    (shapeCast S1x128x64 (truncf .bf16 (extractStridedSlice S128x64 ![g * 128, 0] (k0_pay6 M K V Q S) hs) bitsLt_bf16_f32 :
      FVec Ideal S128x64 .bf16) shapeCasts_S128x64_S1x128x64 : FVec Ideal S1x128x64 .bf16) z
      = tileOut i1 x0 x1 x2 x3 x4 x5 x6 x7 x8 x9 y := by
  obtain ⟨u, r, d, rfl⟩ : ∃ (u : Fin 1) (r : Fin 128) (d : Fin 64), z = ix3 u r d := ⟨z 0, z 1, z 2, by funext a; fin_cases a <;> rfl⟩
  change (y 1 : ℕ) = t * 128 + (r : ℕ) at h1
  change (y 2 : ℕ) = h * 256 + g * 64 + (d : ℕ) at h2
  have hr := r.isLt
  have hd := d.isLt
  have e : (shapeCast S1x128x64 (truncf .bf16 (extractStridedSlice S128x64 ![g * 128, 0] (k0_pay6 M K V Q S) hs) bitsLt_bf16_f32 :
      FVec Ideal S128x64 .bf16) shapeCasts_S128x64_S1x128x64 : FVec Ideal S1x128x64 .bf16) (ix3 u r d)
      = k0_pay6 M K V Q S (ix2 ⟨g * 128 + r, by omega⟩ d) := by
    generalize k0_pay6 M K V Q S = Y
    pointwise []
  rw [e, core, tileOut]
  have a1 : (y 1 : ℕ) / 128 = t := by omega
  have a2 : (y 1 : ℕ) % 128 = r := by omega
  have a3 : (y 2 : ℕ) / 64 % 4 = g := by omega
  have a4 : (y 2 : ℕ) / 256 = h := by omega
  have a5 : (y 2 : ℕ) / 64 * 64 = h * 256 + g * 64 := by omega
  have a6 : (y 2 : ℕ) % 64 = d := by omega
  simp only [hM, hK, hV, hS, a1, a2, a3, a4, a5, a6]
  congr 1
  congr 1
  funext e
  rw [hQ ⟨g, hg⟩ r e]
  exact rd x0 _ _ _ _ h1.symm rfl

/-- A stored tile of tile 0. -/
theorem piece0 (i1 : ℕ) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (h g : ℕ) (hh : h < 4) (hg : g < 4) (M : IVec S512x640 1)
    (hM : ∀ r j, M (ix2 r j) = maskWord (BitVec.ofNat 32 0) i1 r j) (i1' i2 i3 i4 j1 j2 j3 j4 k1 k2 k3 k4 l)
    (sl : S512x64.Slices ![g * 128, 0] S128x64) (z : S1x128x64.Idx) (y : S1x512x1024.Idx)
    (h1 : (y 1 : ℕ) = 0 * 128 + (z 1 : ℕ)) (h2 : (y 2 : ℕ) = h * 256 + g * 64 + (z 2 : ℕ)) :
    (shapeCast S1x128x64 (truncf .bf16 (extractStridedSlice S128x64 ![g * 128, 0] (k0_pay6 M
      (k0_pay3 (View.ld x1 (Rect.unit (s := S1x128x256) ![0, 0, h * 64] S1x128x64.size i1'))
      (View.ld x2 (Rect.unit (s := S1x512x256) ![0, 128, h * 64] S1x128x64.size i2))
      (View.ld x2 (Rect.unit (s := S1x512x256) ![0, 0, h * 64] S1x128x64.size i3))
      (View.ld x7 (Rect.unit (s := S1x256x256) ![0, 0, h * 64] S1x256x64.size i4)))
      (k0_pay3 (View.ld x4 (Rect.unit (s := S1x128x256) ![0, 0, h * 64] S1x128x64.size j1))
      (View.ld x5 (Rect.unit (s := S1x512x256) ![0, 128, h * 64] S1x128x64.size j2))
      (View.ld x5 (Rect.unit (s := S1x512x256) ![0, 0, h * 64] S1x128x64.size j3))
      (View.ld x8 (Rect.unit (s := S1x256x256) ![0, 0, h * 64] S1x256x64.size j4)))
      (k0_pay5 (View.ld x0 (Rect.unit (s := S1x512x1024) ![0, 0 * 128, h * 256] S1x128x64.size k1))
      (View.ld x0 (Rect.unit (s := S1x512x1024) ![0, 0 * 128, h * 256 + 64] S1x128x64.size k2))
      (View.ld x0 (Rect.unit (s := S1x512x1024) ![0, 0 * 128, h * 256 + 128] S1x128x64.size k3))
      (View.ld x0 (Rect.unit (s := S1x512x1024) ![0, 0 * 128, h * 256 + 192] S1x128x64.size k4)))
      (View.ld x9 (Rect.unit (s := S4x512x1) ![h, 0, 0] S1x512x1.size l))) sl) bitsLt_bf16_f32 :
      FVec Ideal S128x64 .bf16) shapeCasts_S128x64_S1x128x64 : FVec Ideal S1x128x64 .bf16) z
      = tileOut i1 x0 x1 x2 x3 x4 x5 x6 x7 x8 x9 y :=
  piece i1 x0 x1 x2 x3 x4 x5 x6 x7 x8 x9 0 h g (by norm_num) hh hg M _ _ _ _ hM (band0 x1 x2 x3 x7 h hh _ _ _ _)
    (band0 x4 x5 x6 x8 h hh _ _ _ _) (heads x0 0 h (by norm_num) hh _ _ _ _) (sinks x9 h hh _) sl z y h1 h2

/-- A stored tile of tile 1 or 2. -/
theorem pieceMid (i1 : ℕ) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (s : ℕ) (hs : s < 2) (h g : ℕ) (hh : h < 4) (hg : g < 4) (M : IVec S512x640 1)
    (hM : ∀ r j, M (ix2 r j) = maskWord (BitVec.ofNat 32 (s + 1)) i1 r j) (i1' i2 i3 i4 j1 j2 j3 j4 k1 k2 k3 k4 l)
    (sl : S512x64.Slices ![g * 128, 0] S128x64) (z : S1x128x64.Idx) (y : S1x512x1024.Idx)
    (h1 : (y 1 : ℕ) = (s + 1) * 128 + (z 1 : ℕ)) (h2 : (y 2 : ℕ) = h * 256 + g * 64 + (z 2 : ℕ)) :
    (shapeCast S1x128x64 (truncf .bf16 (extractStridedSlice S128x64 ![g * 128, 0] (k0_pay6 M
      (k0_pay3 (View.ld x2 (Rect.unit (s := S1x512x256) ![0, s * 128, h * 64] S1x128x64.size i1'))
      (View.ld x2 (Rect.unit (s := S1x512x256) ![0, (s + 2) * 128, h * 64] S1x128x64.size i2))
      (View.ld x2 (Rect.unit (s := S1x512x256) ![0, (s + 1) * 128, h * 64] S1x128x64.size i3))
      (View.ld x7 (Rect.unit (s := S1x256x256) ![0, 0, h * 64] S1x256x64.size i4)))
      (k0_pay3 (View.ld x5 (Rect.unit (s := S1x512x256) ![0, s * 128, h * 64] S1x128x64.size j1))
      (View.ld x5 (Rect.unit (s := S1x512x256) ![0, (s + 2) * 128, h * 64] S1x128x64.size j2))
      (View.ld x5 (Rect.unit (s := S1x512x256) ![0, (s + 1) * 128, h * 64] S1x128x64.size j3))
      (View.ld x8 (Rect.unit (s := S1x256x256) ![0, 0, h * 64] S1x256x64.size j4)))
      (k0_pay5 (View.ld x0 (Rect.unit (s := S1x512x1024) ![0, (s + 1) * 128, h * 256] S1x128x64.size k1))
      (View.ld x0 (Rect.unit (s := S1x512x1024) ![0, (s + 1) * 128, h * 256 + 64] S1x128x64.size k2))
      (View.ld x0 (Rect.unit (s := S1x512x1024) ![0, (s + 1) * 128, h * 256 + 128] S1x128x64.size k3))
      (View.ld x0 (Rect.unit (s := S1x512x1024) ![0, (s + 1) * 128, h * 256 + 192] S1x128x64.size k4)))
      (View.ld x9 (Rect.unit (s := S4x512x1) ![h, 0, 0] S1x512x1.size l))) sl) bitsLt_bf16_f32 :
      FVec Ideal S128x64 .bf16) shapeCasts_S128x64_S1x128x64 : FVec Ideal S1x128x64 .bf16) z
      = tileOut i1 x0 x1 x2 x3 x4 x5 x6 x7 x8 x9 y :=
  piece i1 x0 x1 x2 x3 x4 x5 x6 x7 x8 x9 (s + 1) h g (by omega) hh hg M _ _ _ _ hM (bandMid x1 x2 x3 x7 s hs h hh _ _ _ _)
    (bandMid x4 x5 x6 x8 s hs h hh _ _ _ _) (heads x0 (s + 1) h (by omega) hh _ _ _ _) (sinks x9 h hh _) sl z y h1 h2

/-- A stored tile of tile 3. -/
theorem piece3 (i1 : ℕ) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (h g : ℕ) (hh : h < 4) (hg : g < 4) (M : IVec S512x640 1)
    (hM : ∀ r j, M (ix2 r j) = maskWord (BitVec.ofNat 32 3) i1 r j) (i1' i2 i3 i4 j1 j2 j3 j4 k1 k2 k3 k4 l)
    (sl : S512x64.Slices ![g * 128, 0] S128x64) (z : S1x128x64.Idx) (y : S1x512x1024.Idx)
    (h1 : (y 1 : ℕ) = 3 * 128 + (z 1 : ℕ)) (h2 : (y 2 : ℕ) = h * 256 + g * 64 + (z 2 : ℕ)) :
    (shapeCast S1x128x64 (truncf .bf16 (extractStridedSlice S128x64 ![g * 128, 0] (k0_pay6 M
      (k0_pay3 (View.ld x2 (Rect.unit (s := S1x512x256) ![0, 256, h * 64] S1x128x64.size i1'))
      (View.ld x3 (Rect.unit (s := S1x128x256) ![0, 0, h * 64] S1x128x64.size i2))
      (View.ld x2 (Rect.unit (s := S1x512x256) ![0, 384, h * 64] S1x128x64.size i3))
      (View.ld x7 (Rect.unit (s := S1x256x256) ![0, 0, h * 64] S1x256x64.size i4)))
      (k0_pay3 (View.ld x5 (Rect.unit (s := S1x512x256) ![0, 256, h * 64] S1x128x64.size j1))
      (View.ld x6 (Rect.unit (s := S1x128x256) ![0, 0, h * 64] S1x128x64.size j2))
      (View.ld x5 (Rect.unit (s := S1x512x256) ![0, 384, h * 64] S1x128x64.size j3))
      (View.ld x8 (Rect.unit (s := S1x256x256) ![0, 0, h * 64] S1x256x64.size j4)))
      (k0_pay5 (View.ld x0 (Rect.unit (s := S1x512x1024) ![0, 3 * 128, h * 256] S1x128x64.size k1))
      (View.ld x0 (Rect.unit (s := S1x512x1024) ![0, 3 * 128, h * 256 + 64] S1x128x64.size k2))
      (View.ld x0 (Rect.unit (s := S1x512x1024) ![0, 3 * 128, h * 256 + 128] S1x128x64.size k3))
      (View.ld x0 (Rect.unit (s := S1x512x1024) ![0, 3 * 128, h * 256 + 192] S1x128x64.size k4)))
      (View.ld x9 (Rect.unit (s := S4x512x1) ![h, 0, 0] S1x512x1.size l))) sl) bitsLt_bf16_f32 :
      FVec Ideal S128x64 .bf16) shapeCasts_S128x64_S1x128x64 : FVec Ideal S1x128x64 .bf16) z
      = tileOut i1 x0 x1 x2 x3 x4 x5 x6 x7 x8 x9 y :=
  piece i1 x0 x1 x2 x3 x4 x5 x6 x7 x8 x9 3 h g (by norm_num) hh hg M _ _ _ _ hM (band3 x1 x2 x3 x7 h hh _ _ _ _)
    (band3 x4 x5 x6 x8 h hh _ _ _ _) (heads x0 3 h (by norm_num) hh _ _ _ _) (sinks x9 h hh _) sl z y h1 h2

end Cert.KernelIdeal.Attn

end
-- ==== Proof.AttnOut.lean ====
/- The attention call's output block: its 64 stored tiles. -/
module

public import proofs.«01_k».proof.Proof.AttnTile

@[expose] public section

set_option maxRecDepth 65536

noncomputable section

namespace Cert.KernelIdeal.Attn

open Idealize.ShloMosaic Idealize.ShloMosaic.TcCoe Idealize.SL.Sem
open scoped BigOperators
open Cert.KernelIdeal Cert.KernelIdeal.Gen Cert.Attn

/-- The mask of tile 1. -/
theorem mask1 (i : grid0.Coords) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (r : Fin 512) (j : Fin 640) :
    k0_pay182 i x0 x1 x2 x3 x4 x5 x6 x7 x8 x9 (ix2 r j) = maskWord 1#32 (i 1) r j := by
  pointwise [k0_pay182, k0_pay165, k0_pay166, k0_pay38, k0_pay39, k0_pay40]
  rfl

/-- The mask of tile 2. -/
theorem mask2 (i : grid0.Coords) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (r : Fin 512) (j : Fin 640) :
    k0_pay200 i x0 x1 x2 x3 x4 x5 x6 x7 x8 x9 (ix2 r j) = maskWord 2#32 (i 1) r j := by
  pointwise [k0_pay200, k0_pay165, k0_pay166, k0_pay83, k0_pay84]
  rfl

/-- The mask of tile 3. -/
theorem mask3 (i : grid0.Coords) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (r : Fin 512) (j : Fin 640) :
    k0_pay217 i x0 x1 x2 x3 x4 x5 x6 x7 x8 x9 (ix2 r j) = maskWord 3#32 (i 1) r j := by
  pointwise [k0_pay217, k0_pay165, k0_pay166, k0_pay126]
  rfl

set_option maxHeartbeats 4000000 in
/-- The output block the body leaves, from the blocks it reads. -/
theorem out (i : grid0.Coords) (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (y : S1x512x1024.Idx) : out0_10 i x0 x1 x2 x3 x4 x5 x6 x7 x8 x9 y = tileOut (i 1) x0 x1 x2 x3 x4 x5 x6 x7 x8 x9 y := by
  unfold out0_10
  canon_tiles y h
  · exact piece3 (i 1) x0 x1 x2 x3 x4 x5 x6 x7 x8 x9 3 3 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 3 2 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 3 1 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 3 0 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 2 3 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 2 2 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 2 1 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 2 0 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 1 3 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 1 2 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 1 1 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 1 0 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 0 3 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 0 2 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 0 1 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact piece3 (i 1) x0 x1 x2 x3 x4 x5 x6 x7 x8 x9 0 0 (by norm_num) (by norm_num) (k0_pay217 i x0 x1 x2 x3 x4 x5 x6 x7 x8 x9) (mask3 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 3 3 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 3 2 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 3 1 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 3 0 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 2 3 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 2 2 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 2 1 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 2 0 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 1 3 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 1 2 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 1 1 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 1 0 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 0 3 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 0 2 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 0 1 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 1 (by norm_num) 0 0 (by norm_num) (by norm_num) (k0_pay200 i x0 x1 x2 x3 x4 x5 x6 x7 x8 x9) (mask2 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 3 3 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 3 2 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 3 1 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 3 0 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 2 3 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 2 2 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 2 1 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 2 0 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 1 3 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 1 2 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 1 1 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 1 0 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 0 3 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 0 2 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 0 1 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact pieceMid (i 1) x0 x1 x2 x3 x4 x5 x6 x7 x8 x9 0 (by norm_num) 0 0 (by norm_num) (by norm_num) (k0_pay182 i x0 x1 x2 x3 x4 x5 x6 x7 x8 x9) (mask1 i x0 x1 x2 x3 x4 x5 x6 x7 x8 x9)
      _ _ _ _ _ _ _ _ _ _ _ _ _ _ _ _ (by omega) (by omega)
  · exact piece0 (i 1) x0 x1 x2 x3 x4 x5 x6 x7 x8 x9 3 3 (by norm_num) (by norm_num) (k0_pay2 i) (mask0 i)
      _ _ _ _ _ _ _ _ _ _ _ _ _ _ _ _ (by omega) (by omega)
  · exact piece0 (i 1) x0 x1 x2 x3 x4 x5 x6 x7 x8 x9 3 2 (by norm_num) (by norm_num) (k0_pay2 i) (mask0 i)
      _ _ _ _ _ _ _ _ _ _ _ _ _ _ _ _ (by omega) (by omega)
  · exact piece0 (i 1) x0 x1 x2 x3 x4 x5 x6 x7 x8 x9 3 1 (by norm_num) (by norm_num) (k0_pay2 i) (mask0 i)
      _ _ _ _ _ _ _ _ _ _ _ _ _ _ _ _ (by omega) (by omega)
  · exact piece0 (i 1) x0 x1 x2 x3 x4 x5 x6 x7 x8 x9 3 0 (by norm_num) (by norm_num) (k0_pay2 i) (mask0 i)
      _ _ _ _ _ _ _ _ _ _ _ _ _ _ _ _ (by omega) (by omega)
  · exact piece0 (i 1) x0 x1 x2 x3 x4 x5 x6 x7 x8 x9 2 3 (by norm_num) (by norm_num) (k0_pay2 i) (mask0 i)
      _ _ _ _ _ _ _ _ _ _ _ _ _ _ _ _ (by omega) (by omega)
  · exact piece0 (i 1) x0 x1 x2 x3 x4 x5 x6 x7 x8 x9 2 2 (by norm_num) (by norm_num) (k0_pay2 i) (mask0 i)
      _ _ _ _ _ _ _ _ _ _ _ _ _ _ _ _ (by omega) (by omega)
  · exact piece0 (i 1) x0 x1 x2 x3 x4 x5 x6 x7 x8 x9 2 1 (by norm_num) (by norm_num) (k0_pay2 i) (mask0 i)
      _ _ _ _ _ _ _ _ _ _ _ _ _ _ _ _ (by omega) (by omega)
  · exact piece0 (i 1) x0 x1 x2 x3 x4 x5 x6 x7 x8 x9 2 0 (by norm_num) (by norm_num) (k0_pay2 i) (mask0 i)
      _ _ _ _ _ _ _ _ _ _ _ _ _ _ _ _ (by omega) (by omega)
  · exact piece0 (i 1) x0 x1 x2 x3 x4 x5 x6 x7 x8 x9 1 3 (by norm_num) (by norm_num) (k0_pay2 i) (mask0 i)
      _ _ _ _ _ _ _ _ _ _ _ _ _ _ _ _ (by omega) (by omega)
  · exact piece0 (i 1) x0 x1 x2 x3 x4 x5 x6 x7 x8 x9 1 2 (by norm_num) (by norm_num) (k0_pay2 i) (mask0 i)
      _ _ _ _ _ _ _ _ _ _ _ _ _ _ _ _ (by omega) (by omega)
  · exact piece0 (i 1) x0 x1 x2 x3 x4 x5 x6 x7 x8 x9 1 1 (by norm_num) (by norm_num) (k0_pay2 i) (mask0 i)
      _ _ _ _ _ _ _ _ _ _ _ _ _ _ _ _ (by omega) (by omega)
  · exact piece0 (i 1) x0 x1 x2 x3 x4 x5 x6 x7 x8 x9 1 0 (by norm_num) (by norm_num) (k0_pay2 i) (mask0 i)
      _ _ _ _ _ _ _ _ _ _ _ _ _ _ _ _ (by omega) (by omega)
  · exact piece0 (i 1) x0 x1 x2 x3 x4 x5 x6 x7 x8 x9 0 3 (by norm_num) (by norm_num) (k0_pay2 i) (mask0 i)
      _ _ _ _ _ _ _ _ _ _ _ _ _ _ _ _ (by omega) (by omega)
  · exact piece0 (i 1) x0 x1 x2 x3 x4 x5 x6 x7 x8 x9 0 2 (by norm_num) (by norm_num) (k0_pay2 i) (mask0 i)
      _ _ _ _ _ _ _ _ _ _ _ _ _ _ _ _ (by omega) (by omega)
  · exact piece0 (i 1) x0 x1 x2 x3 x4 x5 x6 x7 x8 x9 0 1 (by norm_num) (by norm_num) (k0_pay2 i) (mask0 i)
      _ _ _ _ _ _ _ _ _ _ _ _ _ _ _ _ (by omega) (by omega)
  · exact piece0 (i 1) x0 x1 x2 x3 x4 x5 x6 x7 x8 x9 0 0 (by norm_num) (by norm_num) (k0_pay2 i) (mask0 i)
      _ _ _ _ _ _ _ _ _ _ _ _ _ _ _ _ (by omega) (by omega)

end Cert.KernelIdeal.Attn

end
-- ==== Proof.AttnGoal.lean ====
/- The attention of one query as plain mathematics over the argument arrays, and the body's tile entry brought to it. -/
module

public import proofs.«01_k».proof.Proof.AttnTile

@[expose] public section

set_option maxRecDepth 65536

noncomputable section

namespace Cert.KernelIdeal.Attn

open Idealize.ShloMosaic Idealize.ShloMosaic.TcCoe Idealize.SL.Sem
open scoped BigOperators
open Cert.KernelIdeal Cert.KernelIdeal.Gen Cert.Attn

/-- Two positions at most 128 apart. -/
def near (L n : ℕ) : Prop := L ≤ n + 128 ∧ n ≤ L + 128

instance (L n : ℕ) : Decidable (near L n) := inferInstanceAs (Decidable (_ ∧ _))

/-- The score of a query and a key: their product, scaled by one eighth. -/
def score (q k : Fin 64 → EReal) : EReal := (∑ e, q e * k e) * Ideal.ofBits .f32 0x3E000000#32

/-- The scores of the query at position `L`, group `g` of head `h` in sequence `b`: over the sequence's keys, minus infinity
    where more than 128 away, and over the context's keys. -/
def scores (q : FVec Ideal S16x4096x4x4x64 .f32) (k : FVec Ideal S16x4096x4x64 .f32) (kc : FVec Ideal S16x256x4x64 .f32)
    (b : Fin 16) (L : Fin 4096) (h g : Fin 4) : Fin 4096 ⊕ Fin 256 → EReal :=
  Sum.elim (fun n => if near L n then score (fun e => q (ix5 b L h g e)) (fun e => k (ix4 b n h e)) else ⊥)
    (fun n => score (fun e => q (ix5 b L h g e)) (fun e => kc (ix4 b n h e)))

/-- One entry of the attention's result: the query at position `L` for entry `d` of head `h`, group `g`, in sequence `b`. -/
def rowAt (q : FVec Ideal S16x4096x4x4x64 .f32) (k v : FVec Ideal S16x4096x4x64 .f32) (kc vc : FVec Ideal S16x256x4x64 .f32)
    (s : FVec Ideal S16 .f32) (b : Fin 16) (L : Fin 4096) (h g : Fin 4) (d : Fin 64) : EReal :=
  attend (scores q k kc b L h g) (Sum.elim (fun n => v (ix4 b n h d)) (fun n => vc (ix4 b n h d)))
    (s (ix1 ⟨(h : ℕ) * 4 + g, by omega⟩))

theorem eighth : Ideal.ofBits .f32 0x3E000000#32 = ((1 / 8 : ℝ) : EReal) := by
  simp [Ideal.ofBits, Ideal.ieee, -EReal.coe_mul]; norm_num

/-- The kernel scales the query's entries, the reference the product: the same, the scale being positive and finite. -/
theorem scaled (q k : Fin 64 → EReal) : ∑ e, q e * Ideal.ofBits .f32 0x3E000000#32 * k e = score q k := by
  have h0 : (0 : EReal) ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  rw [score]
  generalize Ideal.ofBits .f32 0x3E000000#32 = c at *
  have key : ∀ s : Finset (Fin 64), (∑ x ∈ s, q x * k x) * c = ∑ x ∈ s, q x * c * k x := by
    intro s
    induction s using Finset.cons_induction with
    | empty => simp
    | cons x s hx ih =>
      rw [Finset.sum_cons, Finset.sum_cons, EReal.right_distrib_of_nonneg_of_ne_top h0 ht, ih, mul_right_comm]
  exact (key _).symm

/-- Two reads of a key array at equal places. -/
theorem rd4 {a p q r : ℕ} (x : Vec Ideal ⟨4, ![a, p, q, r]⟩ .f32) (b : Fin a) (n n' : Fin p) (h h' : Fin q) (e e' : Fin r)
    (h1 : (n : ℕ) = n') (h2 : (h : ℕ) = h') (h3 : (e : ℕ) = e') : x (ix4 b n h e) = x (ix4 b n' h' e') := by
  rw [Fin.ext h1, Fin.ext h2, Fin.ext h3]

/-- Two reads of the query array at equal places. -/
theorem rd5 {a p q r s : ℕ} (x : Vec Ideal ⟨5, ![a, p, q, r, s]⟩ .f32) (b : Fin a) (n n' : Fin p) (h h' : Fin q) (g g' : Fin r)
    (e e' : Fin s) (h1 : (n : ℕ) = n') (h2 : (h : ℕ) = h') (h4 : (g : ℕ) = g') (h3 : (e : ℕ) = e') :
    x (ix5 b n h g e) = x (ix5 b n' h' g' e') := by
  rw [Fin.ext h1, Fin.ext h2, Fin.ext h3, Fin.ext h4]

section
variable (b : Fin 16) (i : Fin 8) (k : FVec Ideal S16x4096x4x64 .f32) (kc : FVec Ideal S16x256x4x64 .f32)
  (xp : Vec Ideal S1x128x256 .bf16) (xc : Vec Ideal S1x512x256 .bf16) (xn : Vec Ideal S1x128x256 .bf16)
  (xx : Vec Ideal S1x256x256 .bf16)
  (hp : ∀ (R : Fin 128) (C : Fin 256), xp (ix3 0 R C)
    = k (ix4 b ⟨(4 * (i : ℕ) - 1) * 128 + R, by omega⟩ ⟨(C : ℕ) / 64, by omega⟩ ⟨(C : ℕ) % 64, by omega⟩))
  (hc : ∀ (R : Fin 512) (C : Fin 256), xc (ix3 0 R C)
    = k (ix4 b ⟨(i : ℕ) * 512 + R, by omega⟩ ⟨(C : ℕ) / 64, by omega⟩ ⟨(C : ℕ) % 64, by omega⟩))
  (hn : ∀ (R : Fin 128) (C : Fin 256), xn (ix3 0 R C)
    = k (ix4 b ⟨min (4 * (i : ℕ) + 4) 31 * 128 + R, by omega⟩ ⟨(C : ℕ) / 64, by omega⟩ ⟨(C : ℕ) % 64, by omega⟩))
  (hx : ∀ (R : Fin 256) (C : Fin 256), xx (ix3 0 R C)
    = kc (ix4 b ⟨(R : ℕ), R.isLt⟩ ⟨(C : ℕ) / 64, by omega⟩ ⟨(C : ℕ) % 64, by omega⟩))

include hp hc hn in
/-- A band column inside the sequence holds the key (or value) at that column's position. -/
theorem band_own (t : Fin 4) (j : Fin 640) (hj : (j : ℕ) < 384) (lo : 128 ≤ 512 * (i : ℕ) + 128 * t + j)
    (n : Fin 4096) (en : (n : ℕ) + 128 = 512 * (i : ℕ) + 128 * t + j) (h : Fin 4) (e : Fin 64) (C : Fin 256)
    (eC : (C : ℕ) = h * 64 + e) : bandRead xp xc xn xx t j C = k (ix4 b n h e) := by
  have hh : (C : ℕ) / 64 = h := by omega
  have he : (C : ℕ) % 64 = e := by omega
  rw [bandRead, if_pos hj, strip]
  split
  · rw [hp]; exact rd4 k _ _ _ _ _ _ _ (by dsimp only; omega) hh he
  · split
    · rw [hc]; exact rd4 k _ _ _ _ _ _ _ (by dsimp only; omega) hh he
    · rw [dif_pos (by omega), hn]; exact rd4 k _ _ _ _ _ _ _ (by dsimp only; omega) hh he

include hx in
/-- A column past the band holds the context's key (or value). -/
theorem band_ctx (t : Fin 4) (j : Fin 640) (n : Fin 256) (en : (j : ℕ) = n + 384) (h : Fin 4) (e : Fin 64) (C : Fin 256)
    (eC : (C : ℕ) = h * 64 + e) : bandRead xp xc xn xx t j C = kc (ix4 b n h e) := by
  rw [bandRead, if_neg (by omega), dif_pos (by omega), hx]
  exact rd4 kc _ _ _ _ _ _ _ (by dsimp only; omega) (by dsimp only; omega) (by dsimp only; omega)

end

/-- Where a tile's column lies among the sequence's and the context's keys; `n` is the tile's first row. -/
def place (n : ℕ) (j : Fin 640) : Fin 4096 ⊕ Fin 256 :=
  if (j : ℕ) < 384 then Sum.inl ⟨min (n + j - 128) 4095, by omega⟩ else Sum.inr ⟨(j : ℕ) - 384, by omega⟩

theorem lt_own {i R : ℕ} (hi : i < 8) (hR : R < 512) : i * 512 + R < 4096 := by omega
theorem lt_before {i R : ℕ} (hi : i < 8) (hR : R < 128) : (4 * i - 1) * 128 + R < 4096 := by omega
theorem lt_after {i R : ℕ} (hR : R < 128) : min (4 * i + 4) 31 * 128 + R < 4096 := by omega
theorem lt_head {C : ℕ} (hC : C < 256) : C / 64 < 4 := by omega
theorem lt_entry {C : ℕ} : C % 64 < 64 := by omega
theorem lt_group {C : ℕ} : C / 64 % 4 < 4 := by omega
theorem lt_qhead {C : ℕ} (hC : C < 1024) : C / 256 < 4 := by omega
theorem lt_sink {h R : ℕ} (hh : h < 4) (hR : R < 512) : h * 4 + R / 128 < 16 := by omega

set_option maxHeartbeats 1600000 in
/-- An entry of the body's output block is the attention of its row. -/
theorem tile_row (b : Fin 16) (i : Fin 8) (q : FVec Ideal S16x4096x4x4x64 .f32) (k v : FVec Ideal S16x4096x4x64 .f32)
    (kc vc : FVec Ideal S16x256x4x64 .f32) (s : FVec Ideal S16 .f32)
    (x0 : Vec Ideal S1x512x1024 .bf16) (x1 : Vec Ideal S1x128x256 .bf16) (x2 : Vec Ideal S1x512x256 .bf16)
    (x3 : Vec Ideal S1x128x256 .bf16) (x4 : Vec Ideal S1x128x256 .bf16) (x5 : Vec Ideal S1x512x256 .bf16)
    (x6 : Vec Ideal S1x128x256 .bf16) (x7 x8 : Vec Ideal S1x256x256 .bf16) (x9 : Vec Ideal S4x512x1 .f32)
    (h0 : ∀ (R : Fin 512) (C : Fin 1024), x0 (ix3 0 R C) = q (ix5 b ⟨(i : ℕ) * 512 + R, lt_own i.isLt R.isLt⟩ ⟨(C : ℕ) / 256, lt_qhead C.isLt⟩
      ⟨(C : ℕ) / 64 % 4, lt_group⟩ ⟨(C : ℕ) % 64, lt_entry⟩) * Ideal.ofBits .f32 0x3E000000#32)
    (h1 : ∀ (R : Fin 128) (C : Fin 256), x1 (ix3 0 R C)
      = k (ix4 b ⟨(4 * (i : ℕ) - 1) * 128 + R, lt_before i.isLt R.isLt⟩ ⟨(C : ℕ) / 64, lt_head C.isLt⟩ ⟨(C : ℕ) % 64, lt_entry⟩))
    (h2 : ∀ (R : Fin 512) (C : Fin 256), x2 (ix3 0 R C)
      = k (ix4 b ⟨(i : ℕ) * 512 + R, lt_own i.isLt R.isLt⟩ ⟨(C : ℕ) / 64, lt_head C.isLt⟩ ⟨(C : ℕ) % 64, lt_entry⟩))
    (h3 : ∀ (R : Fin 128) (C : Fin 256), x3 (ix3 0 R C)
      = k (ix4 b ⟨min (4 * (i : ℕ) + 4) 31 * 128 + R, lt_after R.isLt⟩ ⟨(C : ℕ) / 64, lt_head C.isLt⟩ ⟨(C : ℕ) % 64, lt_entry⟩))
    (h4 : ∀ (R : Fin 128) (C : Fin 256), x4 (ix3 0 R C)
      = v (ix4 b ⟨(4 * (i : ℕ) - 1) * 128 + R, lt_before i.isLt R.isLt⟩ ⟨(C : ℕ) / 64, lt_head C.isLt⟩ ⟨(C : ℕ) % 64, lt_entry⟩))
    (h5 : ∀ (R : Fin 512) (C : Fin 256), x5 (ix3 0 R C)
      = v (ix4 b ⟨(i : ℕ) * 512 + R, lt_own i.isLt R.isLt⟩ ⟨(C : ℕ) / 64, lt_head C.isLt⟩ ⟨(C : ℕ) % 64, lt_entry⟩))
    (h6 : ∀ (R : Fin 128) (C : Fin 256), x6 (ix3 0 R C)
      = v (ix4 b ⟨min (4 * (i : ℕ) + 4) 31 * 128 + R, lt_after R.isLt⟩ ⟨(C : ℕ) / 64, lt_head C.isLt⟩ ⟨(C : ℕ) % 64, lt_entry⟩))
    (h7 : ∀ (R : Fin 256) (C : Fin 256), x7 (ix3 0 R C)
      = kc (ix4 b ⟨(R : ℕ), R.isLt⟩ ⟨(C : ℕ) / 64, lt_head C.isLt⟩ ⟨(C : ℕ) % 64, lt_entry⟩))
    (h8 : ∀ (R : Fin 256) (C : Fin 256), x8 (ix3 0 R C)
      = vc (ix4 b ⟨(R : ℕ), R.isLt⟩ ⟨(C : ℕ) / 64, lt_head C.isLt⟩ ⟨(C : ℕ) % 64, lt_entry⟩))
    (h9 : ∀ (h : Fin 4) (R : Fin 512), x9 (ix3 h R 0) = s (ix1 ⟨(h : ℕ) * 4 + (R : ℕ) / 128, lt_sink h.isLt R.isLt⟩))
    (y : S1x512x1024.Idx) (R C : ℕ) (hR : R < 512) (hC : C < 1024) (eR : (y 1 : ℕ) = R) (eC : (y 2 : ℕ) = C) :
    tileOut i x0 x1 x2 x3 x4 x5 x6 x7 x8 x9 y
      = rowAt q k v kc vc s b ⟨(i : ℕ) * 512 + R, lt_own i.isLt hR⟩ ⟨C / 256, lt_qhead hC⟩ ⟨C / 64 % 4, lt_group⟩ ⟨C % 64, lt_entry⟩ := by
  subst eR eC
  obtain ⟨R, eR⟩ : ∃ R : ℕ, R = (y 1 : ℕ) := ⟨_, rfl⟩
  obtain ⟨C, eC⟩ : ∃ C : ℕ, C = (y 2 : ℕ) := ⟨_, rfl⟩
  have hi := i.isLt
  -- the words of the mask, decoded
  have seen : ∀ j : Fin 640, maskWord (BitVec.ofNat 32 (R / 128)) i (C / 64 % 4 * 128 + R % 128) j = 1#1 ↔ 384 ≤ (j : ℕ) ∨
      (128 ≤ 512 * (i : ℕ) + 128 * (R / 128) + j ∧ 512 * (i : ℕ) + 128 * (R / 128) + j < 4224 ∧ R % 128 ≤ (j : ℕ)
        ∧ (j : ℕ) ≤ R % 128 + 256) := fun j => by
    have := maskWord_iff ⟨R / 128, by omega⟩ i ⟨C / 64 % 4 * 128 + R % 128, by omega⟩ j
    rw [this]
    dsimp only
    omega
  have hs9 : x9 (ix3 ⟨C / 256, by omega⟩ ⟨C / 64 % 4 * 128 + R % 128, by omega⟩ 0)
      = s (ix1 ⟨C / 256 * 4 + C / 64 % 4, by omega⟩) := by
    rw [h9]
    exact congrArg (fun a => s (ix1 a)) (Fin.ext (by dsimp only; omega))
  have hq : ∀ e : Fin 64, x0 (ix3 0 ⟨R, by omega⟩ ⟨C / 64 * 64 + e, by omega⟩)
      = q (ix5 b ⟨(i : ℕ) * 512 + R, by omega⟩ ⟨C / 256, by omega⟩ ⟨C / 64 % 4, by omega⟩ e) * Ideal.ofBits .f32 0x3E000000#32 := by
    intro e
    rw [h0]
    congr 1
    exact rd5 q _ _ _ _ _ _ _ _ _ rfl (by dsimp only; omega) (by dsimp only; omega) (by dsimp only; omega)
  have ho : ∀ (j : Fin 640) (e : Fin 64) (n : Fin 4096), (j : ℕ) < 384 → 128 ≤ 512 * (i : ℕ) + 128 * (R / 128) + j →
      (n : ℕ) + 128 = 512 * (i : ℕ) + 128 * (R / 128) + j →
      bandRead x1 x2 x3 x7 (R / 128) j ⟨C / 256 * 64 + e, by omega⟩ = k (ix4 b n ⟨C / 256, by omega⟩ e) := fun j e n hj lo en =>
    band_own b i k x1 x2 x3 x7 h1 h2 h3 ⟨R / 128, by omega⟩ j hj lo n en _ e _ rfl
  have ho' : ∀ (j : Fin 640) (e : Fin 64) (n : Fin 4096), (j : ℕ) < 384 → 128 ≤ 512 * (i : ℕ) + 128 * (R / 128) + j →
      (n : ℕ) + 128 = 512 * (i : ℕ) + 128 * (R / 128) + j →
      bandRead x4 x5 x6 x8 (R / 128) j ⟨C / 256 * 64 + e, by omega⟩ = v (ix4 b n ⟨C / 256, by omega⟩ e) := fun j e n hj lo en =>
    band_own b i v x4 x5 x6 x8 h4 h5 h6 ⟨R / 128, by omega⟩ j hj lo n en _ e _ rfl
  have hx : ∀ (j : Fin 640) (e : Fin 64) (n : Fin 256), (j : ℕ) = n + 384 →
      bandRead x1 x2 x3 x7 (R / 128) j ⟨C / 256 * 64 + e, by omega⟩ = kc (ix4 b n ⟨C / 256, by omega⟩ e) := fun j e n en =>
    band_ctx b kc x1 x2 x3 x7 h7 ⟨R / 128, by omega⟩ j n en _ e _ rfl
  have hx' : ∀ (j : Fin 640) (e : Fin 64) (n : Fin 256), (j : ℕ) = n + 384 →
      bandRead x4 x5 x6 x8 (R / 128) j ⟨C / 256 * 64 + e, by omega⟩ = vc (ix4 b n ⟨C / 256, by omega⟩ e) := fun j e n en =>
    band_ctx b vc x4 x5 x6 x8 h8 ⟨R / 128, by omega⟩ j n en _ e _ rfl
  simp only [tileOut, rowAt, ← eR, ← eC]
  rw [hs9]
  refine attend_carry (fun j : Fin 640 => maskWord (BitVec.ofNat 32 (R / 128)) i (C / 64 % 4 * 128 + R % 128) j = 1#1)
    (place (512 * i + 128 * (R / 128))) _ _ _ _ _ ?_ ?_ ?_ ?_ ?_
  · intro a c pa pc e
    have pa := (seen a).1 pa
    have pc := (seen c).1 pc
    have ha := a.isLt
    have hc := c.isLt
    rw [place, place] at e
    refine Fin.ext ?_
    split at e <;> split at e
    · have := Fin.val_eq_of_eq (Sum.inl.inj e)
      dsimp only at this
      omega
    · cases e
    · cases e
    · have := Fin.val_eq_of_eq (Sum.inr.inj e)
      dsimp only at this
      omega
  · intro a pa
    have pa' := (seen a).1 pa
    have ha := a.isLt
    simp only [tileScore, if_pos pa, hq]
    rw [scaled, place, scores]
    split
    · rw [Sum.elim_inl, if_pos (by rw [near]; dsimp only; omega)]
      congr 1
      funext e
      exact (ho a e _ (by assumption) (by omega) (by dsimp only; omega)).symm
    · rw [Sum.elim_inr]
      congr 1
      funext e
      exact (hx a e _ (by dsimp only; omega)).symm
  · intro a pa
    have pa' := (seen a).1 pa
    have ha := a.isLt
    rw [place]
    split
    · rw [Sum.elim_inl]
      exact (ho' a ⟨C % 64, by omega⟩ _ (by assumption) (by omega) (by dsimp only; omega)).symm
    · rw [Sum.elim_inr]
      exact (hx' a ⟨C % 64, by omega⟩ _ (by dsimp only; omega)).symm
  · intro a pa
    exact if_neg pa
  · rintro (n | n)
    · by_cases hn : near ((i : ℕ) * 512 + R) n
      · have hn' := hn
        rw [near] at hn'
        have hlt := n.isLt
        refine Or.inl ⟨⟨n + 128 - (512 * i + 128 * (R / 128)), by omega⟩, (seen _).2 (by dsimp only; omega), ?_⟩
        rw [place, if_pos (by dsimp only; omega)]
        exact congrArg Sum.inl (Fin.ext (by dsimp only; omega))
      · refine Or.inr ?_
        rw [scores, Sum.elim_inl]
        exact if_neg hn
    · refine Or.inl ⟨⟨n + 384, by omega⟩, (seen _).2 (by dsimp only; omega), ?_⟩
      rw [place, if_neg (by dsimp only; omega)]
      exact congrArg Sum.inr (Fin.ext (by dsimp only; omega))

end Cert.KernelIdeal.Attn

end
-- ==== Proof.AttnBlocks.lean ====
/- The attention call's blocks, read from the argument arrays. -/
module

public import proofs.«01_k».proof.Proof.AttnOut
public import proofs.«01_k».proof.Proof.AttnGoal
public import Idealize.ShloMosaic.Lib.Pipeline.Covers

@[expose] public section

set_option maxRecDepth 65536

noncomputable section

namespace Cert.KernelIdeal.Attn

open Idealize.ShloMosaic Idealize.ShloMosaic.TcCoe Idealize.SL.Sem
open scoped BigOperators
open Cert.KernelIdeal Cert.KernelIdeal.Gen Cert.Attn

variable (m : (ℓ : Loc nD τ sig) → Buf (Elt Ideal) ℓ)

/-- Every window's block index at every grid point. -/
theorem blockIdx : ∀ t : Fin cfg0.N, win0_0.index t = ![t.val / 8, t.val % 8, 0]
    ∧ win0_1.index t = ![t.val / 8, 4 * (t.val % 8) - 1, 0]
    ∧ win0_2.index t = ![t.val / 8, t.val % 8, 0]
    ∧ win0_3.index t = ![t.val / 8, min (4 * (t.val % 8) + 4) 31, 0]
    ∧ win0_4.index t = ![t.val / 8, 4 * (t.val % 8) - 1, 0]
    ∧ win0_5.index t = ![t.val / 8, t.val % 8, 0]
    ∧ win0_6.index t = ![t.val / 8, min (4 * (t.val % 8) + 4) 31, 0]
    ∧ win0_7.index t = ![t.val / 8, 0, 0]
    ∧ win0_8.index t = ![t.val / 8, 0, 0]
    ∧ win0_9.index t = ![0, 0, 0]
    ∧ win0_10.index t = ![t.val / 8, t.val % 8, 0] :=
  (by decide +kernel : ∀ t : Fin grid0.N, _)

/-- A grid point's second coordinate: its row block. -/
theorem coord : ∀ t : Fin cfg0.N, ((grid0.coords t 1 : Fin _) : ℕ) = t.val % 8 :=
  (by decide +kernel : ∀ t : Fin grid0.N, _)

theorem div_lt (t : Fin cfg0.N) : t.val / 8 < 16 := by
  have : t.val < 128 := t.isLt
  omega

theorem mod_lt (t : Fin cfg0.N) : t.val % 8 < 8 := Nat.mod_lt _ (by norm_num)

/-- Window 0's block holds the scaled queries. -/
theorem read0 (c : Dev nD) (t : Fin cfg0.N) (R : Fin 512) (C : Fin 1024) :
    (iblk m c 0 t : Vec Ideal S1x512x1024 .bf16) (ix3 0 R C)
      = (mulf (m ((c : Thread nD τ).loc main_arg0)) (fun _ => Ideal.ofBits .f32 0x3E000000#32) : FVec Ideal S16x4096x4x4x64 .f32)
          (ix5 ⟨t.val / 8, div_lt t⟩ ⟨t.val % 8 * 512 + R, by have := mod_lt t; omega⟩ ⟨C / 256, by omega⟩ ⟨C / 64 % 4, by omega⟩
            ⟨C % 64, by omega⟩) := by
  pointwise [iblk, V]
  entry_read
  have e : (((View.whole main_v3).slice (win0_0.rect t)).emb (ix3 0 R C))
      = ix3 ⟨t.val / 8, div_lt t⟩ ⟨t.val % 8 * 512 + R, by have := mod_lt t; omega⟩ C := by
    blk_ext! [blockIdx t]
  have rd : ∀ X : FVec Ideal S16x4096x1024 .bf16,
      View.read (Elt Ideal) ((View.whole main_v3).slice ((win0 0).rect t)) X (ix3 0 R C)
        = X (ix3 ⟨t.val / 8, div_lt t⟩ ⟨t.val % 8 * 512 + R, by have := mod_lt t; omega⟩ C) := fun X => congrArg X e
  refine (rd _).trans ?_
  pointwise []

/-- Window 1's block holds rows of argument 1. -/
theorem read1 (c : Dev nD) (t : Fin cfg0.N) (R : Fin 128) (C : Fin 256) :
    (iblk m c 1 t : Vec Ideal S1x128x256 .bf16) (ix3 0 R C)
      = (m ((c : Thread nD τ).loc main_arg1) : FVec Ideal S16x4096x4x64 .f32)
          (ix4 ⟨t.val / 8, div_lt t⟩ ⟨(4 * (t.val % 8) - 1) * 128 + R, by have := mod_lt t; have := R.isLt; omega⟩ ⟨C / 64, by omega⟩ ⟨C % 64, by omega⟩) := by
  blk_point [iblk, V, blockIdx t]

/-- Window 2's block holds rows of argument 1. -/
theorem read2 (c : Dev nD) (t : Fin cfg0.N) (R : Fin 512) (C : Fin 256) :
    (iblk m c 2 t : Vec Ideal S1x512x256 .bf16) (ix3 0 R C)
      = (m ((c : Thread nD τ).loc main_arg1) : FVec Ideal S16x4096x4x64 .f32)
          (ix4 ⟨t.val / 8, div_lt t⟩ ⟨t.val % 8 * 512 + R, by have := mod_lt t; have := R.isLt; omega⟩ ⟨C / 64, by omega⟩ ⟨C % 64, by omega⟩) := by
  blk_point [iblk, V, blockIdx t]

/-- Window 3's block holds rows of argument 1. -/
theorem read3 (c : Dev nD) (t : Fin cfg0.N) (R : Fin 128) (C : Fin 256) :
    (iblk m c 3 t : Vec Ideal S1x128x256 .bf16) (ix3 0 R C)
      = (m ((c : Thread nD τ).loc main_arg1) : FVec Ideal S16x4096x4x64 .f32)
          (ix4 ⟨t.val / 8, div_lt t⟩ ⟨min (4 * (t.val % 8) + 4) 31 * 128 + R, by have := mod_lt t; have := R.isLt; omega⟩ ⟨C / 64, by omega⟩ ⟨C % 64, by omega⟩) := by
  blk_point [iblk, V, blockIdx t]

/-- Window 4's block holds rows of argument 2. -/
theorem read4 (c : Dev nD) (t : Fin cfg0.N) (R : Fin 128) (C : Fin 256) :
    (iblk m c 4 t : Vec Ideal S1x128x256 .bf16) (ix3 0 R C)
      = (m ((c : Thread nD τ).loc main_arg2) : FVec Ideal S16x4096x4x64 .f32)
          (ix4 ⟨t.val / 8, div_lt t⟩ ⟨(4 * (t.val % 8) - 1) * 128 + R, by have := mod_lt t; have := R.isLt; omega⟩ ⟨C / 64, by omega⟩ ⟨C % 64, by omega⟩) := by
  blk_point [iblk, V, blockIdx t]

/-- Window 5's block holds rows of argument 2. -/
theorem read5 (c : Dev nD) (t : Fin cfg0.N) (R : Fin 512) (C : Fin 256) :
    (iblk m c 5 t : Vec Ideal S1x512x256 .bf16) (ix3 0 R C)
      = (m ((c : Thread nD τ).loc main_arg2) : FVec Ideal S16x4096x4x64 .f32)
          (ix4 ⟨t.val / 8, div_lt t⟩ ⟨t.val % 8 * 512 + R, by have := mod_lt t; have := R.isLt; omega⟩ ⟨C / 64, by omega⟩ ⟨C % 64, by omega⟩) := by
  blk_point [iblk, V, blockIdx t]

/-- Window 6's block holds rows of argument 2. -/
theorem read6 (c : Dev nD) (t : Fin cfg0.N) (R : Fin 128) (C : Fin 256) :
    (iblk m c 6 t : Vec Ideal S1x128x256 .bf16) (ix3 0 R C)
      = (m ((c : Thread nD τ).loc main_arg2) : FVec Ideal S16x4096x4x64 .f32)
          (ix4 ⟨t.val / 8, div_lt t⟩ ⟨min (4 * (t.val % 8) + 4) 31 * 128 + R, by have := mod_lt t; have := R.isLt; omega⟩ ⟨C / 64, by omega⟩ ⟨C % 64, by omega⟩) := by
  blk_point [iblk, V, blockIdx t]

/-- Window 7's block holds rows of argument 3. -/
theorem read7 (c : Dev nD) (t : Fin cfg0.N) (R : Fin 256) (C : Fin 256) :
    (iblk m c 7 t : Vec Ideal S1x256x256 .bf16) (ix3 0 R C)
      = (m ((c : Thread nD τ).loc main_arg3) : FVec Ideal S16x256x4x64 .f32)
          (ix4 ⟨t.val / 8, div_lt t⟩ ⟨R, by have := mod_lt t; have := R.isLt; omega⟩ ⟨C / 64, by omega⟩ ⟨C % 64, by omega⟩) := by
  blk_point [iblk, V, blockIdx t]

/-- Window 8's block holds rows of argument 4. -/
theorem read8 (c : Dev nD) (t : Fin cfg0.N) (R : Fin 256) (C : Fin 256) :
    (iblk m c 8 t : Vec Ideal S1x256x256 .bf16) (ix3 0 R C)
      = (m ((c : Thread nD τ).loc main_arg4) : FVec Ideal S16x256x4x64 .f32)
          (ix4 ⟨t.val / 8, div_lt t⟩ ⟨R, by have := mod_lt t; have := R.isLt; omega⟩ ⟨C / 64, by omega⟩ ⟨C % 64, by omega⟩) := by
  blk_point [iblk, V, blockIdx t]

/-- Window 9's block holds the sinks, each head's repeated over its tile's rows. -/
theorem read9 (c : Dev nD) (t : Fin cfg0.N) (h : Fin 4) (R : Fin 512) :
    (iblk m c 9 t : Vec Ideal S4x512x1 .f32) (ix3 h R 0)
      = (m ((c : Thread nD τ).loc main_arg5) : FVec Ideal S16 .f32) (ix1 ⟨h * 4 + R / 128, by omega⟩) := by
  blk_point [iblk, V, blockIdx t]

/-- The result array as one function of the argument arrays. -/
def result (q : FVec Ideal S16x4096x4x4x64 .f32) (k v : FVec Ideal S16x4096x4x64 .f32) (kc vc : FVec Ideal S16x256x4x64 .f32)
    (s : FVec Ideal S16 .f32) : FVec Ideal S16x4096x1024 .bf16 := fun i =>
  have h2 : (i 2 : ℕ) < 1024 := (i 2).isLt
  rowAt q k v kc vc s (i 0) (i 1) ⟨(i 2 : ℕ) / 256, by omega⟩ ⟨(i 2 : ℕ) / 64 % 4, by omega⟩ ⟨(i 2 : ℕ) % 64, by omega⟩

/-- Two entries at equal places. -/
theorem row_congr (q : FVec Ideal S16x4096x4x4x64 .f32) (k v : FVec Ideal S16x4096x4x64 .f32) (kc vc : FVec Ideal S16x256x4x64 .f32)
    (s : FVec Ideal S16 .f32) {b b' : Fin 16} {L L' : Fin 4096} {h h' g g' : Fin 4} {d d' : Fin 64} (e0 : (b : ℕ) = b')
    (e1 : (L : ℕ) = L') (e2 : (h : ℕ) = h') (e3 : (g : ℕ) = g') (e4 : (d : ℕ) = d') :
    rowAt q k v kc vc s b L h g d = rowAt q k v kc vc s b' L' h' g' d' := by
  rw [Fin.ext e0, Fin.ext e1, Fin.ext e2, Fin.ext e3, Fin.ext e4]

/-- What the body stores at index `y` of point `t`'s block is `result` at the array index `y` sits at. -/
theorem stored (c : Dev nD) (t : Fin cfg0.N) (y : S1x512x1024.Idx) :
    tileOut (grid0.coords t 1) (iblk m c 0 t) (iblk m c 1 t) (iblk m c 2 t) (iblk m c 3 t) (iblk m c 4 t) (iblk m c 5 t)
        (iblk m c 6 t) (iblk m c 7 t) (iblk m c 8 t) (iblk m c 9 t) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 10).blk t).view.emb y) := by
  rw [coord]
  refine (tile_row ⟨t.val / 8, div_lt t⟩ ⟨t.val % 8, mod_lt t⟩ (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) _ _ _ _ _ _ _ _ _ _ (read0 m c t) (read1 m c t)
    (read2 m c t) (read3 m c t) (read4 m c t) (read5 m c t) (read6 m c t) (read7 m c t) (read8 m c t) (read9 m c t) y (y 1) (y 2)
    (y 1).isLt (y 2).isLt rfl rfl).trans ?_
  have e0 : ((((cfg0.win 10).blk t).view.emb y 0 : Fin 16) : ℕ) = t.val / 8 := by blk_simp [blockIdx t]
  have e1 : ((((cfg0.win 10).blk t).view.emb y 1 : Fin 4096) : ℕ) = t.val % 8 * 512 + (y 1 : ℕ) := by blk_simp [blockIdx t]
  have e2 : ((((cfg0.win 10).blk t).view.emb y 2 : Fin 1024) : ℕ) = (y 2 : ℕ) := by blk_simp [blockIdx t]
  exact row_congr _ _ _ _ _ _ e0.symm e1.symm (by simp only [e2]) (by simp only [e2]) (by simp only [e2])

/-- The result array after the run. -/
theorem final (c : Dev nD) : (dats m 0 c).arrAt 10 (cfgs 0).N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  exact (out _ _ _ _ _ _ _ _ _ _ _ y).trans (stored m c t y)

end Cert.KernelIdeal.Attn

end
-- ==== Proof.AttnRef.lean ====
/- The attention's reference, entry by entry. -/
module

public import proofs.«01_k».proof.Proof.AttnBlocks
public import proofs.«01_k».proof.Proof.Gen.ReferenceIdeal
public import proofs.«01_k».proof.Proof.Gen.ReferenceIdeal.Run
public import Idealize.ShloMosaic.Lib.Pipeline.ValueKit

@[expose] public section

set_option maxRecDepth 65536

noncomputable section

namespace Cert.ReferenceIdeal.Attn

open Idealize.ShloMosaic Idealize.ShloMosaic.TcCoe Idealize.SL.Sem
open scoped BigOperators
open Cert.ReferenceIdeal Cert.ReferenceIdeal.Gen Cert.ReferenceIdeal.Value Cert.Attn
open Cert.KernelIdeal.Attn (near score scores rowAt)

/-- The scores of every query: over the sequence's keys with the far ones at minus infinity, over the context's keys, and the
    sink, side by side. -/
def allScores (q : FVec Ideal S16x4096x4x4x64 .f32) (k : FVec Ideal S16x4096x4x64 .f32) (kc : FVec Ideal S16x256x4x64 .f32)
    (s : FVec Ideal S16 .f32) : FVec Ideal S16x4x4x4096x4353 .f32 :=
  (concatenate S16x4x4x4096x4353 4 [⟨S16x4x4x4096x4096, ((select (broadcastInDim S16x4x4x4096x4096 ![3, 4]
    bcast_S4096x4096_S16x4x4x4096x4096_3_4 (cmpi .sle (absi (subi (broadcastInDim S4096x4096 ![0, 1]
    bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1
    (iotaInDim S4096 32 0))))) (broadcastInDim S4096x4096 ![] bcast_S_S4096x4096 (constantI S_ 32 128#32)))) (mulf
    (transpose S16x4x4x4096x4096 [0, 1, 4, 3, 2] (Host.dotGeneral
    dot_S16x4096x4x64_S16x4096x4x4x64_S16x4x4096x4096x4_3_4_1_13_02_02 none k q)
    transposes_S16x4x4096x4096x4_S16x4x4x4096x4096_0_1_4_3_2) (broadcastInDim S16x4x4x4096x4096 ![]
    bcast_S_S16x4x4x4096x4096 (constant (F := Ideal) S_ .f32 0x3E000000#32))) (broadcastInDim S16x4x4x4096x4096 ![]
    bcast_S_S16x4x4x4096x4096 (id (constant (F := Ideal) S_ .f32 0xFF800000#32)))) : (⟨S16x4x4x4096x4096, .f32⟩ :
    BufTy).Contents (Elt Ideal))⟩, ⟨S16x4x4x4096x256, ((mulf (transpose S16x4x4x4096x256 [0, 1, 4, 3, 2]
    (Host.dotGeneral dot_S16x256x4x64_S16x4096x4x4x64_S16x4x256x4096x4_3_4_1_13_02_02 none kc q)
    transposes_S16x4x256x4096x4_S16x4x4x4096x256_0_1_4_3_2) (broadcastInDim S16x4x4x4096x256 ![]
    bcast_S_S16x4x4x4096x256 (constant (F := Ideal) S_ .f32 0x3E000000#32))) : (⟨S16x4x4x4096x256, .f32⟩ :
    BufTy).Contents (Elt Ideal))⟩, ⟨S16x4x4x4096x1, ((broadcastInDim S16x4x4x4096x1 ![0, 1, 2, 3, 4]
    bcast_S1x4x4x1x1_S16x4x4x4096x1_0_1_2_3_4 (shapeCast _ s shapeCasts_S16_S1x4x4x1x1)) : (⟨S16x4x4x4096x1, .f32⟩ :
    BufTy).Contents (Elt Ideal))⟩] concatenates_S16x4x4x4096x4096_S16x4x4x4096x256_S16x4x4x4096x1_S16x4x4x4096x4353_d4 :
    (⟨S16x4x4x4096x4353, .f32⟩ : BufTy).Contents (Elt Ideal))

/-- The exponential of each score less its row's largest. -/
def powers (X : FVec Ideal S16x4x4x4096x4353 .f32) : FVec Ideal S16x4x4x4096x4353 .f32 :=
  (Host.exp (subf X (broadcastInDim S16x4x4x4096x4353 ![0, 1, 2, 3, 4] bcast_S16x4x4x4096x1_S16x4x4x4096x4353_0_1_2_3_4
    (broadcastInDim S16x4x4x4096x1 ![0, 1, 2, 3] bcast_S16x4x4x4096_S16x4x4x4096x1_0_1_2_3 (maximumf (broadcastInDim
    S16x4x4x4096 ![] bcast_S_S16x4x4x4096 (constant (F := Ideal) S_ .f32 0xFF800000#32)) (Host.reduce FloatOps.maximumf
    X (constant (F := Ideal) S_ .f32 0xFF800000#32) reducesTo_S16x4x4x4096x4353_S16x4x4x4096_d4 h_S_))))))

/-- The softmax of each row. -/
def weights (X : FVec Ideal S16x4x4x4096x4353 .f32) : FVec Ideal S16x4x4x4096x4353 .f32 :=
  (Host.divf (powers X) (broadcastInDim S16x4x4x4096x4353 ![0, 1, 2, 3, 4]
    bcast_S16x4x4x4096x1_S16x4x4x4096x4353_0_1_2_3_4 (broadcastInDim S16x4x4x4096x1 ![0, 1, 2, 3]
    bcast_S16x4x4x4096_S16x4x4x4096x1_0_1_2_3 (Host.reduceAdd (powers X) (constant (F := Ideal) S_ .f32 0x00000000#32)
    reducesTo_S16x4x4x4096x4353_S16x4x4x4096_d4 h_S_))))

/-- The sequence's values weighted and summed. -/
def mixSeq (v : FVec Ideal S16x4096x4x64 .f32) (W : FVec Ideal S16x4x4x4096x4096 .f32) : FVec Ideal S16x4x64x4x4096 .f32 :=
  Host.dotGeneral dot_S16x4096x4x64_S16x4x4x4096x4096_S16x4x64x4x4096_1_4_3_23_02_01 none v W

/-- The context's values weighted and summed. -/
def mixCtx (vc : FVec Ideal S16x256x4x64 .f32) (W : FVec Ideal S16x4x4x4096x256 .f32) : FVec Ideal S16x4x64x4x4096 .f32 :=
  Host.dotGeneral dot_S16x256x4x64_S16x4x4x4096x256_S16x4x64x4x4096_1_4_3_23_02_01 none vc W

/-- Both sums added and the heads laid side by side. -/
def joined (A B : FVec Ideal S16x4x64x4x4096 .f32) : FVec Ideal S16x4096x1024 .bf16 :=
  truncf .bf16 (shapeCast _ (addf (transpose S16x4096x4x4x64 [0, 4, 1, 3, 2] A
    transposes_S16x4x64x4x4096_S16x4096x4x4x64_0_4_1_3_2) (transpose S16x4096x4x4x64 [0, 4, 1, 3, 2] B
    transposes_S16x4x64x4x4096_S16x4096x4x4x64_0_4_1_3_2)) shapeCasts_S16x4096x4x4x64_S16x4096x1024) bitsLt_bf16_f32

/-- The values weighted and summed, the sequence's and the context's, and the heads laid side by side. -/
def mixed (v : FVec Ideal S16x4096x4x64 .f32) (vc : FVec Ideal S16x256x4x64 .f32) (W : FVec Ideal S16x4x4x4096x4353 .f32) :
    FVec Ideal S16x4096x1024 .bf16 :=
  joined (mixSeq v (extractStridedSlice S16x4x4x4096x4096 ![0, 0, 0, 0, 0] W slices_S16x4x4x4096x4353_S16x4x4x4096x4096_0_0_0_0_0))
    (mixCtx vc (extractStridedSlice S16x4x4x4096x256 ![0, 0, 0, 0, 4096] W slices_S16x4x4x4096x4353_S16x4x4x4096x256_0_0_0_0_4096))

variable (m : (ℓ : Loc nD τ sig) → Buf (Elt Ideal) ℓ)

/-- The reference's result is those stages one after the other. -/
theorem result_eq (c : Dev nD) : res_main_v40 m c
    = mixed (m ((c.tc : Thread nD τ).loc main_arg2)) (m ((c.tc : Thread nD τ).loc main_arg4))
        (weights (allScores (m ((c.tc : Thread nD τ).loc main_arg0)) (m ((c.tc : Thread nD τ).loc main_arg1))
          (m ((c.tc : Thread nD τ).loc main_arg3)) (m ((c.tc : Thread nD τ).loc main_arg5)))) := rfl

/-- One entry of the sequence's sum. -/
theorem mixSeq_at (v : FVec Ideal S16x4096x4x64 .f32) (W : FVec Ideal S16x4x4x4096x4096 .f32) (b : Fin 16) (h g : Fin 4)
    (L : Fin 4096) (d : Fin 64) :
    mixSeq v W (ix5 b h d g L) = ∑ x : Fin 4096, v (ix4 b x h d) * W (ix5 b h g L x) := by
  pointwise [mixSeq]

/-- One entry of the context's sum. -/
theorem mixCtx_at (v : FVec Ideal S16x256x4x64 .f32) (W : FVec Ideal S16x4x4x4096x256 .f32) (b : Fin 16) (h g : Fin 4)
    (L : Fin 4096) (d : Fin 64) :
    mixCtx v W (ix5 b h d g L) = ∑ x : Fin 256, v (ix4 b x h d) * W (ix5 b h g L x) := by
  pointwise [mixCtx]

/-- One entry of the joined heads. -/
theorem joined_at (A B : FVec Ideal S16x4x64x4x4096 .f32) (b : Fin 16) (L : Fin 4096) (C : Fin 1024) :
    joined A B (ix3 b L C) = A (ix5 b ⟨C / 256, by omega⟩ ⟨C % 64, by omega⟩ ⟨C / 64 % 4, by omega⟩ L)
      + B (ix5 b ⟨C / 256, by omega⟩ ⟨C % 64, by omega⟩ ⟨C / 64 % 4, by omega⟩ L) := by
  pointwise [joined]

/-- The sequence's share of the weights. -/
theorem sliceSeq_at (W : FVec Ideal S16x4x4x4096x4353 .f32) (b : Fin 16) (h g : Fin 4) (L : Fin 4096) (x : Fin 4096) :
    extractStridedSlice S16x4x4x4096x4096 ![0, 0, 0, 0, 0] W slices_S16x4x4x4096x4353_S16x4x4x4096x4096_0_0_0_0_0 (ix5 b h g L x)
      = W (ix5 b h g L ⟨x, by omega⟩) := by
  refine congrArg W (funext fun a => Fin.ext ?_)
  fin_cases a <;> simp [ix5]

/-- The context's share of the weights. -/
theorem sliceCtx_at (W : FVec Ideal S16x4x4x4096x4353 .f32) (b : Fin 16) (h g : Fin 4) (L : Fin 4096) (x : Fin 256) :
    extractStridedSlice S16x4x4x4096x256 ![0, 0, 0, 0, 4096] W slices_S16x4x4x4096x4353_S16x4x4x4096x256_0_0_0_0_4096 (ix5 b h g L x)
      = W (ix5 b h g L ⟨4096 + x, by omega⟩) := by
  refine congrArg W (funext fun a => Fin.ext ?_)
  fin_cases a <;> simp [ix5]

/-- The largest score of a row. -/
def rowTop (X : Fin 4353 → EReal) : EReal := max ⊥ (Finset.univ.fold max ⊥ X)

/-- The index of an entry of a row, the row's index with the entry's place put last. -/
theorem lift_eq (hr : S16x4x4x4096x4353.Reduces [4] S16x4x4x4096) (b : Fin 16) (h g : Fin 4) (L : Fin 4096) (x : Fin 4353) :
    hr.lift (ix4 b h g L) x = ix5 b h g L x := by
  funext a
  refine Fin.ext ?_
  fin_cases a <;> rfl

/-- The maximum of a row as a fold over its entries. -/
theorem fold_at (X : FVec Ideal S16x4x4x4096x4353 .f32) (b : Fin 16) (h g : Fin 4) (L : Fin 4096) :
    Host.reduce FloatOps.maximumf X (constant (F := Ideal) S_ .f32 0xFF800000#32)
        reducesTo_S16x4x4x4096x4353_S16x4x4x4096_d4 h_S_ (ix4 b h g L)
      = Finset.univ.fold max (Ideal.ofBits .f32 0xFF800000#32) fun x => X (ix5 b h g L x) := by
  have hr : S16x4x4x4096x4353.Reduces [4] S16x4x4x4096 := by decide
  refine (Host.reduce_eq_fold_single _ _ _ _ hr _ _).trans ?_
  exact congrArg (fun f : Fin 4353 → EReal => Finset.univ.fold max (Ideal.ofBits .f32 0xFF800000#32) f)
    (funext fun x => congrArg X (lift_eq hr b h g L x))

/-- A maximum of two arrays at an index. -/
theorem max_rows (A B : FVec Ideal S16x4x4x4096 .f32) (j : S16x4x4x4096.Idx) : maximumf A B j = max (A j : EReal) (B j) := rfl

/-- Minus infinity spread over the rows. -/
theorem low_rows (j : S16x4x4x4096.Idx) :
    (broadcastInDim S16x4x4x4096 ![] bcast_S_S16x4x4x4096 (constant (F := Ideal) S_ .f32 0xFF800000#32) :
      FVec Ideal S16x4x4x4096 .f32) j = Ideal.ofBits .f32 0xFF800000#32 := rfl

/-- The largest of a row, from the maximum with minus infinity on. -/
theorem max_at (X : FVec Ideal S16x4x4x4096x4353 .f32) (b : Fin 16) (h g : Fin 4) (L : Fin 4096) :
    (maximumf (broadcastInDim S16x4x4x4096 ![] bcast_S_S16x4x4x4096 (constant (F := Ideal) S_ .f32 0xFF800000#32))
      (Host.reduce FloatOps.maximumf X (constant (F := Ideal) S_ .f32 0xFF800000#32)
        reducesTo_S16x4x4x4096x4353_S16x4x4x4096_d4 h_S_) : FVec Ideal S16x4x4x4096 .f32) (ix4 b h g L)
      = rowTop fun x => X (ix5 b h g L x) := by
  rw [rowTop, max_rows, fold_at, low_rows, Cert.KernelIdeal.Attn.neg_inf]

/-- One exponential. -/
theorem powers_at (X : FVec Ideal S16x4x4x4096x4353 .f32) (b : Fin 16) (h g : Fin 4) (L : Fin 4096) (x : Fin 4353) :
    powers X (ix5 b h g L x) = Ideal.exp (X (ix5 b h g L x) - rowTop fun x => X (ix5 b h g L x)) := by
  rw [powers, ← max_at]
  generalize (maximumf (broadcastInDim S16x4x4x4096 ![] bcast_S_S16x4x4x4096 (constant (F := Ideal) S_ .f32 0xFF800000#32))
      (Host.reduce FloatOps.maximumf X (constant (F := Ideal) S_ .f32 0xFF800000#32)
        reducesTo_S16x4x4x4096x4353_S16x4x4x4096_d4 h_S_) : FVec Ideal S16x4x4x4096 .f32) = M
  pointwise []

/-- One weight. -/
theorem weights_at (X : FVec Ideal S16x4x4x4096x4353 .f32) (b : Fin 16) (h g : Fin 4) (L : Fin 4096) (x : Fin 4353) :
    weights X (ix5 b h g L x) = Ideal.div (powers X (ix5 b h g L x)) (∑ x, powers X (ix5 b h g L x)) := by
  rw [weights]
  generalize powers X = Y
  pointwise []

/-- The reference's test of two positions' distance. -/
theorem near_word (L n : ℕ) (hL : L < 4096) (hn : n < 4096) :
    IntOp.cmpi .sle (IntOp.absi (IntOp.subi (BitVec.ofNat 32 L) (BitVec.ofNat 32 n))) 128#32 = 1#1 ↔ near L n := by
  have e : (IntOp.subi (BitVec.ofNat 32 L) (BitVec.ofNat 32 n)).toInt = (L : ℤ) - n := by
    rw [IntOp.subi, BitVec.toInt_eq_toNat_cond]
    simp only [BitVec.toNat_sub, BitVec.toNat_ofNat]
    split <;> omega
  generalize IntOp.subi (BitVec.ofNat 32 L) (BitVec.ofNat 32 n) = w at e
  have a : (IntOp.absi w).toInt = |(L : ℤ) - n| := by
    rw [IntOp.absi, BitVec.msb_eq_toInt]
    by_cases h : w.toInt < 0
    · rw [if_pos (by simpa using h), ← e, abs_of_neg h]
      have lt := w.isLt
      have := w.toInt_eq_toNat_cond
      rw [BitVec.toInt_eq_toNat_cond (x := -w), BitVec.toNat_neg]
      split at this <;> split <;> omega
    · rw [if_neg (by simpa using h), ← e, abs_of_nonneg (by omega)]
  rw [show IntOp.cmpi .sle (IntOp.absi w) 128#32 = BitVec.ofBool (decide ((IntOp.absi w).toInt ≤ (128#32).toInt)) from rfl, a,
    show (128#32).toInt = 128 by decide, show ∀ p : Bool, BitVec.ofBool p = 1#1 ↔ p = true by decide, decide_eq_true_eq, near,
    abs_le]
  omega

/-- A score kept where the test holds and minus infinity elsewhere. -/
theorem pick (w : BitVec 1) (P : Prop) [Decidable P] (h : w = 1#1 ↔ P) (a z : EReal) (hz : z = ⊥) :
    Scalar.select w a z = if P then a else ⊥ := by
  subst hz
  exact if_congr h rfl rfl

/-- One score, written with the key first. -/
theorem score_comm (q k : Fin 64 → EReal) : (∑ e, k e * q e) * Ideal.ofBits .f32 0x3E000000#32 = score q k := by
  simp only [score, mul_comm]

/-- One score. -/
theorem allScores_at (q : FVec Ideal S16x4096x4x4x64 .f32) (k : FVec Ideal S16x4096x4x64 .f32) (kc : FVec Ideal S16x256x4x64 .f32)
    (s : FVec Ideal S16 .f32) (b : Fin 16) (h g : Fin 4) (L : Fin 4096) (x : Fin (4096 + 256 + 1)) :
    allScores q k kc s (ix5 b h g L x)
      = if hx : (x : ℕ) < 4096 then (fun n : Fin 4096 => scores q k kc b L h g (Sum.inl n)) ⟨x, hx⟩
        else if hx : (x : ℕ) - 4096 < 256 then (fun n : Fin 256 => scores q k kc b L h g (Sum.inr n)) ⟨(x : ℕ) - 4096, hx⟩
        else s (ix1 ⟨(h : ℕ) * 4 + g, by omega⟩) := by
  pointwise [allScores]
  split
  · refine (pick _ (near L x) (near_word L x L.isLt (by assumption)) _ _ Cert.KernelIdeal.Attn.neg_inf).trans ?_
    exact if_congr Iff.rfl (score_comm _ _) rfl
  · split
    · exact score_comm _ _
    · rfl

/-- The largest of a row that is two runs and one last entry. -/
theorem rowTop_eq (X : Fin (4096 + 256 + 1) → EReal) (F : Fin 4096 → EReal) (G : Fin 256 → EReal) (S : EReal)
    (hX : ∀ x, X x = if h : (x : ℕ) < 4096 then F ⟨x, h⟩ else if h' : (x : ℕ) - 4096 < 256 then G ⟨(x : ℕ) - 4096, h'⟩ else S) :
    rowTop X = top (Sum.elim F G) S := by
  rw [funext hX, top, ← sup_split 4096 256 F G S]
  exact max_eq_right bot_le

/-- A row of normalised weights against the values is the quotient of sums. -/
theorem row_eq (X : Fin (4096 + 256 + 1) → EReal) (F : Fin 4096 → EReal) (G : Fin 256 → EReal) (S : EReal)
    (v : Fin 4096 → EReal) (w : Fin 256 → EReal)
    (hX : ∀ x, X x = if h : (x : ℕ) < 4096 then F ⟨x, h⟩ else if h' : (x : ℕ) - 4096 < 256 then G ⟨(x : ℕ) - 4096, h'⟩ else S)
    (hne : top (Sum.elim F G) S ≠ ⊤) (hS : S ≠ ⊥) (lt : ∀ x : Fin 4096, (x : ℕ) < 4096 + 256 + 1)
    (lt' : ∀ x : Fin 256, 4096 + (x : ℕ) < 4096 + 256 + 1) :
    ∑ x, v x * Ideal.div (Ideal.exp (X ⟨x, lt x⟩ - rowTop X)) (∑ y, Ideal.exp (X y - rowTop X))
        + ∑ x, w x * Ideal.div (Ideal.exp (X ⟨4096 + x, lt' x⟩ - rowTop X)) (∑ y, Ideal.exp (X y - rowTop X))
      = attend (Sum.elim F G) (Sum.elim v w) S := by
  have hM := rowTop_eq X F G S hX
  have hF : ∀ x : Fin 4096, X ⟨x, lt x⟩ = F x := fun x => (hX _).trans (dif_pos x.isLt)
  have hG : ∀ x : Fin 256, X ⟨4096 + x, lt' x⟩ = G x := fun x => by
    rw [hX, dif_neg (by simp), dif_pos (by simp)]
    simp
  generalize rowTop X = M at *
  have hD : ∑ y, Ideal.exp (X y - M) = ∑ x, Ideal.exp (F x - M) + ∑ x, Ideal.exp (G x - M) + Ideal.exp (S - M) := by
    rw [← sum_split 4096 256 (fun t => Ideal.exp (t - M)) F G S]
    exact Finset.sum_congr rfl fun x _ => by rw [hX]
  simp only [hF, hG]
  exact attend_normal 4096 256 F G v w S M _ hM (hM ▸ hne) hS hD

/-- Every entry a real number. -/
def Finite {ι : Type} (x : ι → EReal) : Prop := ∀ i, x i ≠ ⊤ ∧ x i ≠ ⊥

/-- The score of two rows of real numbers is below infinity. -/
theorem score_ne_top (q k : Fin 64 → EReal) (hq : Finite q) (hk : Finite k) : score q k ≠ ⊤ := by
  have e : ∀ x : EReal, x ≠ ⊤ ∧ x ≠ ⊥ → ∃ r : ℝ, x = r := fun x h => ⟨x.toReal, (EReal.coe_toReal h.1 h.2).symm⟩
  choose a ha using fun i => e (q i) (hq i)
  choose b hb using fun i => e (k i) (hk i)
  have hs : ∀ s : Finset (Fin 64), ∑ i ∈ s, q i * k i = ((∑ i ∈ s, a i * b i : ℝ) : EReal) := by
    intro s
    induction s using Finset.cons_induction with
    | empty => simp
    | cons x s hx ih => rw [Finset.sum_cons, Finset.sum_cons, ih, ha, hb, EReal.coe_add, EReal.coe_mul]
  rw [score, hs, Cert.KernelIdeal.Attn.eighth, ← EReal.coe_mul]
  exact EReal.coe_ne_top _

/-- The largest score of a row is below infinity when queries, keys and sinks are real numbers. -/
theorem top_ne_top (q : FVec Ideal S16x4096x4x4x64 .f32) (k : FVec Ideal S16x4096x4x64 .f32) (kc : FVec Ideal S16x256x4x64 .f32)
    (S : EReal) (hq : Finite q) (hk : Finite k) (hkc : Finite kc) (hS : S ≠ ⊤) (b : Fin 16) (L : Fin 4096) (h g : Fin 4) :
    top (scores q k kc b L h g) S ≠ ⊤ := by
  refine (max_lt ((Finset.sup_lt_iff bot_lt_top).2 fun n _ => ?_) (lt_top_iff_ne_top.2 hS)).ne
  rcases n with n | n
  · rw [scores, Sum.elim_inl]
    split
    · exact lt_top_iff_ne_top.2 (score_ne_top _ _ (fun _ => hq _) fun _ => hk _)
    · exact bot_lt_top
  · exact lt_top_iff_ne_top.2 (score_ne_top _ _ (fun _ => hq _) fun _ => hkc _)

/-- One entry of the reference's stages is one query's attention. -/
theorem mixed_at (q : FVec Ideal S16x4096x4x4x64 .f32) (k v : FVec Ideal S16x4096x4x64 .f32) (kc vc : FVec Ideal S16x256x4x64 .f32)
    (s : FVec Ideal S16 .f32) (hq : Finite q) (hk : Finite k) (hkc : Finite kc) (hs : Finite s) (b : Fin 16) (L : Fin 4096)
    (C : Fin 1024) :
    mixed v vc (weights (allScores q k kc s)) (ix3 b L C) = Cert.KernelIdeal.Attn.result q k v kc vc s (ix3 b L C) := by
  rw [mixed, joined_at, mixSeq_at, mixCtx_at]
  simp only [sliceSeq_at, sliceCtx_at, weights_at, powers_at]
  exact row_eq (fun x => allScores q k kc s (ix5 b _ _ L x)) _ _ _ (fun n => v (ix4 b n _ _)) (fun n => vc (ix4 b n _ _))
    (fun x => allScores_at q k kc s b _ _ L x) (top_ne_top q k kc _ hq hk hkc (hs _).1 b L _ _) (hs _).2
    (fun x => by omega) (fun x => by omega)

end Cert.ReferenceIdeal.Attn

end
-- ==== Proof.AttnClaims.lean ====
/- The claims about the windowed attention call: every execution ends cleanly, and on the extended reals, where queries, keys
   and sinks are real numbers, the kernel computes what the reference does. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_scores
public import proofs.«01_k».proof.Proof.AttnBlocks
public import proofs.«01_k».proof.Proof.AttnRef
public import Idealize.ShloMosaic.Lib.ReduceAll

@[expose] public section

set_option maxRecDepth 16384

noncomputable section

namespace Cert.AttnClaims

open Idealize.ShloMosaic Idealize.ShloMosaic.TcCoe Idealize.SL.Sem
open Cert.ReferenceIdeal.Attn (Finite)

/-- Every execution of the kernel ends, its arguments unchanged and its counters at zero, on rounded numbers. -/
theorem frame_kernel : Cert.quiescent_Kernel := fun m ρ _ => Cert.Kernel.Gen.frame m ρ

/-- The same on the extended reals. -/
theorem frame_kernelIdeal : Cert.quiescent_KernelIdeal := fun m ρ _ => Cert.KernelIdeal.Gen.frame m ρ

/-- And in particular from memories the precondition admits. -/
theorem frame_kernelIdeal_finite : Cert.quiescent_KernelIdeal_pre_finite_scores := fun m ρ _ => Cert.KernelIdeal.Gen.frame m ρ

/-- Every execution of the reference ends, its arguments unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- And in particular from memories the precondition admits. -/
theorem frame_reference_finite : Cert.quiescent_ReferenceIdeal_pre_finite_scores := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- A number whose size is below infinity is a real number. -/
theorem real_of_word {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e, Ideal.cmp] at h
  have lt : max x (-x) < ⊤ := by
    by_contra n
    rw [decide_eq_false n] at h
    exact absurd h (by decide)
  constructor <;> rintro rfl <;> simp at lt

/-- What the precondition says: queries, keys of both kinds and sinks are real numbers. -/
theorem decode {q : FVec Ideal Cert.Pre_finite_scores.S16x4096x4x4x64 .f32} {k v : FVec Ideal Cert.Pre_finite_scores.S16x4096x4x64 .f32}
    {kc vc : FVec Ideal Cert.Pre_finite_scores.S16x256x4x64 .f32} {s : FVec Ideal Cert.Pre_finite_scores.S16 .f32}
    (h : Cert.Pre_finite_scores.fn (F := Ideal) q k v kc vc s = fun _ => 1#1) : Finite q ∧ Finite k ∧ Finite kc ∧ Finite s := by
  have h0 := congrFun h (Shape.Idx.first Cert.Pre_finite_scores.Gen.h_S_)
  obtain ⟨h1, hs⟩ := IntOp.andi_eq_one.1 h0
  obtain ⟨h2, hkc⟩ := IntOp.andi_eq_one.1 h1
  obtain ⟨hq, hk⟩ := IntOp.andi_eq_one.1 h2
  exact ⟨fun j => real_of_word (Host.reduce_andi_all _ _ _ _ _ hq j), fun j => real_of_word (Host.reduce_andi_all _ _ _ _ _ hk j),
    fun j => real_of_word (Host.reduce_andi_all _ _ _ _ _ hkc j), fun j => real_of_word (Host.reduce_andi_all _ _ _ _ _ hs j)⟩

/-- From memories that agree on the arguments the kernel's result is the reference's, entry by entry. -/
theorem algebraic : Cert.algebraic_KernelIdeal_ReferenceIdeal_pre_finite_scores := by
  intro m ρ m' ρ' hp hag
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hag c
  obtain ⟨hq, hk, hkc, hs⟩ := decode (hp c)
  refine Eq.trans ?_ (Cert.KernelIdeal.Attn.final m c).symm
  refine funext fun (i : Cert.ReferenceIdeal.S16x4096x1024.Idx) => ?_
  rw [eq_ix3 i, ← h0, ← h1, ← h2, ← h3, ← h4, ← h5]
  rw [← h0] at hq
  rw [← h1] at hk
  rw [← h3] at hkc
  rw [← h5] at hs
  exact (congrFun (Cert.ReferenceIdeal.Attn.result_eq m' c) _).trans
    (Cert.ReferenceIdeal.Attn.mixed_at _ _ _ _ _ _ hq hk hkc hs (i 0) (i 1) (i 2))

end Cert.AttnClaims

end
-- ==== Proof.FfnRow.lean ====
/- The SwiGLU feed-forward of one token, as a function of the token's row and the weights over the extended reals. -/
module

public import Idealize.ShloMosaic.Lib.Pointwise

@[expose] public section

noncomputable section

namespace Cert.Ffn

open Idealize.ShloMosaic
open scoped BigOperators

/-- The sigmoid-weighted linear unit. -/
def silu (t : EReal) : EReal := t * Ideal.logistic t

/-- One more than an exponential is never zero: an exponential is at least zero. -/
theorem one_add_exp_ne_zero (t : EReal) : (1 : EReal) + Ideal.exp t ≠ 0 := by
  have h : (0 : EReal) ≤ Ideal.exp t := by
    induction t with
    | bot => simp
    | top => simp
    | coe r => simpa using (Real.exp_pos r).le
  have h1 : (1 : EReal) ≤ 1 + Ideal.exp t := by simpa using add_le_add_right h (1 : EReal)
  exact (lt_of_lt_of_le zero_lt_one h1).ne'

/-- The kernel's spelling of the unit, a quotient by one more than an exponential, is the product with the sigmoid:
    the divisor is never zero, so the quotient is the product with its inverse. -/
theorem div_exp_eq_silu (t : EReal) : Ideal.div t (1 + Ideal.exp (0 - t)) = silu t := by
  have h := one_add_exp_ne_zero (-t)
  rw [zero_sub, silu, Ideal.logistic, Ideal.div, if_neg h, Ideal.div, if_neg h, one_mul]

/-- One entry of the SwiGLU feed-forward of a row `h`: the hidden units' gated products, each weighted by its row of the
    down-projection. -/
def swiglu (h : Fin 1024 → EReal) (wg wu : Fin 1024 → Fin 3584 → EReal) (wd : Fin 3584 → Fin 1024 → EReal)
    (d : Fin 1024) : EReal :=
  ∑ f, silu (∑ k, h k * wg k f) * (∑ k, h k * wu k f) * wd f d

/-- One entry of the residual stream after the mixer: the token's own entry, plus the gate times the product of its two
    mixer outputs, set side by side, with the out-projection. -/
def resid (x : Fin 1024 → EReal) (a hy : Fin 512 → EReal) (wo : Fin 1024 → Fin 1024 → EReal) (g1 : Fin 1024 → EReal)
    (d : Fin 1024) : EReal :=
  x d + g1 d * (∑ k : Fin 512, a k * wo ⟨k, by omega⟩ d + ∑ k : Fin 512, hy k * wo ⟨512 + k, by omega⟩ d)

/-- One entry of the modulated root-mean-square norm of a row `u`, with gain `g`, shift `sh` and scale `sc`. The two
    constants are the row's length and the norm's small summand, as the programs print them. -/
def normed (u g sh sc : Fin 1024 → EReal) (d : Fin 1024) : EReal :=
  u d * Ideal.rsqrt (Ideal.div (∑ k, u k * u k) (Ideal.ofBits .f32 0x44800000#32) + Ideal.ofBits .f32 0x358637BD#32) * g d
    * (1 + sc d) + sh d

/-- One entry of the even layer's second half: the residual stream after the mixer, plus the gate times the feed-forward of
    its modulated norm. -/
def mixerFfn (x : Fin 1024 → EReal) (a hy : Fin 512 → EReal) (wo : Fin 1024 → Fin 1024 → EReal)
    (g1 g sh sc gt : Fin 1024 → EReal) (wg wu : Fin 1024 → Fin 3584 → EReal) (wd : Fin 3584 → Fin 1024 → EReal)
    (d : Fin 1024) : EReal :=
  resid x a hy wo g1 d + gt d * swiglu (normed (resid x a hy wo g1) g sh sc) wg wu wd d

end Cert.Ffn

end
-- ==== Proof.MixerRef.lean ====
/- The second program pair's reference, entry by entry: its result is the feed-forward of the token's row. -/
module

public import proofs.«01_k».proof.Proof.Gen.Reference2Ideal.Run
public import proofs.«01_k».proof.Proof.FfnRow

@[expose] public section

set_option maxRecDepth 16384

noncomputable section

namespace Cert.Reference2Ideal.Value

open Idealize.ShloMosaic Idealize.ShloMosaic.TcCoe Idealize.SL.Sem
open scoped BigOperators
open Cert.Reference2Ideal Cert.Reference2Ideal.Gen Cert.Ffn

/-- The reference's result at token `l` of sequence `b`, column `d`. -/
theorem result_at (m : (ℓ : Loc nD τ sig) → Buf (Elt Ideal) ℓ) (c : Dev nD)
    (A0 : FVec Ideal S16x4096x1024 .f32) (h0 : m ((c.tc : Thread nD τ).loc main_arg0) = A0)
    (A1 : FVec Ideal S16x4096x512 .f32) (h1 : m ((c.tc : Thread nD τ).loc main_arg1) = A1)
    (A2 : FVec Ideal S16x4096x512 .f32) (h2 : m ((c.tc : Thread nD τ).loc main_arg2) = A2)
    (A3 : FVec Ideal S1024x1024 .f32) (h3 : m ((c.tc : Thread nD τ).loc main_arg3) = A3)
    (A4 : FVec Ideal S16x1x1024 .f32) (h4 : m ((c.tc : Thread nD τ).loc main_arg4) = A4)
    (A5 : FVec Ideal S1024 .f32) (h5 : m ((c.tc : Thread nD τ).loc main_arg5) = A5)
    (A6 : FVec Ideal S16x1x1024 .f32) (h6 : m ((c.tc : Thread nD τ).loc main_arg6) = A6)
    (A7 : FVec Ideal S16x1x1024 .f32) (h7 : m ((c.tc : Thread nD τ).loc main_arg7) = A7)
    (A8 : FVec Ideal S16x1x1024 .f32) (h8 : m ((c.tc : Thread nD τ).loc main_arg8) = A8)
    (A9 : FVec Ideal S1024x3584 .f32) (h9 : m ((c.tc : Thread nD τ).loc main_arg9) = A9)
    (A10 : FVec Ideal S1024x3584 .f32) (h10 : m ((c.tc : Thread nD τ).loc main_arg10) = A10)
    (A11 : FVec Ideal S3584x1024 .f32) (h11 : m ((c.tc : Thread nD τ).loc main_arg11) = A11)
    (b : Fin 16) (l : Fin 4096) (d : Fin 1024) :
    (show FVec Ideal S16x4096x1024 .f32 from res_main_v31 m c) (ix3 b l d)
      = mixerFfn (fun k => A0 (ix3 b l k)) (fun k => A1 (ix3 b l k)) (fun k => A2 (ix3 b l k)) (fun k j => A3 (ix2 k j))
          (fun k => A4 (ix3 b 0 k)) (fun k => A5 (ix1 k)) (fun k => A6 (ix3 b 0 k)) (fun k => A7 (ix3 b 0 k))
          (fun k => A8 (ix3 b 0 k)) (fun k f => A9 (ix2 k f)) (fun k f => A10 (ix2 k f)) (fun f k => A11 (ix2 f k)) d := by
  rw [res_main_v31, h0, h1, h2, h3, h4, h5, h6, h7, h8, h9, h10, h11]
  pointwise []
  rfl

end Cert.Reference2Ideal.Value

end
-- ==== Proof.MixerKernel.lean ====
/- The second program pair's kernel, entry by entry: a grid point stores the feed-forward of its 512 tokens' rows. -/
module

public import proofs.«01_k».proof.Proof.Gen.Kernel2Ideal.Value
public import proofs.«01_k».proof.Proof.FfnRow
public import Idealize.ShloMosaic.Lib.Pipeline.ValueKit

@[expose] public section

set_option maxRecDepth 16384

noncomputable section

namespace Cert.Kernel2Ideal.Value

open Idealize.ShloMosaic Idealize.ShloMosaic.TcCoe Idealize.SL.Sem
open Idealize.ShloMosaic.Pipeline (Dat)
open scoped BigOperators
open Cert.Kernel2Ideal Cert.Kernel2Ideal.Gen Cert.Ffn

variable (m : (ℓ : Loc nD τ sig) → Buf (Elt Ideal) ℓ)

/-- The result array as one function of the argument arrays. -/
def result (A0 : FVec Ideal S16x4096x1024 .f32) (A1 A2 : FVec Ideal S16x4096x512 .f32) (A3 : FVec Ideal S1024x1024 .f32)
    (A4 : FVec Ideal S16x1x1024 .f32) (A5 : FVec Ideal S1024 .f32) (A6 A7 A8 : FVec Ideal S16x1x1024 .f32)
    (A9 A10 : FVec Ideal S1024x3584 .f32) (A11 : FVec Ideal S3584x1024 .f32) : FVec Ideal S16x4096x1024 .f32 :=
  fun i => mixerFfn (fun k => A0 (ix3 (i 0) (i 1) k)) (fun k => A1 (ix3 (i 0) (i 1) k)) (fun k => A2 (ix3 (i 0) (i 1) k))
    (fun k j => A3 (ix2 k j)) (fun k => A4 (ix3 (i 0) 0 k)) (fun k => A5 (ix1 k)) (fun k => A6 (ix3 (i 0) 0 k))
    (fun k => A7 (ix3 (i 0) 0 k)) (fun k => A8 (ix3 (i 0) 0 k)) (fun k f => A9 (ix2 k f)) (fun k f => A10 (ix2 k f))
    (fun f k => A11 (ix2 f k)) (i 2)

/-- Every window's block index at every grid point: the sequence and the group of 512 tokens the point works on. -/
theorem blockIdx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![0, 0]
    ∧ win0_4.index t = ![t.val / 8, 0, 0]
    ∧ win0_5.index t = ![0, 0]
    ∧ win0_6.index t = ![t.val / 8, 0, 0]
    ∧ win0_7.index t = ![t.val / 8, 0, 0]
    ∧ win0_8.index t = ![t.val / 8, 0, 0]
    ∧ win0_9.index t = ![0, 0]
    ∧ win0_10.index t = ![0, 0]
    ∧ win0_11.index t = ![0, 0]
    ∧ win0_12.index t = ![t.val / 8, t.val % 8, 0] :=
  (by decide +kernel : ∀ t : Fin grid0.N, _)

/-- What the body stores at index `y` of point `t`'s block is `result` at the array index `y` sits at. -/
theorem stored (c : Dev nD) (t : Fin cfg0.N) (y) :
    k0_pay7 (k0_pay1 (iblk m c 1 t) (View.ld (iblk m c 3 t) r0_1) (iblk m c 2 t) (View.ld (iblk m c 3 t) r0_2) (iblk m c 0 t)
        (iblk m c 4 t)) (k0_pay2 (iblk m c 5 t)) (k0_pay3 (iblk m c 6 t)) (k0_pay4 (iblk m c 7 t))
      (k0_pay5 (iblk m c 1 t) (View.ld (iblk m c 3 t) r0_1) (iblk m c 2 t) (View.ld (iblk m c 3 t) r0_2) (iblk m c 0 t)
        (iblk m c 4 t)) (k0_pay6 (F := Ideal)) (iblk m c 9 t) (iblk m c 10 t) (iblk m c 8 t) (iblk m c 11 t) y
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (((cfg0.win 12).blk t).view.emb y) := by
  pointwise [k0_pay7, k0_pay1, k0_pay2, k0_pay3, k0_pay4, k0_pay5, k0_pay6, result, mixerFfn, swiglu, normed, resid,
    div_exp_eq_silu]
  blk_point [iblk, V, blockIdx t]

/-- The result array after the run. -/
theorem final (c : Dev nD) : (dats m 0 c).arrAt 12 (cfgs 0).N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
          (m ((c : Thread nD τ).loc main_arg11)) := by
  refine (dats m 0 c).arrAt_eq_of_covers 12 _ (by decide +kernel) fun t hf y => ?_
  blk_simp
  rw [after0_12]
  frame_out
  exact stored m c t y

end Cert.Kernel2Ideal.Value

end
-- ==== Proof.MixerClaims.lean ====
/- The claims about the even layer's second half: out-projection, residual, norm and feed-forward. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.MixerRef
public import proofs.«01_k».proof.Proof.MixerKernel

@[expose] public section

set_option maxRecDepth 16384

noncomputable section

namespace Cert.MixerClaims

open Idealize.ShloMosaic Idealize.ShloMosaic.TcCoe Idealize.SL.Sem

/-- Every execution of the kernel ends, its arguments unchanged and its counters at zero, on rounded numbers. -/
theorem frame_kernel : Cert.quiescent_Kernel2 := fun m ρ _ => Cert.Kernel2.Gen.frame m ρ

/-- The same on the extended reals. -/
theorem frame_kernelIdeal : Cert.quiescent_Kernel2Ideal := fun m ρ _ => Cert.Kernel2Ideal.Gen.frame m ρ

/-- Every execution of the reference ends, its arguments unchanged; it has no counters. -/
theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- From memories that agree on the arguments the kernel's result is the reference's, entry by entry. -/
theorem algebraic : Cert.algebraic_Kernel2Ideal_Reference2Ideal := by
  intro m ρ m' ρ' _ hag
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10, h11⟩ := hag c
  refine Eq.trans ?_ (Cert.Kernel2Ideal.Value.final m c).symm
  refine funext fun (i : Cert.Reference2Ideal.S16x4096x1024.Idx) => ?_
  rw [eq_ix3 i]
  exact Cert.Reference2Ideal.Value.result_at m' c _ h0 _ h1 _ h2 _ h3 _ h4 _ h5 _ h6 _ h7 _ h8 _ h9 _ h10 _ h11
    (i 0) (i 1) (i 2)

end Cert.MixerClaims

end
-- ==== Proof.ExpertsIdeal.lean ====
/- The expert feed-forward call of `Kernel3Ideal`: what its body does at one point of the grid. -/
module

public import proofs.«01_k».proof.Proof.Gen.Kernel3Ideal.Launch
public import proofs.«01_k».proof.Proof.Gen.Kernel3Ideal.Skeleton
public import Idealize.ShloMosaic.Lib.Pipeline.Frame
public import Idealize.ShloMosaic.Lib.Pipeline.FrameBody
public import Idealize.ShloMosaic.Lib.Pipeline.TableIdle
public import Idealize.ShloMosaic.Lib.Pipeline.Regions
public import Idealize.ShloMosaic.Lib.Pipeline.Quiescent
public import Idealize.ShloMosaic.Lib.Claim
public import Idealize.ShloMosaic.Lib.Affine
public import Idealize.ShloMosaic.Lib.Writes
public import Idealize.ShloMosaic.Lib.Exec
public import Idealize.ShloMosaic.Lib.Tactic
public import Idealize.ShloMosaic.Lib.WordCmp

@[expose] public section

set_option maxRecDepth 65536

noncomputable section

namespace Cert.Kernel3Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel3Ideal.Gen

variable {F : FTy → Type} [FloatOps F]

local notation "𝕄" => MT nD τ sig Unit (Elt F) ℕ (UR sig nD τ) ℕ

/-- The two prefetched tables, whole, as the body sees them. -/
abbrev tabE : Memref sig .tc .smem S286 .i32 := Memref.whole main_arg1
abbrev tabU : Memref sig .tc .smem S286 .i32 := Memref.whole main_arg2

/-- The word of the second table the body reads at a point. -/
abbrev wordU (i : grid0.Coords) (T : Vec F S286 .i32) : Elt F .i32 :=
  View.readAt (Elt F) tabU.view (Rect.unit (s := S286) (k0_off1 i) S1.size (k0_off1_inb i)).toLoadRect T
    (Shape.Idx.first (numel1_S1.symm ▸ Nat.one_pos))

abbrev rTok : Rect S512x1024 := Rect.unit (s := S512x1024) ![0, 0] S512x1024.size inb_S512x1024_S512x1024_0_0
abbrev rIn : Rect S1x1024x3584 := Rect.unit (s := S1x1024x3584) ![0, 0, 0] S1x1024x3584.size inb_S1x1024x3584_S1x1024x3584_0_0_0
abbrev rOut : Rect S1x3584x1024 := Rect.unit (s := S1x3584x1024) ![0, 0, 0] S1x3584x1024.size inb_S1x3584x1024_S1x3584x1024_0_0_0

/-- What the body stores for a block in use. -/
def live (x0 : Vec F S512x1024 .f32) (x1 x2 : Vec F S1x1024x3584 .bf16) (x3 : Vec F S1x3584x1024 .bf16) : Vec F S512x1024 .f32 :=
  View.canon [⟨rTok, k0_pay1 (View.ld x0 rTok) (View.ld x1 rIn) (View.ld x2 rIn) (View.ld x3 rOut)⟩]

/-- What the body stores for a block not in use. -/
def dead : Vec F S512x1024 .f32 := View.canon [⟨rTok, k0_pay2 (F := F)⟩]

/-- One store fills the output block. -/
theorem covers (p0 : Vec F S512x1024 .f32) (y : S512x1024.Idx) :
    ∃ pc ∈ ([⟨rTok, p0⟩] : List (View.Piece (Elt F) S512x1024 .f32)), y ∈ pc.1.set :=
  View.cover_of_tiled [⟨rTok, p0⟩] S512x1024.size (by rfl) y

set_option maxHeartbeats 1000000 in
/-- The body at a block in use: the inputs stay, the output block becomes the expert's result. -/
theorem run_live (c : Dev nD) (E : Set ℕ) (i : grid0.Coords)
    (arg3 : Memref sig .tc .vmem S512x1024 .f32) (harg3 : arg3.IsWhole) (arg4 : Memref sig .tc .vmem S1x1024x3584 .bf16) (harg4 : arg4.IsWhole)
    (arg5 : Memref sig .tc .vmem S1x1024x3584 .bf16) (harg5 : arg5.IsWhole) (arg6 : Memref sig .tc .vmem S1x3584x1024 .bf16) (harg6 : arg6.IsWhole)
    (arg7 : Memref sig .tc .vmem S512x1024 .f32) (harg7 : arg7.IsWhole)
    (x0 : Vec F S512x1024 .f32) (x1 x2 : Vec F S1x1024x3584 .bf16) (x3 : Vec F S1x3584x1024 .bf16)
    (T0 : Vec F S286 .i32) (T1 : Vec F S286 .i32)
    (hw : k0_cond1 (wordU i T1) = 1#1) (hw' : ¬ k0_cond2 (wordU i T1) = 1#1) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (tabE.view.loc (c : Thread nD τ) ↦{fullShare.right} T0) ∗ (tabU.view.loc (c : Thread nD τ) ↦{fullShare.right} T1)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (live x0 x1 x2 x3)
        ∗ (tabE.view.loc (c : Thread nD τ) ↦{fullShare.right} T0) ∗ (tabU.view.loc (c : Thread nD τ) ↦{fullShare.right} T1)) -∗ K ⟨⟩))
      ⊢ wp frame (wpE (defs₀ (F := F)) Variants.none c none) E
          (cc0__moe_kernel i tabE (Memref.isWhole_whole _) tabU (Memref.isWhole_whole _) arg3 harg3 arg4 harg4 arg5 harg5 arg6 harg6 arg7 harg7) K := by
  rw [cc0__moe_kernel_eq_skeleton]; unfold cc0__moe_kernel_skel
  have hT0 : tabE.IsWhole := Memref.isWhole_whole _
  have hT1 : tabU.IsWhole := Memref.isWhole_whole _
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec! (disch := first | (guard_target = ¬(k0_cond2 _ = _); exact hw') | (guard_target = k0_cond1 _ = _; exact hw))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers _)
  isplitl [HT0]; · iexact HT0
  iexact HT1

set_option maxHeartbeats 1000000 in
/-- The body at a block not in use: the inputs stay, the output block becomes zero. -/
theorem run_dead (c : Dev nD) (E : Set ℕ) (i : grid0.Coords)
    (arg3 : Memref sig .tc .vmem S512x1024 .f32) (harg3 : arg3.IsWhole) (arg4 : Memref sig .tc .vmem S1x1024x3584 .bf16) (harg4 : arg4.IsWhole)
    (arg5 : Memref sig .tc .vmem S1x1024x3584 .bf16) (harg5 : arg5.IsWhole) (arg6 : Memref sig .tc .vmem S1x3584x1024 .bf16) (harg6 : arg6.IsWhole)
    (arg7 : Memref sig .tc .vmem S512x1024 .f32) (harg7 : arg7.IsWhole)
    (x0 : Vec F S512x1024 .f32) (x1 x2 : Vec F S1x1024x3584 .bf16) (x3 : Vec F S1x3584x1024 .bf16)
    (T0 : Vec F S286 .i32) (T1 : Vec F S286 .i32)
    (hw : ¬ k0_cond1 (wordU i T1) = 1#1) (hw' : k0_cond2 (wordU i T1) = 1#1) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (tabE.view.loc (c : Thread nD τ) ↦{fullShare.right} T0) ∗ (tabU.view.loc (c : Thread nD τ) ↦{fullShare.right} T1)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (dead (F := F))
        ∗ (tabE.view.loc (c : Thread nD τ) ↦{fullShare.right} T0) ∗ (tabU.view.loc (c : Thread nD τ) ↦{fullShare.right} T1)) -∗ K ⟨⟩))
      ⊢ wp frame (wpE (defs₀ (F := F)) Variants.none c none) E
          (cc0__moe_kernel i tabE (Memref.isWhole_whole _) tabU (Memref.isWhole_whole _) arg3 harg3 arg4 harg4 arg5 harg5 arg6 harg6 arg7 harg7) K := by
  rw [cc0__moe_kernel_eq_skeleton]; unfold cc0__moe_kernel_skel
  have hT0 : tabE.IsWhole := Memref.isWhole_whole _
  have hT1 : tabU.IsWhole := Memref.isWhole_whole _
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec! (disch := first | (guard_target = ¬(k0_cond1 _ = _); exact hw) | (guard_target = k0_cond2 _ = _; exact hw'))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers _)
  isplitl [HT0]; · iexact HT0
  iexact HT1

/-! ## The tables -/

/-- What the two prefetched tables must satisfy: every block names one of the eight experts, and its flag is zero or one. -/
structure Tables (T0 T1 : Vec F S286 .i32) : Prop where
  expert : ∀ j, (show BitVec 32 from T0 j).toNat < 8
  flag : ∀ j, (show BitVec 32 from T1 j) = 0#32 ∨ (show BitVec 32 from T1 j) = 1#32

/-- The word read at a point is one of the table's. -/
theorem wordU_mem (i : grid0.Coords) (T : Vec F S286 .i32) : ∃ j, wordU i T = T j := ⟨_, rfl⟩

/-- Every block an index map chooses from an admitted table lies inside the weights. -/
theorem inside (pf : pre0.Contents (Elt F)) (h : Tables (F := F) (pf 0) (pf 1)) : ok0 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  all_goals
    intro a
    have := h.expert ((Rect.unit (s := S286) (k0_off1 i) S1.size (k0_off1_inb i)).emb (Shape.Idx.first (numel1_S1.symm ▸ Nat.one_pos)))
    match a with
    | 0 => exact (Nat.mul_one _).trans_le this
    | 1 => exact le_of_eq (by rfl)
    | 2 => exact le_of_eq (by rfl)

/-! ## The buffers when the grid starts -/

variable (m : (ℓ : Loc nD τ sig) → Buf (Elt F) ℓ)

/-- A buffer's contents after the host's casts. -/
abbrev V (c : Dev nD) (b : Ref sig .tc) : Buf (Elt F) ((c : Thread nD τ).loc b) :=
  StableHlo.after hostOps0 (fun b => m (c, b)) b

theorem fresh : (hostOps0 : List (HloOp τ sig (Elt F))).Forall fun op => op.fresh = ∅ := by
  simp only [hostOps0, List.Forall]; repeat' constructor

/-- The host leaves the arguments alone. -/
theorem V_arg (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem V_arg0 (c : Dev nD) : V m c main_arg0 = m ((c : Thread nD τ).loc main_arg0) := V_arg m c _ (by decide) (by decide) (by decide)
theorem V_arg1 (c : Dev nD) : V m c main_arg1 = m ((c : Thread nD τ).loc main_arg1) := V_arg m c _ (by decide) (by decide) (by decide)
theorem V_arg2 (c : Dev nD) : V m c main_arg2 = m ((c : Thread nD τ).loc main_arg2) := V_arg m c _ (by decide) (by decide) (by decide)
theorem V_arg3 (c : Dev nD) : V m c main_arg3 = m ((c : Thread nD τ).loc main_arg3) := V_arg m c _ (by decide) (by decide) (by decide)
theorem V_arg4 (c : Dev nD) : V m c main_arg4 = m ((c : Thread nD τ).loc main_arg4) := V_arg m c _ (by decide) (by decide) (by decide)
theorem V_arg5 (c : Dev nD) : V m c main_arg5 = m ((c : Thread nD τ).loc main_arg5) := V_arg m c _ (by decide) (by decide) (by decide)

/-- The condition a run starts under: on every core the two tables are admitted. -/
def Admitted : Prop := ∀ c : Dev nD, Tables (F := F) (m ((c : Thread nD τ).loc main_arg1)) (m ((c : Thread nD τ).loc main_arg2))

variable (hm : Admitted m)

/-- The tables as the grid finds them. -/
abbrev tabs : pre0.Contents (Elt F) := fun k => V m 0 (pre0.ref k)

include hm in
theorem tabs_ok : Tables (F := F) (tabs m 0) (tabs m 1) := by
  have h := hm 0
  rw [← V_arg1 m 0, ← V_arg2 m 0] at h
  exact h

/-- The admissible contents of the tables. -/
abbrev adm : (pcfg0 (F := F)).Adm := ⟨tabs m, inside _ (tabs_ok m hm)⟩

/-- There is one core, so every core's tables are these. -/
theorem V_tab (c : Dev nD) (k : Fin pre0.K) : V m c (pre0.ref k) = tabs m k := by
  have : c = 0 := Subsingleton.elim _ _
  subst this; rfl

/-- An input window's block at a point. -/
abbrev iblk (c : Dev nD) (w : Fin (cfg0 (adm m hm)).W) (t : Fin (cfg0 (adm m hm)).N) :
    ((cfg0 (adm m hm)).win w).block.Idx → Elt F ((cfg0 (adm m hm)).win w).elt :=
  (((cfg0 (adm m hm)).win w).blk t).view.read (Elt F) (V m c (Pipeline.arrRef spec0 w))

/-- What the body leaves in the output block at a point. -/
@[irreducible] def left (c : Dev nD) (t : Fin (cfg0 (adm m hm)).N) : Vec F S512x1024 .f32 :=
  if k0_cond1 (wordU (grid0.coords t) (tabs m 1)) = 1#1 then
    live (iblk m hm c 0 t) (iblk m hm c 1 t) (iblk m hm c 2 t) (iblk m hm c 3 t)
  else dead

/-- The run's data: arrays as the grid finds them; after a point the inputs hold their blocks and the output what the body leaves. -/
def dats (_ : Fin 1) (c : Dev nD) : Dat τ (Elt F) Unit ℕ (UR sig nD τ) ℕ (cfg0 (adm m hm)) c where
  A w := V m c (Pipeline.arrRef spec0 w)
  after w t := match w with
    | ⟨0, _⟩ => iblk m hm c 0 t
    | ⟨1, _⟩ => iblk m hm c 1 t
    | ⟨2, _⟩ => iblk m hm c 2 t
    | ⟨3, _⟩ => iblk m hm c 3 t
    | ⟨4, _⟩ => left m hm c t
  Φ _ := iprop(Pipeline.ΦA spec0 c ∗ Pipeline.ΦT pre0 (tabs m) c)
  q _ := fullShare
  owed _ := 0

theorem A_eq (c : Dev nD) (w : Fin (cfg0 (adm m hm)).W) : (dats m hm 0 c).A w = V m c (Pipeline.arrRef spec0 w) := by
  dsimp only [dats]

theorem after_0 (c : Dev nD) (t) : (dats m hm 0 c).after 0 t = iblk m hm c 0 t := rfl
theorem after_1 (c : Dev nD) (t) : (dats m hm 0 c).after 1 t = iblk m hm c 1 t := rfl
theorem after_2 (c : Dev nD) (t) : (dats m hm 0 c).after 2 t = iblk m hm c 2 t := rfl
theorem after_3 (c : Dev nD) (t) : (dats m hm 0 c).after 3 t = iblk m hm c 3 t := rfl
theorem after_4 (c : Dev nD) (t) : (dats m hm 0 c).after 4 t = left m hm c t := rfl

theorem before_0 (c : Dev nD) (t) (d) : (dats m hm 0 c).before 0 t d = iblk m hm c 0 t :=
  ((dats m hm 0 c).before_in_eq_fetched 0 rfl (fun _ => rfl) (fun _ _ _ => rfl)
    (fun t => by rw [after_0]; unfold Dat.blockOf iblk; rfl) t d).trans (by unfold Dat.fetched Dat.blockOf iblk; rfl)
theorem before_1 (c : Dev nD) (t) (d) : (dats m hm 0 c).before 1 t d = iblk m hm c 1 t :=
  ((dats m hm 0 c).before_in_eq_fetched 1 rfl (fun _ => rfl) (fun _ _ _ => rfl)
    (fun t => by rw [after_1]; unfold Dat.blockOf iblk; rfl) t d).trans (by unfold Dat.fetched Dat.blockOf iblk; rfl)
theorem before_2 (c : Dev nD) (t) (d) : (dats m hm 0 c).before 2 t d = iblk m hm c 2 t :=
  ((dats m hm 0 c).before_in_eq_fetched 2 rfl (fun _ => rfl) (fun _ _ _ => rfl)
    (fun t => by rw [after_2]; unfold Dat.blockOf iblk; rfl) t d).trans (by unfold Dat.fetched Dat.blockOf iblk; rfl)
theorem before_3 (c : Dev nD) (t) (d) : (dats m hm 0 c).before 3 t d = iblk m hm c 3 t :=
  ((dats m hm 0 c).before_in_eq_fetched 3 rfl (fun _ => rfl) (fun _ _ _ => rfl)
    (fun t => by rw [after_3]; unfold Dat.blockOf iblk; rfl) t d).trans (by unfold Dat.fetched Dat.blockOf iblk; rfl)

/-! ## The flags -/

theorem cond1_one : k0_cond1 1#32 = 1#1 := by rfl
theorem cond1_zero : ¬ k0_cond1 0#32 = 1#1 := by decide
theorem cond2_one : ¬ k0_cond2 1#32 = 1#1 := by decide
theorem cond2_zero : k0_cond2 0#32 = 1#1 := by rfl

/-- At every point the word read is one or zero, so exactly one of the two branches runs. -/
theorem branch {T0 T1 : Vec F S286 .i32} (h : Tables T0 T1) (i : grid0.Coords) :
    (k0_cond1 (wordU i T1) = 1#1 ∧ ¬ k0_cond2 (wordU i T1) = 1#1) ∨ (¬ k0_cond1 (wordU i T1) = 1#1 ∧ k0_cond2 (wordU i T1) = 1#1) := by
  obtain ⟨j, hj⟩ := wordU_mem i T1
  rcases h.flag j with h1 | h0
  · right
    have : wordU i T1 = (0#32 : BitVec 32) := hj.trans h1
    rw [this]; exact ⟨cond1_zero, cond2_zero⟩
  · left
    have : wordU i T1 = (1#32 : BitVec 32) := hj.trans h0
    rw [this]; exact ⟨cond1_one, cond2_one⟩

/-- The output is stored at every point. -/
theorem stored_always (i : grid0.Coords) : (cfg0 (adm m hm)).idle 4 i = false := by
  have h := tabs_ok m hm
  have key : ∀ w : BitVec 32, w = 0#32 ∨ w = 1#32 → (!(k0_cond1 w == 1#1) && !(k0_cond2 w == 1#1)) = false := by
    rintro w (rfl | rfl) <;> decide
  show (!(k0_cond1 ((tabs m).atD 1 (k0_off1 i)) == 1#1) && !(k0_cond2 ((tabs m).atD 1 (k0_off2 i)) == 1#1)) = false
  have e : (tabs m).atD 1 (k0_off2 i) = (tabs m).atD 1 (k0_off1 i) := rfl
  rw [e]
  refine key _ ?_
  have hin : ∀ a : Fin (pre0.ref 1).ty.shape.rank, k0_off1 i a + 1 ≤ (pre0.ref 1).ty.shape.size a := fun a =>
    match a with
    | ⟨0, _⟩ => k0_off1_inb i 0
  have e' : (tabs m).atD 1 (k0_off1 i) = tabs m 1 (fun a => ⟨k0_off1 i a, hin a⟩) := dif_pos hin
  rw [e']
  exact h.flag _

/-! ## The body at a point -/

/-- The two tables the body is lent, one by one. -/
theorem lent (c : Dev nD) : (Pipeline.ΦT pre0 (tabs m) c : sProp 𝕄)
    = iprop((tabE.view.loc (c : Thread nD τ) ↦{fullShare.right} tabs m 0) ∗ (tabU.view.loc (c : Thread nD τ) ↦{fullShare.right} tabs m 1)) := by
  unfold Pipeline.ΦT Pipeline.prefHeld
  rw [show (Finset.univ : Finset (Fin pre0.K)) = insert 0 {1} from by decide, bigSep_insert (by decide), bigSep_singleton]
  rfl

/-- The body as the pipeline calls it at a point. -/
abbrev bodyAt (t : Fin (cfg0 (adm m hm)).N) : Prog (TpuEff nD τ sig (Elt F) Λ₀ .tc) PUnit :=
  defs₀ (F := F) .tc (cfg0 (adm m hm)).body ((cfg0 (adm m hm)).bodyArgs t ((cfg0 (adm m hm)).slots t))

/-- A window's current staging buffer. -/
abbrev st (w : Fin (cfg0 (adm m hm)).W) (t : Fin (cfg0 (adm m hm)).N) := ((cfg0 (adm m hm)).win w).stage ((cfg0 (adm m hm)).slots t w)

/-- From the inputs' blocks in their buffers, the body leaves the inputs and the point's result. -/
theorem body_point (c : Dev nD) (t : Fin (cfg0 (adm m hm)).N) :
    iprop((dats m hm 0 c).Φ t.castSucc ∗ (dats m hm 0 c).owesAt () t.castSucc
      ∗ (∃ d, owns (c : Thread nD τ) (st m hm 0 t) fullShare ((dats m hm 0 c).before 0 t d))
      ∗ (∃ d, owns (c : Thread nD τ) (st m hm 1 t) fullShare ((dats m hm 0 c).before 1 t d))
      ∗ (∃ d, owns (c : Thread nD τ) (st m hm 2 t) fullShare ((dats m hm 0 c).before 2 t d))
      ∗ (∃ d, owns (c : Thread nD τ) (st m hm 3 t) fullShare ((dats m hm 0 c).before 3 t d))
      ∗ (∃ d, owns (c : Thread nD τ) (st m hm 4 t) fullShare ((dats m hm 0 c).before 4 t d)))
    ⊢ wp frame (wpE (defs₀ (F := F)) Variants.none c none) Set.univ (bodyAt m hm t) (fun _ =>
      iprop((dats m hm 0 c).Φ t.succ ∗ (dats m hm 0 c).owesAt () t.succ
        ∗ owns (c : Thread nD τ) (st m hm 0 t) fullShare ((dats m hm 0 c).after 0 t)
        ∗ owns (c : Thread nD τ) (st m hm 1 t) fullShare ((dats m hm 0 c).after 1 t)
        ∗ owns (c : Thread nD τ) (st m hm 2 t) fullShare ((dats m hm 0 c).after 2 t)
        ∗ owns (c : Thread nD τ) (st m hm 3 t) fullShare ((dats m hm 0 c).after 3 t)
        ∗ owns (c : Thread nD τ) (st m hm 4 t) fullShare ((dats m hm 0 c).after 4 t))) := by
  rw [show (dats m hm 0 c).Φ t.succ = (dats m hm 0 c).Φ t.castSucc from rfl,
    show (dats m hm 0 c).owesAt () t.succ = (dats m hm 0 c).owesAt () t.castSucc from rfl,
    show (dats m hm 0 c).Φ t.castSucc = iprop(Pipeline.ΦA spec0 c ∗ Pipeline.ΦT pre0 (tabs m) c) from rfl, lent]
  simp only [before_0, before_1, before_2, before_3]
  rw [after_0, after_1, after_2, after_3, after_4]
  unfold bodyAt defs₀
  rw [Defs.onTc_tc]
  rcases branch (tabs_ok m hm) (grid0.coords t) with ⟨h1, h2⟩ | ⟨h1, h2⟩
  · rw [show left m hm c t = live (iblk m hm c 0 t) (iblk m hm c 1 t) (iblk m hm c 2 t) (iblk m hm c 3 t) from by unfold left; exact if_pos h1]
    iintro ⟨⟨HΦ, HT0, HT1⟩, Ho, ⟨%d0, H0⟩, ⟨%d1, H1⟩, ⟨%d2, H2⟩, ⟨%d3, H3⟩, ⟨%d4, H4⟩⟩
    iapply (run_live c Set.univ (grid0.coords t) _ _ _ _ _ _ _ _ _ _ (iblk m hm c 0 t) (iblk m hm c 1 t) (iblk m hm c 2 t) (iblk m hm c 3 t)
      (tabs m 0) (tabs m 1) h1 h2 _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [show left m hm c t = dead from by unfold left; exact if_neg h1]
    iintro ⟨⟨HΦ, HT0, HT1⟩, Ho, ⟨%d0, H0⟩, ⟨%d1, H1⟩, ⟨%d2, H2⟩, ⟨%d3, H3⟩, ⟨%d4, H4⟩⟩
    iapply (run_dead c Set.univ (grid0.coords t) _ _ _ _ _ _ _ _ _ _ (iblk m hm c 0 t) (iblk m hm c 1 t) (iblk m hm c 2 t) (iblk m hm c 3 t)
      (tabs m 0) (tabs m 1) h1 h2 _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The same at every point, in the form the pipeline asks for. -/
theorem body_all (c : Dev nD) : BodyObligation (dats m hm 0 c) (defs₀ (F := F)) Variants.none () Set.univ := fun t => by
  rw [bigSep_W0, bigSep_W0, stored_always]
  exact body_point m hm c t

/-! ## The run -/

set_option backward.isDefEq.respectTransparency.types false in
/-- Every run ends with the arrays as the data say and every counter back at zero. -/
theorem run_all (ρ : Dev nD → PrngReg) :
    θ_run defs (onTc main) ⟨m, fun _ => 0, ρ⟩
      (fun r => Pipeline.FramePost (Pipeline.pin pcfgs (fun _ => adm m hm)) (dats m hm) 0 (V m) r ∧ r.2.sem = fun _ => 0) :=
  Pipeline.θ_run_frameP (Q' := _) pcfgs (fun _ => adm m hm) (dats m hm) (0 : Fin 1) launch0 defs₀ Variants.none m ρ main
    (hbody := fun c => (body_all m hm c).loose) (hshare := fun c => (dats m hm 0 c).share_full fun _ => rfl)
    (howed := fun _ _ => rfl) (V := V m)
    (hmain := Pipeline.hmainP_prefix pcfgs 0 defs₀ Variants.none m main hostOps0 hostOps0_sub fresh main_chain)
    (hA := fun c w => A_eq m hm c w) (hpf := fun c k => V_tab m c k) (hΦ := fun _ _ => rfl)
    (hQ' := fun _ h => h)

/-- Every run leaves the arguments as they were. -/
theorem args_kept {r : PUnit × MemSt nD τ sig (Elt F)}
    (h : Pipeline.FramePost (Pipeline.pin pcfgs (fun _ => adm m hm)) (dats m hm) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨((h c).1 0).trans (((dats m hm 0 c).arrAt_in 0 rfl _).trans ((A_eq m hm c 0).trans (V_arg0 m c))),
    ((h c).2 main_arg1 (Pipeline.mem_restRefs_of main_arg1 (by decide) (fun w => (by decide : ∀ w : Fin 5, (spec0 w).arr.view.ref ≠ main_arg1) w))).trans (V_arg1 m c),
    ((h c).2 main_arg2 (Pipeline.mem_restRefs_of main_arg2 (by decide) (fun w => (by decide : ∀ w : Fin 5, (spec0 w).arr.view.ref ≠ main_arg2) w))).trans (V_arg2 m c),
    ((h c).2 main_arg3 (Pipeline.mem_restRefs_of main_arg3 (by decide) (fun w => (by decide : ∀ w : Fin 5, (spec0 w).arr.view.ref ≠ main_arg3) w))).trans (V_arg3 m c),
    ((h c).2 main_arg4 (Pipeline.mem_restRefs_of main_arg4 (by decide) (fun w => (by decide : ∀ w : Fin 5, (spec0 w).arr.view.ref ≠ main_arg4) w))).trans (V_arg4 m c),
    ((h c).2 main_arg5 (Pipeline.mem_restRefs_of main_arg5 (by decide) (fun w => (by decide : ∀ w : Fin 5, (spec0 w).arr.view.ref ≠ main_arg5) w))).trans (V_arg5 m c)⟩

/-- The output array at the end is the one the points wrote block by block. -/
theorem result_array {r : PUnit × MemSt nD τ sig (Elt F)}
    (h : Pipeline.FramePost (Pipeline.pin pcfgs (fun _ => adm m hm)) (dats m hm) 0 (V m) r) (c : Dev nD) :
    r.2.mem ((c : Thread nD τ).loc main_v3) = (dats m hm 0 c).arrAt 4 (cfg0 (adm m hm)).N := (h c).1 4

end Cert.Kernel3Ideal.Experts

end

end
-- ==== Proof.ExpertRow.lean ====
/- One entry of the expert feed-forward call, as a function of its argument arrays, and the reference's result equal to it. -/
module

public import proofs.«01_k».proof.Proof.Gen.Reference3Ideal.Run
public import proofs.«01_k».proof.Proof.FfnRow

@[expose] public section

set_option maxRecDepth 16384

noncomputable section

namespace Cert.Ffn

open Idealize.ShloMosaic

/-- The expert a table word names. -/
def expertOf (w : BitVec 32) : Fin 8 := ⟨w.toNat % 8, Nat.mod_lt _ (by norm_num)⟩

/-- A word that names an expert is that expert's number. -/
theorem expertOf_val {w : BitVec 32} (h : w.toNat < 8) : (expertOf w).val = w.toNat := Nat.mod_eq_of_lt h

/-- The call's result as one function of its argument arrays: the rows come in blocks of 512; a block whose flag is zero
    is zero, and any other block's row is the feed-forward with the weights of the expert the block's word names. -/
def expertRows (A0 : FVec Ideal ⟨2, ![146432, 1024]⟩ .f32) (A1 A2 : IVec ⟨1, ![286]⟩ 32)
    (A3 A4 : FVec Ideal ⟨3, ![8, 1024, 3584]⟩ .f32) (A5 : FVec Ideal ⟨3, ![8, 3584, 1024]⟩ .f32) :
    FVec Ideal ⟨2, ![146432, 1024]⟩ .f32 := fun i =>
  if A2 (ix1 ⟨(i 0).val / 512, Nat.div_lt_of_lt_mul (i 0).isLt⟩) = 0#32 then 0 else
    swiglu (fun k => A0 (ix2 (i 0) k))
      (fun k f => A3 (ix3 (expertOf (A1 (ix1 ⟨(i 0).val / 512, Nat.div_lt_of_lt_mul (i 0).isLt⟩))) k f))
      (fun k f => A4 (ix3 (expertOf (A1 (ix1 ⟨(i 0).val / 512, Nat.div_lt_of_lt_mul (i 0).isLt⟩))) k f))
      (fun f k => A5 (ix3 (expertOf (A1 (ix1 ⟨(i 0).val / 512, Nat.div_lt_of_lt_mul (i 0).isLt⟩))) f k)) (i 1)

/-- With the flag zero a choice on "flag positive and word equal" is its second branch. -/
theorem choose_dead {α : Type} (c : BitVec 1) (x y : α) :
    Scalar.select (IntOp.andi (IntOp.cmpi .sgt (0#32 : BitVec 32) 0#32) c) x y = y := by
  have : IntOp.andi (IntOp.cmpi .sgt (0#32 : BitVec 32) 0#32) c = 0#1 := by revert c; decide
  rw [this]; rfl

/-- With the flag one it is decided by the word. -/
theorem choose_live {α : Type} (w k : BitVec 32) (x y : α) :
    Scalar.select (IntOp.andi (IntOp.cmpi .sgt (1#32 : BitVec 32) 0#32) (IntOp.cmpi .eq w k)) x y = if w = k then x else y := by
  have h : IntOp.cmpi .eq w k = if w = k then 1#1 else 0#1 := by
    by_cases e : w = k
    · subst e; simp [IntOp.cmpi]
    · rw [if_neg e]; show BitVec.ofBool (w == k) = 0#1; rw [beq_eq_false_iff_ne.mpr e]; rfl
  rw [h]
  by_cases e : w = k
  · rw [if_pos e, if_pos e]; rfl
  · rw [if_neg e, if_neg e]; rfl

/-- A word below eight is one of eight. -/
theorem word_cases {w : BitVec 32} (h : w.toNat < 8) :
    w = 0#32 ∨ w = 1#32 ∨ w = 2#32 ∨ w = 3#32 ∨ w = 4#32 ∨ w = 5#32 ∨ w = 6#32 ∨ w = 7#32 := by
  have h' : w < 8#32 := h
  revert h'
  bv_omega

end Cert.Ffn

namespace Cert.Reference3Ideal.Value

open Idealize.ShloMosaic Idealize.ShloMosaic.TcCoe Idealize.SL.Sem
open scoped BigOperators
open Cert.Reference3Ideal Cert.Reference3Ideal.Gen Cert.Ffn

/-- The reference's result at row `r`, column `d`, when every word names an expert and every flag is zero or one. -/
theorem result_at (V0 : Valuation τ sig (Elt Ideal)) (A0 : FVec Ideal S146432x1024 .f32) (h0 : V0 (Proc.devRef .tc main_arg0) = A0)
    (A1 : IVec S286 32) (h1 : V0 (Proc.devRef .tc main_arg1) = A1)
    (A2 : IVec S286 32) (h2 : V0 (Proc.devRef .tc main_arg2) = A2)
    (A3 : FVec Ideal S8x1024x3584 .f32) (h3 : V0 (Proc.devRef .tc main_arg3) = A3)
    (A4 : FVec Ideal S8x1024x3584 .f32) (h4 : V0 (Proc.devRef .tc main_arg4) = A4)
    (A5 : FVec Ideal S8x3584x1024 .f32) (h5 : V0 (Proc.devRef .tc main_arg5) = A5)
    (hE : ∀ j, (A1 j).toNat < 8) (hU : ∀ j, A2 j = 0#32 ∨ A2 j = 1#32) (r : Fin 146432) (d : Fin 1024) :
    (show FVec Ideal S146432x1024 .f32 from val3 V0 (Proc.devRef .tc main_v128)) (ix2 r d) = expertRows A0 A1 A2 A3 A4 A5 (ix2 r d) := by
  rw [val3_main_v128]
  simp only [res_main_v68, res_main_v11, res_main_v26, res_main_v41, res_main_v56, res_main_v71, res_main_v86, res_main_v101,
    res_main_v116, res_main_v2, res_main_v7]
  rw [h0, h1, h2, h3, h4, h5]
  pointwise []
  unfold expertRows
  show _ = if A2 (ix1 ⟨r.val / 512, _⟩) = 0#32 then (0 : EReal) else
    swiglu (fun k => A0 (ix2 r k)) (fun k f => A3 (ix3 (expertOf (A1 (ix1 ⟨r.val / 512, _⟩))) k f))
      (fun k f => A4 (ix3 (expertOf (A1 (ix1 ⟨r.val / 512, _⟩))) k f)) (fun f k => A5 (ix3 (expertOf (A1 (ix1 ⟨r.val / 512, _⟩))) f k)) d
  rcases hU (ix1 ⟨r.val / 512, Nat.div_lt_of_lt_mul r.isLt⟩) with hu | hu
  · rw [hu, if_pos rfl]
    simp only [choose_dead]
  · rw [hu, if_neg (by decide)]
    simp only [choose_live]
    rcases word_cases (hE (ix1 ⟨r.val / 512, Nat.div_lt_of_lt_mul r.isLt⟩)) with hw | hw | hw | hw | hw | hw | hw | hw
    all_goals
      rw [hw]
      simp only [BitVec.reduceEq, if_true, if_false]
      rfl

end Cert.Reference3Ideal.Value

end
-- ==== Proof.ExpertValue.lean ====
/- The expert feed-forward call, entry by entry: a grid point stores the feed-forward of its 512 rows with the weights of
   the expert its word names, or zeros. -/
module

public import proofs.«01_k».proof.Proof.ExpertsIdeal
public import proofs.«01_k».proof.Proof.ExpertRow
public import Idealize.ShloMosaic.Lib.Pipeline.ValueKit
public import Idealize.ShloMosaic.Lib.Pipeline.Covers

@[expose] public section

set_option maxRecDepth 65536

noncomputable section

namespace Cert.Kernel3Ideal.Experts

open Idealize.ShloMosaic Idealize.ShloMosaic.TcCoe Idealize.SL.Sem
open Idealize.ShloMosaic.Pipeline (Dat)
open scoped BigOperators
open Cert.Kernel3Ideal Cert.Kernel3Ideal.Gen Cert.Ffn

variable (m : (ℓ : Loc nD τ sig) → Buf (Elt Ideal) ℓ) (hm : Admitted m)

/-- The grid has one coordinate, the point itself. -/
theorem coord (t : Fin grid0.N) : (grid0.coords t 0).val = t.val :=
  (by decide +kernel : ∀ t : Fin grid0.N, (grid0.coords t 0).val = t.val) t

/-- The point as a row block. -/
abbrev blk (t : Fin grid0.N) : Fin 286 := ⟨t.val, lt_of_lt_of_eq t.isLt N_0⟩

/-- The flag the body reads at a point is the second table's word there. -/
theorem wordU_eq (T : Vec Ideal S286 .i32) (t : Fin grid0.N) : wordU (grid0.coords t) T = T (ix1 (blk t)) := by
  show T ((Rect.unit (s := S286) (k0_off1 (grid0.coords t)) S1.size (k0_off1_inb _)).emb (Shape.Idx.first (numel1_S1.symm ▸ Nat.one_pos))) = _
  congr 1
  funext a
  match a with
  | ⟨0, _⟩ =>
    apply Fin.ext
    exact (congrArg (· + 1 * 0) ((congrFun (k0_off1_eq (grid0.coords t)) 0).trans (coord t)))

/-- The expert's block the index maps choose at a point is the first table's word there. -/
theorem wordE_eq (pf : pre0.Contents (Elt Ideal)) (t : Fin grid0.N) :
    cc0_transform_1 k0_off1_inb numel1_S1 pf (grid0.coords t) = ![(show BitVec 32 from pf 0 (ix1 (blk t))).toNat, 0, 0] := by
  have : pf.at 0 (Rect.unit (s := S286) (k0_off1 (grid0.coords t)) S1.size (k0_off1_inb _)) numel1_S1 = pf 0 (ix1 (blk t)) :=
    wordU_eq (pf 0) t
  show ![(show BitVec 32 from pf.at 0 (Rect.unit (s := S286) (k0_off1 (grid0.coords t)) S1.size (k0_off1_inb _)) numel1_S1).toNat, 0, 0] = _
  rw [this]

theorem coord_lt (t : Fin grid0.N) : t.val < 286 := lt_of_lt_of_eq t.isLt N_0

/-- The row windows' block index at a point. -/
theorem rowBlock : ∀ t : Fin grid0.N, cc0_transform_0 (grid0.coords t) = ![t.val, 0] ∧ cc0_transform_4 (grid0.coords t) = ![t.val, 0] := by
  decide +kernel

/-- Every window's block index at a point: the point for the rows, the expert its word names for the weights. -/
theorem blockIdx (t : Fin (cfg0 (adm m hm)).N) :
    ((cfg0 (adm m hm)).win 0).index t = ![t.val, 0]
    ∧ ((cfg0 (adm m hm)).win 1).index t = ![(show BitVec 32 from tabs m 0 (ix1 (blk t))).toNat, 0, 0]
    ∧ ((cfg0 (adm m hm)).win 2).index t = ![(show BitVec 32 from tabs m 0 (ix1 (blk t))).toNat, 0, 0]
    ∧ ((cfg0 (adm m hm)).win 3).index t = ![(show BitVec 32 from tabs m 0 (ix1 (blk t))).toNat, 0, 0]
    ∧ ((cfg0 (adm m hm)).win 4).index t = ![t.val, 0] :=
  ⟨(rowBlock t).1, wordE_eq _ t, wordE_eq _ t, wordE_eq _ t, (rowBlock t).2⟩

/-- Where a window's block sits, one axis at a time. -/
theorem rect_at {G : Pipeline.Grid} (w : Pipeline.Window sig G) (t : Fin G.N) (y : (w.xblock (G.coords t)).Idx) (a : Fin w.shape.rank)
    {f : Fin w.shape.rank → Nat} (e : w.index t = f) :
    ((w.rect t).emb y a).val = w.kind.off (f a) (w.size a) + (y a).val := by
  subst e
  rw [Rect.emb_apply]
  exact congrArg (_ + ·) (Nat.one_mul _)

/-- Where the output's block sits at a point. -/
theorem emb_out (t : Fin (cfg0 (adm m hm)).N) (y : S512x1024.Idx) :
    ((((cfg0 (adm m hm)).win 4).rect t).emb y) = (ix2 ⟨t.val * 512 + (y 0).val, by
      have := coord_lt t; have : (y 0).val < 512 := (y 0).isLt; omega⟩ (y 1) : S146432x1024.Idx) := by
  have e := (blockIdx m hm t).2.2.2.2
  funext a
  apply Fin.ext
  refine (rect_at _ t y a e).trans ?_
  match a with
  | ⟨0, _⟩ => rfl
  | ⟨1, _⟩ => exact Nat.zero_add _

/-- Where the tokens' block sits at a point. -/
theorem emb_tok (t : Fin (cfg0 (adm m hm)).N) (y : S512x1024.Idx) :
    ((((cfg0 (adm m hm)).win 0).rect t).emb y) = (ix2 ⟨t.val * 512 + (y 0).val, by
      have := coord_lt t; have : (y 0).val < 512 := (y 0).isLt; omega⟩ (y 1) : S146432x1024.Idx) := by
  have e := (blockIdx m hm t).1
  funext a
  apply Fin.ext
  refine (rect_at _ t y a e).trans ?_
  match a with
  | ⟨0, _⟩ => rfl
  | ⟨1, _⟩ => exact Nat.zero_add _

/-- Where the gate weights' block sits at a point: at the expert its word names. -/
theorem emb_gate (t : Fin (cfg0 (adm m hm)).N) (y : S1x1024x3584.Idx) :
    ((((cfg0 (adm m hm)).win 1).rect t).emb y) = (ix3 (expertOf (tabs m 0 (ix1 (blk t)))) (y 1) (y 2) : S8x1024x3584.Idx) := by
  have e := (blockIdx m hm t).2.1
  funext a
  apply Fin.ext
  refine (rect_at _ t y a e).trans ?_
  match a with
  | ⟨0, _⟩ =>
    have h0 : (y 0).val = 0 := Nat.lt_one_iff.mp (y 0).isLt
    show (show BitVec 32 from tabs m 0 (ix1 (blk t))).toNat * 1 + (y 0).val = (expertOf (tabs m 0 (ix1 (blk t)))).val
    rw [h0, Nat.mul_one, expertOf_val ((tabs_ok m hm).expert _)]; rfl
  | ⟨1, _⟩ => exact Nat.zero_add _
  | ⟨2, _⟩ => exact Nat.zero_add _

/-- Where the up weights' block sits at a point. -/
theorem emb_up (t : Fin (cfg0 (adm m hm)).N) (y : S1x1024x3584.Idx) :
    ((((cfg0 (adm m hm)).win 2).rect t).emb y) = (ix3 (expertOf (tabs m 0 (ix1 (blk t)))) (y 1) (y 2) : S8x1024x3584.Idx) := by
  have e := (blockIdx m hm t).2.2.1
  funext a
  apply Fin.ext
  refine (rect_at _ t y a e).trans ?_
  match a with
  | ⟨0, _⟩ =>
    have h0 : (y 0).val = 0 := Nat.lt_one_iff.mp (y 0).isLt
    show (show BitVec 32 from tabs m 0 (ix1 (blk t))).toNat * 1 + (y 0).val = (expertOf (tabs m 0 (ix1 (blk t)))).val
    rw [h0, Nat.mul_one, expertOf_val ((tabs_ok m hm).expert _)]; rfl
  | ⟨1, _⟩ => exact Nat.zero_add _
  | ⟨2, _⟩ => exact Nat.zero_add _

/-- Where the down weights' block sits at a point. -/
theorem emb_down (t : Fin (cfg0 (adm m hm)).N) (y : S1x3584x1024.Idx) :
    ((((cfg0 (adm m hm)).win 3).rect t).emb y) = (ix3 (expertOf (tabs m 0 (ix1 (blk t)))) (y 1) (y 2) : S8x3584x1024.Idx) := by
  have e := (blockIdx m hm t).2.2.2.1
  funext a
  apply Fin.ext
  refine (rect_at _ t y a e).trans ?_
  match a with
  | ⟨0, _⟩ =>
    have h0 : (y 0).val = 0 := Nat.lt_one_iff.mp (y 0).isLt
    show (show BitVec 32 from tabs m 0 (ix1 (blk t))).toNat * 1 + (y 0).val = (expertOf (tabs m 0 (ix1 (blk t)))).val
    rw [h0, Nat.mul_one, expertOf_val ((tabs_ok m hm).expert _)]; rfl
  | ⟨1, _⟩ => exact Nat.zero_add _
  | ⟨2, _⟩ => exact Nat.zero_add _

/-- The gate weights as the call finds them: the argument, the cast being the identity on extended reals. -/
theorem V_v0 (c : Dev nD) (i : S8x1024x3584.Idx) : (V m c main_v0 : Vec Ideal S8x1024x3584 .bf16) i = (m ((c : Thread nD τ).loc main_arg3) : Vec Ideal S8x1024x3584 .f32) i := by
  entry_read; rfl

/-- The up weights as the call finds them. -/
theorem V_v1 (c : Dev nD) (i : S8x1024x3584.Idx) : (V m c main_v1 : Vec Ideal S8x1024x3584 .bf16) i = (m ((c : Thread nD τ).loc main_arg4) : Vec Ideal S8x1024x3584 .f32) i := by
  entry_read; rfl

/-- The down weights as the call finds them. -/
theorem V_v2 (c : Dev nD) (i : S8x3584x1024.Idx) : (V m c main_v2 : Vec Ideal S8x3584x1024 .bf16) i = (m ((c : Thread nD τ).loc main_arg5) : Vec Ideal S8x3584x1024 .f32) i := by
  entry_read; rfl

/-- The tokens' block, entry by entry. -/
theorem read_tok (c : Dev nD) (t : Fin (cfg0 (adm m hm)).N) (y : S512x1024.Idx) :
    iblk m hm c 0 t y = (m ((c : Thread nD τ).loc main_arg0) : Vec Ideal S146432x1024 .f32) (ix2 ⟨t.val * 512 + (y 0).val, by
      have := coord_lt t; have : (y 0).val < 512 := (y 0).isLt; omega⟩ (y 1)) :=
  (congrArg (V m c main_arg0 : Vec Ideal S146432x1024 .f32) (emb_tok m hm t y)).trans (congrFun (V_arg0 m c) _)

/-- The gate weights' block, entry by entry. -/
theorem read_gate (c : Dev nD) (t : Fin (cfg0 (adm m hm)).N) (y : S1x1024x3584.Idx) :
    iblk m hm c 1 t y = (m ((c : Thread nD τ).loc main_arg3) : Vec Ideal S8x1024x3584 .f32) (ix3 (expertOf (tabs m 0 (ix1 (blk t)))) (y 1) (y 2)) :=
  (congrArg (V m c main_v0 : Vec Ideal S8x1024x3584 .bf16) (emb_gate m hm t y)).trans (V_v0 m c _)

/-- The up weights' block, entry by entry. -/
theorem read_up (c : Dev nD) (t : Fin (cfg0 (adm m hm)).N) (y : S1x1024x3584.Idx) :
    iblk m hm c 2 t y = (m ((c : Thread nD τ).loc main_arg4) : Vec Ideal S8x1024x3584 .f32) (ix3 (expertOf (tabs m 0 (ix1 (blk t)))) (y 1) (y 2)) :=
  (congrArg (V m c main_v1 : Vec Ideal S8x1024x3584 .bf16) (emb_up m hm t y)).trans (V_v1 m c _)

/-- The down weights' block, entry by entry. -/
theorem read_down (c : Dev nD) (t : Fin (cfg0 (adm m hm)).N) (y : S1x3584x1024.Idx) :
    iblk m hm c 3 t y = (m ((c : Thread nD τ).loc main_arg5) : Vec Ideal S8x3584x1024 .f32) (ix3 (expertOf (tabs m 0 (ix1 (blk t)))) (y 1) (y 2)) :=
  (congrArg (V m c main_v2 : Vec Ideal S8x3584x1024 .bf16) (emb_down m hm t y)).trans (V_v2 m c _)

/-- The body's stored value for a block in use, at an index: one row's feed-forward. -/
theorem pay_at (x0 : Vec Ideal S512x1024 .f32) (x1 x2 : Vec Ideal S1x1024x3584 .bf16) (x3 : Vec Ideal S1x3584x1024 .bf16)
    (p : Fin 512) (q : Fin 1024) :
    k0_pay1 x0 x1 x2 x3 (ix2 p q)
      = swiglu (fun k => x0 (ix2 p k)) (fun k j => x1 (ix3 0 k j)) (fun k j => x2 (ix3 0 k j)) (fun j d => x3 (ix3 0 j d)) q := by
  pointwise [k0_pay1, swiglu, div_exp_eq_silu]

/-- What the body stores at index `y` of a point in use is the expert's feed-forward at the array index `y` sits at. -/
theorem stored (c : Dev nD) (t : Fin (cfg0 (adm m hm)).N)
    (hu : ¬ (m ((c : Thread nD τ).loc main_arg2) : Vec Ideal S286 .i32) (ix1 (blk t)) = 0#32) (p : Fin 512) (q : Fin 1024) :
    k0_pay1 (iblk m hm c 0 t) (iblk m hm c 1 t) (iblk m hm c 2 t) (iblk m hm c 3 t) (ix2 p q)
      = expertRows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 ⟨t.val * 512 + p.val, by have := coord_lt t; omega⟩ q) := by
  have hd : (t.val * 512 + p.val) / 512 = t.val := by omega
  have he : tabs m 0 (ix1 (blk t)) = (m ((c : Thread nD τ).loc main_arg1) : Vec Ideal S286 .i32) (ix1 (blk t)) :=
    congrFun ((V_tab m c 0).symm.trans (V_arg1 m c)) _
  have hf : (⟨(t.val * 512 + p.val) / 512, by rw [hd]; exact coord_lt t⟩ : Fin 286) = blk t := Fin.ext hd
  refine (pay_at _ _ _ _ p q).trans ?_
  have e0 : (fun k => iblk m hm c 0 t (ix2 p k)) = _ := funext fun k => read_tok m hm c t (ix2 p k)
  have e1 : (fun k j => iblk m hm c 1 t (ix3 0 k j)) = _ := funext fun k => funext fun j => read_gate m hm c t (ix3 0 k j)
  have e2 : (fun k j => iblk m hm c 2 t (ix3 0 k j)) = _ := funext fun k => funext fun j => read_up m hm c t (ix3 0 k j)
  have e3 : (fun k j => iblk m hm c 3 t (ix3 0 k j)) = _ := funext fun k => funext fun j => read_down m hm c t (ix3 0 k j)
  refine (congrFun (congr (congr (congr (congrArg swiglu e0) e1) e2) e3) q).trans ?_
  have hval : expertRows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix2 ⟨t.val * 512 + p.val, by have := coord_lt t; omega⟩ q) = _ := rfl
  rw [hval]
  unfold expertRows
  have hu' : ¬ (m ((c : Thread nD τ).loc main_arg2) : Vec Ideal S286 .i32) (ix1 ⟨(t.val * 512 + p.val) / 512, by rw [hd]; exact coord_lt t⟩) = 0#32 := by
    rw [hf]; exact hu
  refine Eq.trans ?_ (if_neg hu').symm
  have h1 : expertOf (tabs m 0 (ix1 (blk t))) = expertOf ((m ((c : Thread nD τ).loc main_arg1) : Vec Ideal S286 .i32)
      (ix1 ⟨(t.val * 512 + p.val) / 512, by rw [hd]; exact coord_lt t⟩)) := by rw [hf, he]
  rw [h1]
  rfl

/-- A block in use is what its one store writes. -/
theorem live_eq (x0 : Vec Ideal S512x1024 .f32) (x1 x2 : Vec Ideal S1x1024x3584 .bf16) (x3 : Vec Ideal S1x3584x1024 .bf16) :
    live x0 x1 x2 x3 = k0_pay1 x0 x1 x2 x3 := by
  unfold live
  have a0 : View.ld x0 rTok = x0 := View.ld_unit_zero (by funext a; fin_cases a <;> rfl) _ _
  have a1 : View.ld x1 rIn = x1 := View.ld_unit_zero (by funext a; fin_cases a <;> rfl) _ _
  have a2 : View.ld x2 rIn = x2 := View.ld_unit_zero (by funext a; fin_cases a <;> rfl) _ _
  have a3 : View.ld x3 rOut = x3 := View.ld_unit_zero (by funext a; fin_cases a <;> rfl) _ _
  rw [a0, a1, a2, a3]
  exact View.canon_unit_zero (by funext a; fin_cases a <;> rfl) _ _

/-- A block not in use is zero. -/
theorem dead_at (y : S512x1024.Idx) : (dead : Vec Ideal S512x1024 .f32) y = (0 : EReal) := by
  have : (dead : Vec Ideal S512x1024 .f32) = k0_pay2 (F := Ideal) := View.canon_unit_zero (by funext a; fin_cases a <;> rfl) _ _
  rw [this]
  pointwise [k0_pay2]

/-- The two flags differ. -/
theorem one_ne : ¬ (1#32 : BitVec 32) = 0#32 := by decide

/-- The result array after the run. -/
theorem final (c : Dev nD) : (dats m hm 0 c).arrAt 4 (cfg0 (adm m hm)).N
      = expertRows (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m hm 0 c).arrAt_eq_of_covers 4 _ ?_ fun t hf y => ?_
  · refine Pipeline.Window.covers_of_index_surj _ rfl (fun a => ?_) fun β => ?_
    · match a with
      | ⟨0, _⟩ => exact (by decide : 0 < 512)
      | ⟨1, _⟩ => exact (by decide : 0 < 1024)
    · have h0 : (β (0 : Fin 2)).val < 286 := lt_of_lt_of_eq (β (0 : Fin 2)).isLt (show ((146432 + 512 - 1) / 512 : Nat) = 286 by norm_num)
      have h1 : (β (1 : Fin 2)).val < 1 := lt_of_lt_of_eq (β (1 : Fin 2)).isLt (show ((1024 + 1024 - 1) / 1024 : Nat) = 1 by norm_num)
      refine ⟨⟨(β (0 : Fin 2)).val, lt_of_lt_of_eq h0 N_0.symm⟩, fun a => ?_⟩
      rw [(blockIdx m hm _).2.2.2.2]
      match a with
      | ⟨0, _⟩ => rfl
      | ⟨1, _⟩ => exact (Nat.lt_one_iff.mp h1).symm
  refine Eq.trans (b := left m hm c t y) rfl ?_
  refine Eq.trans ?_ (congrArg _ (emb_out m hm t y)).symm
  have hw : wordU (grid0.coords t) (tabs m 1) = (m ((c : Thread nD τ).loc main_arg2) : Vec Ideal S286 .i32) (ix1 (blk t)) :=
    (wordU_eq _ t).trans (congrFun ((V_tab m c 1).symm.trans (V_arg2 m c)) _)
  unfold left
  rcases (tabs_ok m hm).flag (ix1 (blk t)) with h | h
  · have h' : (m ((c : Thread nD τ).loc main_arg2) : Vec Ideal S286 .i32) (ix1 (blk t)) = 0#32 := (hw.symm.trans (wordU_eq _ t)).trans h
    rw [if_neg (by rw [hw, h']; exact cond1_zero)]
    refine (dead_at _).trans (Eq.symm ?_)
    have hy : (y (0 : Fin 2)).val < 512 := (y (0 : Fin 2)).isLt
    have hf : (⟨(t.val * 512 + (y (0 : Fin 2)).val) / 512, by have := coord_lt t; omega⟩ : Fin 286) = blk t :=
      Fin.ext (show (t.val * 512 + (y (0 : Fin 2)).val) / 512 = t.val by omega)
    have hz : (m ((c : Thread nD τ).loc main_arg2) : Vec Ideal S286 .i32)
        (ix1 ⟨(t.val * 512 + (y (0 : Fin 2)).val) / 512, by have := coord_lt t; omega⟩) = 0#32 := by rw [hf]; exact h'
    exact if_pos hz
  · have h' : (m ((c : Thread nD τ).loc main_arg2) : Vec Ideal S286 .i32) (ix1 (blk t)) = 1#32 := (hw.symm.trans (wordU_eq _ t)).trans h
    rw [if_pos (by rw [hw, h']; rfl)]
    refine (congrFun (live_eq _ _ _ _) y).trans ?_
    obtain ⟨p, q, rfl⟩ : ∃ (p : Fin 512) (q : Fin 1024), y = ix2 p q := ⟨y (0 : Fin 2), y (1 : Fin 2), eq_ix2 y⟩
    exact stored m hm c t (fun e => one_ne (h'.symm.trans e)) p q

end Cert.Kernel3Ideal.Experts

end
-- ==== Proof.ExpertClaims.lean ====
/- The claims about the routed experts' feed-forward call: what the precondition says of its two tables, that every
   execution ends cleanly, and that on the extended reals the kernel computes what the reference does. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Pre_table_names_experts
public import proofs.«01_k».proof.Proof.Experts
public import proofs.«01_k».proof.Proof.ExpertValue
public import Idealize.ShloMosaic.Lib.ReduceAll
public import Idealize.ShloMosaic.Adequacy
public import Idealize.ShloMosaic.Init

@[expose] public section

set_option maxRecDepth 16384

noncomputable section

namespace Cert.ExpertClaims

open Idealize.ShloMosaic Idealize.ShloMosaic.TcCoe Idealize.SL.Sem

/-- A word at least zero and below eight, read as signed, is below eight read as unsigned. -/
theorem expert_of_word {w : BitVec 32} (h : IntOp.cmpi .sge w 0#32 = 1#1) (h' : IntOp.cmpi .slt w 8#32 = 1#1) :
    w.toNat < 8 := by
  have a := IntOp.cmpi_sge.1 h
  have b := IntOp.cmpi_slt.1 h'
  have e : (8#32 : BitVec 32).toInt = 8 := by decide
  have z : (0#32 : BitVec 32).toInt = 0 := by decide
  rw [e] at b; rw [z] at a
  rw [BitVec.toInt_eq_toNat_cond] at a b
  split at a <;> split at b <;> omega

/-- A word at least zero and at most one, read as signed, is zero or one. -/
theorem flag_of_word {w : BitVec 32} (h : IntOp.cmpi .sge w 0#32 = 1#1) (h' : IntOp.cmpi .sle w 1#32 = 1#1) :
    w = 0#32 ∨ w = 1#32 := by
  have a := IntOp.cmpi_sge.1 h
  have b := IntOp.cmpi_sle.1 h'
  have e : (1#32 : BitVec 32).toInt = 1 := by decide
  have z : (0#32 : BitVec 32).toInt = 0 := by decide
  rw [e] at b; rw [z] at a
  rw [BitVec.toInt_eq_toNat_cond] at a b
  have hw : w.toNat = 0 ∨ w.toNat = 1 := by split at a <;> split at b <;> omega
  rcases hw with hw | hw
  · exact .inl (BitVec.eq_of_toNat_eq hw)
  · exact .inr (BitVec.eq_of_toNat_eq hw)

/-- What the precondition says: every word of the first table names an expert, and every word of the second is a flag. -/
theorem decode {F : FTy → Type} [FloatOps F] {x0 : FVec F Cert.Pre_table_names_experts.S146432x1024 .f32}
    {T0 T1 : IVec Cert.Pre_table_names_experts.S286 32} {x3 x4 : FVec F Cert.Pre_table_names_experts.S8x1024x3584 .f32}
    {x5 : FVec F Cert.Pre_table_names_experts.S8x3584x1024 .f32}
    (h : Cert.Pre_table_names_experts.fn x0 T0 T1 x3 x4 x5 = fun _ => 1#1) :
    (∀ j, (T0 j).toNat < 8) ∧ ∀ j, T1 j = 0#32 ∨ T1 j = 1#32 := by
  have h0 := congrFun h (Shape.Idx.first Cert.Pre_table_names_experts.Gen.h_S_)
  obtain ⟨ha, hb⟩ := IntOp.andi_eq_one.1 h0
  refine ⟨fun j => ?_, fun j => ?_⟩
  · have := Host.reduce_andi_all _ _ _ _ _ ha j
    obtain ⟨p, q⟩ := IntOp.andi_eq_one.1 this
    exact expert_of_word p q
  · have := Host.reduce_andi_all _ _ _ _ _ hb j
    obtain ⟨p, q⟩ := IntOp.andi_eq_one.1 this
    exact flag_of_word p q

/-- Every execution of the kernel ends, its arguments unchanged and its counters at zero, on rounded numbers. -/
theorem frame_kernel : Cert.quiescent_Kernel3 := fun m ρ hp =>
  have hm : Cert.Kernel3.Experts.Admitted m := fun c => ⟨(decode (hp c)).1, (decode (hp c)).2⟩
  (θ_run Cert.Kernel3.defs _ _).mono (fun _ h => ⟨fun c => Cert.Kernel3.Experts.args_kept m hm h.1 c, h.2⟩)
    (Cert.Kernel3.Experts.run_all m hm ρ)

/-- The precondition admits the tables. -/
theorem admitted {m : (ℓ : Loc Cert.Kernel3Ideal.nD Cert.Kernel3Ideal.τ Cert.Kernel3Ideal.sig) → Buf (Elt Ideal) ℓ}
    (hp : Cert.Pre_Kernel3Ideal m) : Cert.Kernel3Ideal.Experts.Admitted m :=
  fun c => ⟨(decode (hp c)).1, (decode (hp c)).2⟩

/-- The same on the extended reals. -/
theorem frame_kernelIdeal : Cert.quiescent_Kernel3Ideal := fun m ρ hp =>
  (θ_run Cert.Kernel3Ideal.defs _ _).mono (fun _ h => ⟨fun c => Cert.Kernel3Ideal.Experts.args_kept m (admitted hp) h.1 c, h.2⟩)
    (Cert.Kernel3Ideal.Experts.run_all m (admitted hp) ρ)

/-- Every execution of the reference ends, its arguments unchanged; it has no counters. -/
theorem frame_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run (F := Ideal) m ρ)

/-- From memories that agree on the arguments the kernel's result is the reference's, entry by entry. -/
theorem algebraic : Cert.algebraic_Kernel3Ideal_Reference3Ideal := by
  intro m ρ m' ρ' hp hag
  have hm := admitted hp
  refine ⟨fun c => (Cert.Kernel3Ideal.Experts.dats m hm 0 c).arrAt 4 _,
    (θ_run Cert.Kernel3Ideal.defs _ _).mono (fun _ h c => ⟨Cert.Kernel3Ideal.Experts.result_array m hm h.1 c,
      Cert.Kernel3Ideal.Experts.args_kept m hm h.1 c⟩) (Cert.Kernel3Ideal.Experts.run_all m hm ρ), ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5⟩ := hag c
  refine Eq.trans ?_ (Cert.Kernel3Ideal.Experts.final m hm c).symm
  refine (Cert.Reference3Ideal.Value.val3_main_v128 (StableHlo.launchContents m' c)).symm.trans ?_
  refine funext fun (i : Cert.Reference3Ideal.S146432x1024.Idx) => ?_
  rw [eq_ix2 i]
  exact Cert.Reference3Ideal.Value.result_at _ _ h0 _ h1 _ h2 _ h3 _ h4 _ h5 (hm c).expert (hm c).flag (i 0) (i 1)

end Cert.ExpertClaims

end
-- ==== Proof.NormClaims.lean ====
/- The claims about the even layer's first norm and in-projection. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfnRow
public import Idealize.ShloMosaic.Lib.Pipeline.ValueKit

@[expose] public section

set_option maxRecDepth 16384

noncomputable section

namespace Cert.Kernel4Ideal.Value

open Idealize.ShloMosaic Idealize.ShloMosaic.TcCoe Idealize.SL.Sem
open Idealize.ShloMosaic.Pipeline (Dat)
open scoped BigOperators
open Cert.Kernel4Ideal Cert.Kernel4Ideal.Gen Cert.Ffn

variable (m : (ℓ : Loc nD τ sig) → Buf (Elt Ideal) ℓ)

/-- One entry of the normed row's product with a column of weights. -/
def entry (x g sh sc w : Fin 1024 → EReal) : EReal := ∑ k, normed x g sh sc k * w k

/-- A token's entry against column `w` as a function of the argument arrays. -/
def tokenEntry (A0 : FVec Ideal S16x4096x1024 .f32) (A1 : FVec Ideal S1024 .f32) (A2 A3 : FVec Ideal S16x1x1024 .f32) (w : Fin 1024 → EReal)
    (b : Fin 16) (l : Fin 4096) : EReal :=
  entry (fun k => A0 (ix3 b l k)) (fun k => A1 (ix1 k)) (fun k => A2 (ix3 b 0 k)) (fun k => A3 (ix3 b 0 k)) w

/-- The first result array as one function of the argument arrays. -/
def hyena (A0 : FVec Ideal S16x4096x1024 .f32) (A1 : FVec Ideal S1024 .f32) (A2 A3 : FVec Ideal S16x1x1024 .f32) (A4 : FVec Ideal S1024x1536 .f32) :
    FVec Ideal S16x4096x1536 .bf16 := fun i => tokenEntry A0 A1 A2 A3 (fun k => A4 (ix2 k (i 2))) (i 0) (i 1)

/-- The second. -/
def cosines (A0 : FVec Ideal S16x4096x1024 .f32) (A1 : FVec Ideal S1024 .f32) (A2 A3 : FVec Ideal S16x1x1024 .f32) (A5 : FVec Ideal S1024x1024 .f32) :
    FVec Ideal S16x4096x512 .f32 := fun i =>
  have h : (i 2 : ℕ) < 512 := (i 2).isLt
  tokenEntry A0 A1 A2 A3 (fun k => A5 (ix2 k ⟨i 2, by omega⟩)) (i 0) (i 1)

/-- The third. -/
def sines (A0 : FVec Ideal S16x4096x1024 .f32) (A1 : FVec Ideal S1024 .f32) (A2 A3 : FVec Ideal S16x1x1024 .f32) (A5 : FVec Ideal S1024x1024 .f32) :
    FVec Ideal S16x4096x512 .f32 := fun i =>
  have h : (i 2 : ℕ) < 512 := (i 2).isLt
  tokenEntry A0 A1 A2 A3 (fun k => A5 (ix2 k ⟨512 + (i 2 : ℕ), by omega⟩)) (i 0) (i 1)

/-- Every window's block index at every grid point. -/
theorem blockIdx : ∀ t : Fin cfg0.N, win0_0.index t = ![t.val / 8, t.val % 8, 0]
    ∧ win0_1.index t = ![0, 0]
    ∧ win0_2.index t = ![t.val / 8, 0, 0]
    ∧ win0_3.index t = ![t.val / 8, 0, 0]
    ∧ win0_4.index t = ![0, 0]
    ∧ win0_5.index t = ![t.val / 8, t.val % 8, 0]
    ∧ win0_6.index t = ![t.val / 8, t.val % 8, 0]
    ∧ win0_7.index t = ![t.val / 8, t.val % 8, 0] :=
  (by decide +kernel : ∀ t : Fin grid0.N, _)

/-- The weight window is the whole array of weights at every grid point. -/
theorem weights_emb (t : Fin cfg0.N) (k : Fin 1024) (C : Fin 2560) : (win0_4.blk t).view.emb (ix2 k C) = ix2 k C := by
  blk_ext! [blockIdx t]

/-- The first 1536 columns of the weights the kernel is given are the fourth argument's. -/
theorem weights_low (c : Dev nD) (k : Fin 1024) (C : ℕ) (h : C < 1536) (h' : C < 2560) :
    V m c main_v1 (ix2 k ⟨C, h'⟩) = m ((c : Thread nD τ).loc main_arg4) (ix2 k ⟨C, h⟩) := by
  pointwise [V]
  entry_read
  pointwise []
  exact dif_pos h

/-- The last 1024 are the fifth's. -/
theorem weights_high (c : Dev nD) (k : Fin 1024) (C : ℕ) (h : C < 1024) (h' : 1536 + C < 2560) :
    V m c main_v1 (ix2 k ⟨1536 + C, h'⟩) = m ((c : Thread nD τ).loc main_arg5) (ix2 k ⟨C, h⟩) := by
  pointwise [V]
  entry_read
  pointwise []

/-- What the body stores at index `y` of point `t`'s block of window 5 is `hyena` at the array index `y` sits at. -/
theorem stored5 (c : Dev nD) (t : Fin cfg0.N) (y) :
    k0_pay4 (iblk m c 0 t) (iblk m c 1 t) (iblk m c 2 t) (iblk m c 3 t) (iblk m c 4 t) y
      = hyena (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, k0_pay2, k0_pay3, k0_pay4, k0_pay5, hyena, tokenEntry, entry, normed]
  blk_point [iblk, V, blockIdx t]
  rw [weights_emb]
  refine (weights_low m c x _ hb2 _).trans (congrArg (m ((c : Thread nD τ).loc main_arg4)) ?_)
  blk_ext! [blockIdx t]

/-- That result array after the run. -/
theorem final5 (c : Dev nD) : (dats m 0 c).arrAt 5 (cfgs 0).N
      = hyena (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp
  rw [after0_5]
  frame_out
  exact stored5 m c t y

/-- What the body stores at index `y` of point `t`'s block of window 6 is `cosines` at the array index `y` sits at. -/
theorem stored6 (c : Dev nD) (t : Fin cfg0.N) (y) :
    k0_pay1 (k0_pay5 (iblk m c 0 t) (iblk m c 1 t) (iblk m c 2 t) (iblk m c 3 t) (iblk m c 4 t)) y
      = cosines (m ((c : Thread nD τ).loc main_arg0)) (m ((c : Thread nD τ).loc main_arg1)) (m ((c : Thread nD τ).loc main_arg2))
          (m ((c : Thread nD τ).loc main_arg3)) (m ((c : Thread nD τ).loc main_arg5)) (((cfg0.win 6).blk t).view.emb y) := by
  pointwise [k0_pay1, k0_pay2, k0_pay3, k0_pay4, k0_pay5, cosines, tokenEntry, entry, normed]
  blk_point [iblk, V, blockIdx t]
  rw [weights_emb]
  exact weights_high m c x _ (by omega) _

/-- That result array after the run. -/
theorem final6 (c : Dev nD) : (dats m 0 c).arrAt 6 (cfgs 0).N
      = cosines (m ((c : Thread nD τ).loc main_arg0)) (m ((c : Thread nD τ).loc main_arg1)) (m ((c : Thread nD τ).loc main_arg2))
          (m ((c : Thread nD τ).loc main_arg3)) (m ((c : Thread nD τ).loc main_arg5)) := by
  refine (dats m 0 c).arrAt_eq_of_covers 6 _ (by decide +kernel) fun t hf y => ?_
  blk_simp
  rw [after0_6]
  frame_out
  exact stored6 m c t y

/-- What the body stores at index `y` of point `t`'s block of window 7 is `sines` at the array index `y` sits at. -/
theorem stored7 (c : Dev nD) (t : Fin cfg0.N) (y) :
    k0_pay2 (k0_pay3 (iblk m c 0 t) (iblk m c 1 t) (iblk m c 2 t) (iblk m c 3 t) (iblk m c 4 t)) y
      = sines (m ((c : Thread nD τ).loc main_arg0)) (m ((c : Thread nD τ).loc main_arg1)) (m ((c : Thread nD τ).loc main_arg2))
          (m ((c : Thread nD τ).loc main_arg3)) (m ((c : Thread nD τ).loc main_arg5)) (((cfg0.win 7).blk t).view.emb y) := by
  pointwise [k0_pay1, k0_pay2, k0_pay3, k0_pay4, k0_pay5, sines, tokenEntry, entry, normed]
  blk_point [iblk, V, blockIdx t]
  rw [weights_emb]
  refine Eq.trans (congrArg (fun C => V m c main_v1 (ix2 x C)) (Fin.ext ?_)) (weights_high m c x (512 + (y 2 : ℕ)) (by omega) (by omega))
  show 2048 + (y 2 : ℕ) = 1536 + (512 + (y 2 : ℕ))
  omega

/-- That result array after the run. -/
theorem final7 (c : Dev nD) : (dats m 0 c).arrAt 7 (cfgs 0).N
      = sines (m ((c : Thread nD τ).loc main_arg0)) (m ((c : Thread nD τ).loc main_arg1)) (m ((c : Thread nD τ).loc main_arg2))
          (m ((c : Thread nD τ).loc main_arg3)) (m ((c : Thread nD τ).loc main_arg5)) := by
  refine (dats m 0 c).arrAt_eq_of_covers 7 _ (by decide +kernel) fun t hf y => ?_
  blk_simp
  rw [after0_7]
  frame_out
  exact stored7 m c t y

end Cert.Kernel4Ideal.Value

namespace Cert.NormClaims

open Idealize.ShloMosaic Idealize.ShloMosaic.TcCoe Idealize.SL.Sem
open scoped BigOperators

section
open Cert.Reference4Ideal Cert.Reference4Ideal.Gen
open Cert.Kernel4Ideal.Value (hyena cosines sines tokenEntry entry)

/-- The reference's normed rows. -/
def rows (A0 : FVec Ideal S16x4096x1024 .f32) (A1 : FVec Ideal S1024 .f32) (A2 A3 : FVec Ideal S16x1x1024 .f32) : FVec Ideal S16x4096x1024 .f32 :=
  addf (mulf (mulf (mulf A0 (broadcastInDim S16x4096x1024 ![0, 1, 2] bcast_S16x4096x1_S16x4096x1024_0_1_2 (Host.rsqrt (addf
    (Host.divf (broadcastInDim S16x4096x1 ![0, 1] bcast_S16x4096_S16x4096x1_0_1 (Host.reduceAdd (mulf A0 A0) (constant S_
    .f32 0x00000000#32) reducesTo_S16x4096x1024_S16x4096_d2 h_S_)) (broadcastInDim S16x4096x1 ![] bcast_S_S16x4096x1
    (constant S_ .f32 0x44800000#32))) (broadcastInDim S16x4096x1 ![] bcast_S_S16x4096x1 (constant S_ .f32
    0x358637BD#32)))))) (broadcastInDim S16x4096x1024 ![0, 1, 2] bcast_S1x1x1024_S16x4096x1024_0_1_2 (broadcastInDim
    S1x1x1024 ![2] bcast_S1024_S1x1x1024_2 A1))) (broadcastInDim S16x4096x1024 ![0, 1, 2]
    bcast_S16x1x1024_S16x4096x1024_0_1_2 (addf (broadcastInDim S16x1x1024 ![] bcast_S_S16x1x1024 (constant S_ .f32
    0x3F800000#32)) A3))) (broadcastInDim S16x4096x1024 ![0, 1, 2] bcast_S16x1x1024_S16x4096x1024_0_1_2 A2)

/-- One entry of them. -/
theorem rows_at (A0 : FVec Ideal S16x4096x1024 .f32) (A1 : FVec Ideal S1024 .f32) (A2 A3 : FVec Ideal S16x1x1024 .f32) (b : Fin 16) (l : Fin 4096)
    (k : Fin 1024) : rows A0 A1 A2 A3 (ix3 b l k)
      = Cert.Ffn.normed (fun k => A0 (ix3 b l k)) (fun k => A1 (ix1 k)) (fun k => A2 (ix3 b 0 k)) (fun k => A3 (ix3 b 0 k)) k := by
  pointwise [rows, Cert.Ffn.normed]

/-- The reference's result `hyena`, entry by entry. -/
theorem hyena_at (A0 : FVec Ideal S16x4096x1024 .f32) (A1 : FVec Ideal S1024 .f32) (A2 A3 : FVec Ideal S16x1x1024 .f32) (A4 : FVec Ideal S1024x1536 .f32)
    (b : Fin 16) (l : Fin 4096) (d : Fin 1536) :
    (truncf .bf16 (Host.dotGeneral dot_S16x4096x1024_S1024x1536_S16x4096x1536_2_0_01_1_n_n none (rows A0 A1 A2 A3) A4) bitsLt_bf16_f32 :
        FVec Ideal S16x4096x1536 .bf16) (ix3 b l d) = hyena A0 A1 A2 A3 A4 (ix3 b l d) := by
  unfold hyena tokenEntry entry
  have hr := rows_at A0 A1 A2 A3 b l
  generalize rows A0 A1 A2 A3 = H at hr ⊢
  pointwise []
  exact Finset.sum_congr rfl fun k _ => congrArg (· * _) (hr k)

/-- The reference's result `cosines`, entry by entry. -/
theorem cosines_at (A0 : FVec Ideal S16x4096x1024 .f32) (A1 : FVec Ideal S1024 .f32) (A2 A3 : FVec Ideal S16x1x1024 .f32) (A5 : FVec Ideal S1024x1024 .f32)
    (b : Fin 16) (l : Fin 4096) (d : Fin 512) :
    (Host.dotGeneral dot_S16x4096x1024_S1024x512_S16x4096x512_2_0_01_1_n_n none (rows A0 A1 A2 A3) (extractStridedSlice S1024x512 ![0, 0] A5 slices_S1024x1024_S1024x512_0_0) :
        FVec Ideal S16x4096x512 .f32) (ix3 b l d) = cosines A0 A1 A2 A3 A5 (ix3 b l d) := by
  unfold cosines tokenEntry entry
  have hr := rows_at A0 A1 A2 A3 b l
  generalize rows A0 A1 A2 A3 = H at hr ⊢
  pointwise []
  exact Finset.sum_congr rfl fun k _ => congrArg (· * _) (hr k)

/-- The reference's result `sines`, entry by entry. -/
theorem sines_at (A0 : FVec Ideal S16x4096x1024 .f32) (A1 : FVec Ideal S1024 .f32) (A2 A3 : FVec Ideal S16x1x1024 .f32) (A5 : FVec Ideal S1024x1024 .f32)
    (b : Fin 16) (l : Fin 4096) (d : Fin 512) :
    (Host.dotGeneral dot_S16x4096x1024_S1024x512_S16x4096x512_2_0_01_1_n_n none (rows A0 A1 A2 A3) (extractStridedSlice S1024x512 ![0, 512] A5 slices_S1024x1024_S1024x512_0_512) :
        FVec Ideal S16x4096x512 .f32) (ix3 b l d) = sines A0 A1 A2 A3 A5 (ix3 b l d) := by
  unfold sines tokenEntry entry
  have hr := rows_at A0 A1 A2 A3 b l
  generalize rows A0 A1 A2 A3 = H at hr ⊢
  pointwise []
  exact Finset.sum_congr rfl fun k _ => congrArg (· * _) (hr k)

end

/-- Every execution of the kernel ends, its arguments unchanged and its counters at zero, on rounded numbers. -/
theorem frame_kernel : Cert.quiescent_Kernel4 := fun m ρ _ => Cert.Kernel4.Gen.frame m ρ

/-- The same on the extended reals. -/
theorem frame_kernelIdeal : Cert.quiescent_Kernel4Ideal := fun m ρ _ => Cert.Kernel4Ideal.Gen.frame m ρ

/-- Every execution of the reference ends, its arguments unchanged; it has no counters. -/
theorem frame_reference : Cert.quiescent_Reference4Ideal := fun m ρ _ =>
  (θ_run Cert.Reference4Ideal.defs _ _).mono
    (fun r h => ⟨fun c => (h c).2.2.2, sem_eq_zero_of_no_sems (by decide) r.2⟩) (Cert.Reference4Ideal.Value.run (F := Ideal) m ρ)

/-- From memories that agree on the arguments the kernel's results are the reference's, entry by entry. -/
theorem algebraic : Cert.algebraic_Kernel4Ideal_Reference4Ideal := by
  intro m ρ m' ρ' _ hag
  refine ⟨_, _, _, Cert.Kernel4Ideal.Value.run_blocks (F := Ideal) m ρ, ?_⟩
  refine (θ_run Cert.Reference4Ideal.defs _ _).mono
    (fun _ h c => ⟨(h c).1.trans ?_, (h c).2.1.trans ?_, (h c).2.2.1.trans ?_, (h c).2.2.2⟩)
    (Cert.Reference4Ideal.Value.run (F := Ideal) m' ρ')
  all_goals obtain ⟨h0, h1, h2, h3, h4, h5⟩ := hag c
  · refine Eq.trans ?_ (Cert.Kernel4Ideal.Value.final5 m c).symm
    refine funext fun (i : Cert.Reference4Ideal.S16x4096x1536.Idx) => ?_
    rw [eq_ix3 i, ← h0, ← h1, ← h2, ← h3, ← h4]
    exact hyena_at _ _ _ _ _ (i 0) (i 1) (i 2)
  · refine Eq.trans ?_ (Cert.Kernel4Ideal.Value.final6 m c).symm
    refine funext fun (i : Cert.Reference4Ideal.S16x4096x512.Idx) => ?_
    rw [eq_ix3 i, ← h0, ← h1, ← h2, ← h3, ← h5]
    exact cosines_at _ _ _ _ _ (i 0) (i 1) (i 2)
  · refine Eq.trans ?_ (Cert.Kernel4Ideal.Value.final7 m c).symm
    refine funext fun (i : Cert.Reference4Ideal.S16x4096x512.Idx) => ?_
    rw [eq_ix3 i, ← h0, ← h1, ← h2, ← h3, ← h5]
    exact sines_at _ _ _ _ _ (i 0) (i 1) (i 2)

end Cert.NormClaims

end
-- ==== Proof.ProjClaims.lean ====
/- The claims about the odd layer's out-projection and gated residual. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit

@[expose] public section

set_option maxRecDepth 16384

noncomputable section

namespace Cert.Kernel5Ideal.Value

open Idealize.ShloMosaic Idealize.ShloMosaic.TcCoe Idealize.SL.Sem
open Idealize.ShloMosaic.Pipeline (Dat)
open scoped BigOperators
open Cert.Kernel5Ideal Cert.Kernel5Ideal.Gen

variable (m : (ℓ : Loc nD τ sig) → Buf (Elt Ideal) ℓ)

/-- One entry of the residual stream after the attention: the token's own entry, plus the gate times its row's product with
    the out-projection. -/
def entry (x a : Fin 1024 → EReal) (w : Fin 1024 → Fin 1024 → EReal) (g : Fin 1024 → EReal) (d : Fin 1024) : EReal :=
  x d + g d * ∑ k, a k * w k d

/-- The result array as one function of the argument arrays. -/
def result (A0 : FVec Ideal S16x4096x1024 .f32) (A1 : FVec Ideal S16x4096x1024 .bf16) (A2 : FVec Ideal S1024x1024 .f32)
    (A3 : FVec Ideal S16x1x1024 .f32) : FVec Ideal S16x4096x1024 .f32 :=
  fun i => entry (fun k => A0 (ix3 (i 0) (i 1) k)) (fun k => A1 (ix3 (i 0) (i 1) k)) (fun k j => A2 (ix2 k j))
    (fun k => A3 (ix3 (i 0) 0 k)) (i 2)

/-- Every window's block index at every grid point. -/
theorem blockIdx : ∀ t : Fin cfg0.N, win0_0.index t = ![t.val / 8, t.val % 8, 0]
    ∧ win0_1.index t = ![t.val / 8, t.val % 8, 0]
    ∧ win0_2.index t = ![0, 0]
    ∧ win0_3.index t = ![t.val / 8, 0, 0]
    ∧ win0_4.index t = ![t.val / 8, t.val % 8, 0] :=
  (by decide +kernel : ∀ t : Fin grid0.N, _)

/-- What the body stores at index `y` of point `t`'s block is `result` at the array index `y` sits at. -/
theorem stored (c : Dev nD) (t : Fin cfg0.N) (y) :
    k0_pay1 (iblk m c 1 t) (iblk m c 2 t) (iblk m c 0 t) (iblk m c 3 t) y
      = result (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, result, entry]
  blk_point [iblk, V, blockIdx t]

/-- The result array after the run. -/
theorem final (c : Dev nD) : (dats m 0 c).arrAt 4 (cfgs 0).N
      = result (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  blk_simp
  rw [after0_4]
  frame_out
  exact stored m c t y

end Cert.Kernel5Ideal.Value

namespace Cert.ProjClaims

open Idealize.ShloMosaic Idealize.ShloMosaic.TcCoe Idealize.SL.Sem

section
open Cert.Reference5Ideal Cert.Reference5Ideal.Gen

/-- The reference's result at token `l` of sequence `b`, column `d`. -/
theorem result_at (A0 : FVec Ideal S16x4096x1024 .f32) (A1 : FVec Ideal S16x4096x1024 .bf16) (A2 : FVec Ideal S1024x1024 .f32)
    (A3 : FVec Ideal S16x1x1024 .f32) (b : Fin 16) (l : Fin 4096) (d : Fin 1024) :
    (addf A0 (mulf (broadcastInDim S16x4096x1024 ![0, 1, 2] bcast_S16x1x1024_S16x4096x1024_0_1_2 A3)
      (Host.dotGeneral dot_S16x4096x1024_S1024x1024_S16x4096x1024_2_0_01_1_n_n none (extf .f32 A1 bitsLt_bf16_f32) A2)) :
        FVec Ideal S16x4096x1024 .f32) (ix3 b l d)
      = Cert.Kernel5Ideal.Value.result A0 A1 A2 A3 (ix3 b l d) := by
  pointwise [Cert.Kernel5Ideal.Value.result, Cert.Kernel5Ideal.Value.entry]

end

/-- Every execution of the kernel ends, its arguments unchanged and its counters at zero, on rounded numbers. -/
theorem frame_kernel : Cert.quiescent_Kernel5 := fun m ρ _ => Cert.Kernel5.Gen.frame m ρ

/-- The same on the extended reals. -/
theorem frame_kernelIdeal : Cert.quiescent_Kernel5Ideal := fun m ρ _ => Cert.Kernel5Ideal.Gen.frame m ρ

/-- Every execution of the reference ends, its arguments unchanged; it has no counters. -/
theorem frame_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run (F := Ideal) m ρ)

/-- From memories that agree on the arguments the kernel's result is the reference's, entry by entry. -/
theorem algebraic : Cert.algebraic_Kernel5Ideal_Reference5Ideal := by
  intro m ρ m' ρ' _ hag
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2, h3⟩ := hag c
  refine Eq.trans ?_ (Cert.Kernel5Ideal.Value.final m c).symm
  refine funext fun (i : Cert.Reference5Ideal.S16x4096x1024.Idx) => ?_
  rw [eq_ix3 i, ← h0, ← h1, ← h2, ← h3]
  exact result_at _ _ _ _ (i 0) (i 1) (i 2)

end Cert.ProjClaims

end
-- ==== Proof.QkvRow.lean ====
/- The odd layer's norm of each head and its rotation by position, on one token's row over the extended reals. -/
module

public import Idealize.ShloMosaic.Lib.Pointwise

@[expose] public section

noncomputable section

namespace Cert.Qkv

open Idealize.ShloMosaic
open scoped BigOperators

/-- Whether column `k` belongs to head `j`, as a number. -/
def member (k j : ℕ) : EReal := if k / 64 = j then 1 else 0

/-- One entry of the norm of a head `t` with gain `g`. -/
def headNorm (t g : Fin 64 → EReal) (d : Fin 64) : EReal :=
  t d * Ideal.rsqrt (Ideal.div (∑ k, t k * t k) (Ideal.ofBits .f32 0x42800000#32) + Ideal.ofBits .f32 0x358637BD#32) * g d

/-- The next three bounds keep an index inside its group of sixteen. -/
theorem lt_first {d : Fin 64} (h0 : ¬ (d : ℕ) < 16) (h1 : (d : ℕ) < 32) : (d : ℕ) - 16 < 16 := by omega

theorem lt_second {d : Fin 64} (h0 : ¬ (d : ℕ) < 32) (h1 : (d : ℕ) < 48) : (d : ℕ) - 32 < 16 := by omega

theorem lt_third {d : Fin 64} (h0 : ¬ (d : ℕ) < 48) : (d : ℕ) - 48 < 16 := by omega

/-- An entry sixteen places further. -/
theorem lt_up {d : Fin 64} (h1 : (d : ℕ) < 48) : (d : ℕ) + 16 < 64 := by omega

/-- An entry sixteen places back. -/
theorem lt_down {d : Fin 64} : (d : ℕ) - 16 < 64 := by omega

/-- A table of four groups of sixteen entries, read at `d`. -/
def four (a b c e : Fin 16 → EReal) (d : Fin 64) : EReal :=
  if h0 : (d : ℕ) < 16 then a ⟨d, h0⟩
  else if h1 : (d : ℕ) < 32 then b ⟨(d : ℕ) - 16, lt_first h0 h1⟩
  else if h2 : (d : ℕ) < 48 then c ⟨(d : ℕ) - 32, lt_second h1 h2⟩
  else e ⟨(d : ℕ) - 48, lt_third h2⟩

/-- One entry of a head rotated by position: its first half by the row's angles, of cosines `cr` and sines `sr`, its second
    half by the column's, `cc` and `sc`. -/
def rotary (u : Fin 64 → EReal) (cr sr cc sc : Fin 16 → EReal) (d : Fin 64) : EReal :=
  if h0 : (d : ℕ) < 16 then u d * cr ⟨d, h0⟩ - u ⟨(d : ℕ) + 16, lt_up (by omega)⟩ * sr ⟨d, h0⟩
  else if h1 : (d : ℕ) < 32 then
    u ⟨(d : ℕ) - 16, lt_down⟩ * sr ⟨(d : ℕ) - 16, lt_first h0 h1⟩ + u d * cr ⟨(d : ℕ) - 16, lt_first h0 h1⟩
  else if h2 : (d : ℕ) < 48 then
    u d * cc ⟨(d : ℕ) - 32, lt_second h1 h2⟩ - u ⟨(d : ℕ) + 16, lt_up h2⟩ * sc ⟨(d : ℕ) - 32, lt_second h1 h2⟩
  else u ⟨(d : ℕ) - 16, lt_down⟩ * sc ⟨(d : ℕ) - 48, lt_third h2⟩ + u d * cc ⟨(d : ℕ) - 48, lt_third h2⟩

/-- The kernel's rotation, three products with tables that are zero where an entry takes no part, is that one: `up` and `dn`
    are the entries sixteen places further and back, whatever they are outside the head. -/
theorem rope_eq (u : Fin 64 → EReal) (cr sr cc sc : Fin 16 → EReal) (d : Fin 64) (up dn : EReal)
    (hup : ∀ h : (d : ℕ) + 16 < 64, up = u ⟨(d : ℕ) + 16, h⟩) (hdn : 16 ≤ (d : ℕ) → dn = u ⟨(d : ℕ) - 16, lt_down⟩) :
    u d * four cr cr cc cc d + up * four (fun k => -sr k) (fun _ => 0) (fun k => -sc k) (fun _ => 0) d
        + dn * four (fun _ => 0) sr (fun _ => 0) sc d
      = rotary u cr sr cc sc d := by
  unfold four rotary
  by_cases h0 : (d : ℕ) < 16
  · simp only [dif_pos h0]
    rw [hup (by omega), mul_zero, add_zero, mul_neg, sub_eq_add_neg]
  · simp only [dif_neg h0]
    by_cases h1 : (d : ℕ) < 32
    · simp only [dif_pos h1]
      rw [hdn (by omega), mul_zero, add_zero, add_comm]
    · simp only [dif_neg h1]
      by_cases h2 : (d : ℕ) < 48
      · simp only [dif_pos h2]
        rw [hup (by omega), mul_zero, add_zero, mul_neg, sub_eq_add_neg]
      · simp only [dif_neg h2]
        rw [hdn (by omega), mul_zero, add_zero, add_comm]

/-- A column of head `j`. -/
theorem lt_head {n j : ℕ} (hj : j < n) (d : Fin 64) : 64 * j + (d : ℕ) < n * 64 := by omega

/-- A sum weighted by membership of head `j` is the sum over the head. -/
theorem sum_head {n j : ℕ} (hj : j < n) (t : Fin (n * 64) → EReal) :
    ∑ k : Fin (n * 64), t k * member k j = ∑ d : Fin 64, t ⟨64 * j + (d : ℕ), lt_head hj d⟩ := by
  rw [← (finProdFinEquiv (m := n) (n := 64)).sum_comp, Fintype.sum_prod_type, Finset.sum_eq_single (⟨j, hj⟩ : Fin n)]
  · refine Finset.sum_congr rfl fun d _ => ?_
    have e : (finProdFinEquiv ((⟨j, hj⟩ : Fin n), d) : Fin (n * 64)) = ⟨64 * j + (d : ℕ), lt_head hj d⟩ :=
      Fin.ext (by simp [finProdFinEquiv, add_comm])
    rw [e, member, if_pos (by show (64 * j + (d : ℕ)) / 64 = j; omega), mul_one]
  · intro x _ hx
    refine Finset.sum_eq_zero fun d _ => ?_
    have e : ((finProdFinEquiv (x, d) : Fin (n * 64)) : ℕ) = 64 * x + d := by simp [finProdFinEquiv, add_comm]
    rw [member, if_neg (by rw [e]; intro h; exact hx (Fin.ext (by show (x : ℕ) = j; omega))), mul_zero]
  · intro h; exact absurd (Finset.mem_univ _) h

/-- A square is not negative. -/
theorem square_nonneg (x : EReal) : 0 ≤ x * x := by
  rcases le_total 0 x with h | h
  · exact mul_nonneg h h
  · have := mul_nonneg (EReal.neg_nonneg.mpr h) (EReal.neg_nonneg.mpr h)
    rwa [neg_mul, mul_neg, neg_neg] at this

/-- The reciprocal of 64. -/
theorem sixtyfourth : Ideal.ofBits .f32 0x3C800000#32 = ((1 / 64 : ℝ) : EReal) := by
  simp [Ideal.ofBits, Ideal.ieee, -EReal.coe_mul]; norm_num

/-- 64. -/
theorem sixtyfour : Ideal.ofBits .f32 0x42800000#32 = ((64 : ℝ) : EReal) := by
  simp [Ideal.ofBits, Ideal.ieee, -EReal.coe_mul]; norm_num

/-- The product with the reciprocal of 64 is the quotient by 64. -/
theorem mean_eq (s : EReal) : s * Ideal.ofBits .f32 0x3C800000#32 = Ideal.div s (Ideal.ofBits .f32 0x42800000#32) := by
  have h : ((64 : ℝ) : EReal) ≠ 0 := by exact_mod_cast (by norm_num : (64 : ℝ) ≠ 0)
  rw [sixtyfourth, sixtyfour, Ideal.div, if_neg h, ← EReal.coe_inv, one_div]

/-- The norm's small summand is positive. -/
theorem eps_pos : (0 : EReal) < Ideal.ofBits .f32 0x358637BD#32 := by
  simp [Ideal.ofBits, Ideal.ieee, -EReal.coe_mul]

/-- The reciprocal root of a sum of squares' mean plus the small summand is a number, so it leaves nothing when its own
    rounding is taken away. -/
theorem rsqrt_sub_self (s : EReal) (hs : 0 ≤ s) :
    Ideal.rsqrt (s * Ideal.ofBits .f32 0x3C800000#32 + Ideal.ofBits .f32 0x358637BD#32)
      - Ideal.rsqrt (s * Ideal.ofBits .f32 0x3C800000#32 + Ideal.ofBits .f32 0x358637BD#32) = 0 := by
  have hc : (0 : EReal) ≤ Ideal.ofBits .f32 0x3C800000#32 := by
    rw [sixtyfourth]; exact_mod_cast (by norm_num : (0 : ℝ) ≤ 1 / 64)
  have hx : 0 < s * Ideal.ofBits .f32 0x3C800000#32 + Ideal.ofBits .f32 0x358637BD#32 :=
    lt_of_lt_of_le eps_pos (le_add_of_nonneg_left (mul_nonneg hs hc))
  generalize s * Ideal.ofBits .f32 0x3C800000#32 + Ideal.ofBits .f32 0x358637BD#32 = x at hx
  induction x with
  | bot => exact absurd hx (not_lt_bot)
  | top => simp
  | coe r =>
    have hr : 0 < r := by exact_mod_cast hx
    rw [Ideal.rsqrt_coe, if_neg (not_lt.mpr hr.le), if_neg hr.ne', ← EReal.coe_sub, sub_self, EReal.coe_zero]

/-- A sum over the head numbers weighted by membership of column `C` is the entry of its head. -/
theorem sum_pick (C : ℕ) (hC : C / 64 < 128) (f : Fin 128 → EReal) :
    ∑ j : Fin 128, f j * member C j = f ⟨C / 64, hC⟩ := by
  rw [Finset.sum_eq_single (⟨C / 64, hC⟩ : Fin 128)]
  · rw [member, if_pos rfl, mul_one]
  · intro j _ hj
    rw [member, if_neg (fun h => hj (Fin.ext h.symm)), mul_zero]
  · intro h; exact absurd (Finset.mem_univ _) h

/-- The columns of a row `W` wide, `n` heads of 64. -/
theorem lt_row {W n : ℕ} (hW : W = n * 64) {C : ℕ} (hC : C < W) (d : Fin 64) : 64 * (C / 64) + (d : ℕ) < W := by omega

/-- The kernel's norm of every head of a row at once: the sums of squares by a product with the membership table, the
    reciprocal roots in two parts carried back by products with its transpose. -/
theorem head_norm_eq {W n : ℕ} (hW : W = n * 64) (hn : n ≤ 128) (t : Fin W → EReal) (C : Fin W) (g : Fin 64 → EReal) (gC : EReal)
    (hg : gC = g ⟨(C : ℕ) % 64, Nat.mod_lt _ (by norm_num)⟩) :
    t C * (∑ j : Fin 128, Ideal.rsqrt ((∑ k, t k * t k * member k j) * Ideal.ofBits .f32 0x3C800000#32
              + Ideal.ofBits .f32 0x358637BD#32) * member C j
          + ∑ j : Fin 128, (Ideal.rsqrt ((∑ k, t k * t k * member k j) * Ideal.ofBits .f32 0x3C800000#32
              + Ideal.ofBits .f32 0x358637BD#32)
            - Ideal.rsqrt ((∑ k, t k * t k * member k j) * Ideal.ofBits .f32 0x3C800000#32
              + Ideal.ofBits .f32 0x358637BD#32)) * member C j) * gC
      = headNorm (fun d => t ⟨64 * ((C : ℕ) / 64) + (d : ℕ), lt_row hW C.isLt d⟩) g ⟨(C : ℕ) % 64, Nat.mod_lt _ (by norm_num)⟩ := by
  subst hW
  have hC := C.isLt
  have hz : ∀ j : Fin 128, 0 ≤ ∑ k : Fin (n * 64), t k * t k * member k j := fun j =>
    Finset.sum_nonneg fun k _ => mul_nonneg (square_nonneg _) (by unfold member; split <;> simp)
  have h0 : ∑ j : Fin 128, (Ideal.rsqrt ((∑ k, t k * t k * member k j) * Ideal.ofBits .f32 0x3C800000#32
              + Ideal.ofBits .f32 0x358637BD#32)
            - Ideal.rsqrt ((∑ k, t k * t k * member k j) * Ideal.ofBits .f32 0x3C800000#32
              + Ideal.ofBits .f32 0x358637BD#32)) * member C j = 0 :=
    Finset.sum_eq_zero fun j _ => by rw [rsqrt_sub_self _ (hz j), zero_mul]
  rw [h0, sum_pick (C : ℕ) (by omega) (fun j => Ideal.rsqrt ((∑ k, t k * t k * member k j) * Ideal.ofBits .f32 0x3C800000#32
              + Ideal.ofBits .f32 0x358637BD#32)),
    add_zero,
    sum_head (n := n) (j := (C : ℕ) / 64) (by omega) (fun k => t k * t k), mean_eq, headNorm, hg]
  congr 2
  exact congrArg t (Fin.ext (by show (C : ℕ) = 64 * ((C : ℕ) / 64) + (C : ℕ) % 64; omega))

end Cert.Qkv

end
-- ==== Proof.QkvKernel.lean ====
/- The projection to queries, keys and values, as the kernel computes it from its blocks: each stored entry in terms of the
   token's row. -/
module

public import proofs.«01_k».proof.Defs
public import proofs.«01_k».proof.Proof.Gen.Kernel6Ideal.Value
public import proofs.«01_k».proof.Proof.FfnRow
public import proofs.«01_k».proof.Proof.QkvRow
public import Idealize.ShloMosaic.Lib.Pipeline.ValueKit
public import Idealize.ShloMosaic.Lib.KernelVsHost

@[expose] public section

set_option maxRecDepth 16384

noncomputable section

namespace Cert.Kernel6Ideal.Value

open Idealize.ShloMosaic Idealize.ShloMosaic.TcCoe Idealize.SL.Sem
open Idealize.ShloMosaic.Pipeline (Dat)
open scoped BigOperators
open Cert.Kernel6Ideal Cert.Kernel6Ideal.Gen Cert.Qkv

/-- A column's place in its head. -/
theorem lt_place {C : ℕ} : C % 64 < 64 := Nat.mod_lt _ (by norm_num)

/-- A column's place in its block of 128 lanes. -/
theorem lt_lane {C : ℕ} : C % 128 < 128 := Nat.mod_lt _ (by norm_num)

/-- A query column of the product. -/
theorem lt_query {C : ℕ} (h : C < 1024) (d : Fin 64) : 64 * (C / 64) + (d : ℕ) < 1536 := by omega

/-- A key column of the product. -/
theorem lt_key {C : ℕ} (h : C < 256) (d : Fin 64) : 1024 + (64 * (C / 64) + (d : ℕ)) < 1536 := by omega

/-- A value column of the product. -/
theorem lt_value {C : ℕ} (h : C < 256) : 1280 + C < 1536 := by omega

/-- The queries' norm, entry by entry. -/
theorem queryNorm_at (T : FVec Ideal S512x1536 .f32) (E : FVec Ideal S1024x128 .bf16) (Et : FVec Ideal S128x1024 .bf16)
    (G : Vec Ideal S1x1024 .f32) (g : Fin 64 → EReal) (hE : ∀ k j, E (ix2 k j) = member k j)
    (hEt : ∀ j k, Et (ix2 j k) = member k j) (hG : ∀ C : Fin 1024, G (ix2 0 C) = g ⟨(C : ℕ) % 64, lt_place⟩)
    (r : Fin 512) (C : Fin 1024) :
    k0_pay9 T E Et G (ix2 r C)
      = headNorm (fun d => T (ix2 r ⟨64 * ((C : ℕ) / 64) + (d : ℕ), lt_query C.isLt d⟩)) g ⟨(C : ℕ) % 64, lt_place⟩ := by
  refine Eq.trans ?_ (head_norm_eq (W := 1024) (n := 16) rfl (by norm_num)
    (fun k => T (ix2 r ⟨(k : ℕ), lt_trans k.isLt (by norm_num)⟩)) C g (G (ix2 0 C)) (hG C))
  pointwise [k0_pay9]
  simp only [hE, hEt]

/-- Eight copies of a table side by side, read at a column. -/
theorem eight_at (X : FVec Ideal S512x128 .f32) (r : Fin 512) (C : Fin 1024) :
    concatenate S512x1024 1 [⟨S512x128, X⟩, ⟨S512x128, X⟩, ⟨S512x128, X⟩, ⟨S512x128, X⟩, ⟨S512x128, X⟩, ⟨S512x128, X⟩, ⟨S512x128, X⟩, ⟨S512x128, X⟩]
      concatenates_S512x128_S512x128_S512x128_S512x128_S512x128_S512x128_S512x128_S512x128_S512x1024_d1 (ix2 r C) = X (ix2 r ⟨(C : ℕ) % 128, lt_lane⟩) := by
  have hC := C.isLt
  pointwise []
  repeat' split
  all_goals exact congrArg (fun c => X (ix2 r c)) (Fin.ext (by simp only []; omega))

/-- The queries' entries sixteen places further. -/
theorem further_at (X : FVec Ideal S512x1024 .f32) (r : Fin 512) (C : Fin 1024) (h : (C : ℕ) + 16 < 1024) :
    dynamicRotate 1 1008#32 none X rotates_S512x1024_d1 (ix2 r C) = X (ix2 r ⟨(C : ℕ) + 16, h⟩) := by
  refine dynamicRotate_apply (1 : Fin 2) 1008#32 X _ (ix2 r C) (ix2 r ⟨(C : ℕ) + 16, h⟩) fun b => ?_
  match b with
  | ⟨0, _⟩ => rfl
  | ⟨1, _⟩ => show (C : ℕ) + 16 = ((C : ℕ) + 1024 - 1008 % 1024) % 1024; omega

/-- The queries' entries sixteen places back. -/
theorem back_at (X : FVec Ideal S512x1024 .f32) (r : Fin 512) (C : Fin 1024) (h : 16 ≤ (C : ℕ)) :
    dynamicRotate 1 16#32 none X rotates_S512x1024_d1 (ix2 r C) = X (ix2 r ⟨(C : ℕ) - 16, by omega⟩) := by
  refine dynamicRotate_apply (1 : Fin 2) 16#32 X _ (ix2 r C) (ix2 r ⟨(C : ℕ) - 16, by omega⟩) fun b => ?_
  match b with
  | ⟨0, _⟩ => rfl
  | ⟨1, _⟩ => show (C : ℕ) - 16 = ((C : ℕ) + 1024 - 16 % 1024) % 1024; omega

/-- Two copies of a table side by side, read at a column. -/
theorem two_at (X : FVec Ideal S512x128 .f32) (r : Fin 512) (C : Fin 256) :
    concatenate S512x256 1 [⟨S512x128, X⟩, ⟨S512x128, X⟩] concatenates_S512x128_S512x128_S512x256_d1 (ix2 r C)
      = X (ix2 r ⟨(C : ℕ) % 128, lt_lane⟩) := by
  have hC := C.isLt
  pointwise []
  repeat' split
  all_goals exact congrArg (fun c => X (ix2 r c)) (Fin.ext (by simp only []; omega))

/-- The keys' entries sixteen places further. -/
theorem keyFurther_at (X : FVec Ideal S512x256 .f32) (r : Fin 512) (C : Fin 256) (h : (C : ℕ) + 16 < 256) :
    dynamicRotate 1 240#32 none X rotates_S512x256_d1 (ix2 r C) = X (ix2 r ⟨(C : ℕ) + 16, h⟩) := by
  refine dynamicRotate_apply (1 : Fin 2) 240#32 X _ (ix2 r C) (ix2 r ⟨(C : ℕ) + 16, h⟩) fun b => ?_
  match b with
  | ⟨0, _⟩ => rfl
  | ⟨1, _⟩ => show (C : ℕ) + 16 = ((C : ℕ) + 256 - 240 % 256) % 256; omega

/-- The keys' entries sixteen places back. -/
theorem keyBack_at (X : FVec Ideal S512x256 .f32) (r : Fin 512) (C : Fin 256) (h : 16 ≤ (C : ℕ)) :
    dynamicRotate 1 16#32 none X rotates_S512x256_d1 (ix2 r C) = X (ix2 r ⟨(C : ℕ) - 16, by omega⟩) := by
  refine dynamicRotate_apply (1 : Fin 2) 16#32 X _ (ix2 r C) (ix2 r ⟨(C : ℕ) - 16, by omega⟩) fun b => ?_
  match b with
  | ⟨0, _⟩ => rfl
  | ⟨1, _⟩ => show (C : ℕ) - 16 = ((C : ℕ) + 256 - 16 % 256) % 256; omega

/-- One stored query entry, in terms of the row's product `T` with the weights and its tables. -/
theorem query_at (T : FVec Ideal S512x1536 .f32) (E : FVec Ideal S1024x128 .bf16) (Et : FVec Ideal S128x1024 .bf16)
    (G : Vec Ideal S1x1024 .f32) (X9 X10 X11 : Vec Ideal S512x128 .f32) (g : Fin 64 → EReal) (cr sr cc sc : Fin 16 → EReal)
    (r : Fin 512) (hE : ∀ k j, E (ix2 k j) = member k j)
    (hEt : ∀ j k, Et (ix2 j k) = member k j) (hG : ∀ C : Fin 1024, G (ix2 0 C) = g ⟨(C : ℕ) % 64, lt_place⟩)
    (h9 : ∀ c : Fin 128, X9 (ix2 r c) = four cr cr cc cc ⟨(c : ℕ) % 64, lt_place⟩)
    (h10 : ∀ c : Fin 128, X10 (ix2 r c) = four (fun k => -sr k) (fun _ => 0) (fun k => -sc k) (fun _ => 0) ⟨(c : ℕ) % 64, lt_place⟩)
    (h11 : ∀ c : Fin 128, X11 (ix2 r c) = four (fun _ => 0) sr (fun _ => 0) sc ⟨(c : ℕ) % 64, lt_place⟩)
    (C : Fin 1024) :
    k0_pay1 (k0_pay10 T E Et G X9 X10) (k0_pay11 T E Et G X11) (ix3 0 r C)
      = rotary (headNorm (fun d => T (ix2 r ⟨64 * ((C : ℕ) / 64) + (d : ℕ), lt_query C.isLt d⟩)) g) cr sr cc sc
          ⟨(C : ℕ) % 64, lt_place⟩ * Ideal.ofBits .f32 0x3E000000#32 := by
  have hC := C.isLt
  have hN := queryNorm_at T E Et G g hE hEt hG r
  have m64 : (C : ℕ) % 128 % 64 = (C : ℕ) % 64 := by omega
  have e : k0_pay1 (k0_pay10 T E Et G X9 X10) (k0_pay11 T E Et G X11) (ix3 0 r C)
      = (k0_pay10 T E Et G X9 X10 (ix2 r C) + k0_pay11 T E Et G X11 (ix2 r C)) * Ideal.ofBits .f32 0x3E000000#32 := by
    pointwise [k0_pay1]
  rw [e]
  refine congrArg (· * Ideal.ofBits .f32 0x3E000000#32) ?_
  unfold k0_pay10 k0_pay11
  generalize k0_pay9 T E Et G = N at hN
  refine Eq.trans ?_ (rope_eq _ cr sr cc sc ⟨(C : ℕ) % 64, lt_place⟩ (dynamicRotate 1 1008#32 none N rotates_S512x1024_d1 (ix2 r C))
    (dynamicRotate 1 16#32 none N rotates_S512x1024_d1 (ix2 r C)) (fun h => ?_) (fun h => ?_))
  · rw [← hN C]
    show N (ix2 r C) * _ + _ * _ + _ * _ = _
    rw [eight_at, eight_at, eight_at]
    simp only [shapeCast_self, h9, h10, h11, m64]
  · have h' : (C : ℕ) % 64 + 16 < 64 := h
    rw [further_at N r C (by omega), hN]
    simp only [show ((C : ℕ) + 16) / 64 = (C : ℕ) / 64 by omega, show ((C : ℕ) + 16) % 64 = (C : ℕ) % 64 + 16 by omega]
  · have h' : 16 ≤ (C : ℕ) % 64 := h
    rw [back_at N r C (by omega), hN]
    simp only [show ((C : ℕ) - 16) / 64 = (C : ℕ) / 64 by omega, show ((C : ℕ) - 16) % 64 = (C : ℕ) % 64 - 16 by omega]

/-- The keys' norm before the rotation, as the kernel computes it. -/
def keyNorm (v33 : FVec Ideal S128x1024 .bf16) (v34 : FVec Ideal S512x256 .f32) (v35 : FVec Ideal S256x128 .bf16)
    (v37 : Vec Ideal S1x256 .f32) : FVec Ideal S512x256 .f32 :=
  mulf (mulf v34 (addf
      (matmul dot_S512x128_S128x256_S512x256_1_0_0_1_n_n none
        (truncf .bf16 (rsqrt (addf (mulf (matmul dot_S512x256_S256x128_S512x128_1_0_0_1_n_n none
          (truncf .bf16 (mulf v34 v34) bitsLt_bf16_f32) v35 (constant S512x128 .f32 0x00000000#32))
          (broadcast S512x128 (Scalar.ofBits .f32 0x3C800000#32))) (broadcast S512x128 (Scalar.ofBits .f32 0x358637BD#32)))) bitsLt_bf16_f32)
        (extractStridedSlice S128x256 ![0, 0] v33 slices_S128x1024_o0_0_S128x256) (constant S512x256 .f32 0x00000000#32))
      (matmul dot_S512x128_S128x256_S512x256_1_0_0_1_n_n none
        (truncf .bf16 (subf (rsqrt (addf (mulf (matmul dot_S512x256_S256x128_S512x128_1_0_0_1_n_n none
          (truncf .bf16 (mulf v34 v34) bitsLt_bf16_f32) v35 (constant S512x128 .f32 0x00000000#32))
          (broadcast S512x128 (Scalar.ofBits .f32 0x3C800000#32))) (broadcast S512x128 (Scalar.ofBits .f32 0x358637BD#32))))
          (extf .f32 (truncf .bf16 (rsqrt (addf (mulf (matmul dot_S512x256_S256x128_S512x128_1_0_0_1_n_n none
          (truncf .bf16 (mulf v34 v34) bitsLt_bf16_f32) v35 (constant S512x128 .f32 0x00000000#32))
          (broadcast S512x128 (Scalar.ofBits .f32 0x3C800000#32))) (broadcast S512x128 (Scalar.ofBits .f32 0x358637BD#32)))) bitsLt_bf16_f32) bitsLt_bf16_f32))
          bitsLt_bf16_f32)
        (extractStridedSlice S128x256 ![0, 0] v33 slices_S128x1024_o0_0_S128x256) (constant S512x256 .f32 0x00000000#32))))
    (broadcastTo S512x256 (shapeCast S1x256 v37 shapeCasts_S1x256_S1x256) broadcasts_S1x256_S512x256)

/-- The keys' norm, entry by entry. -/
theorem keyNorm_at (Et : FVec Ideal S128x1024 .bf16) (T : FVec Ideal S512x256 .f32) (E : FVec Ideal S256x128 .bf16)
    (G : Vec Ideal S1x256 .f32) (g : Fin 64 → EReal) (hE : ∀ k j, E (ix2 k j) = member k j)
    (hEt : ∀ j k, Et (ix2 j k) = member k j) (hG : ∀ C : Fin 256, G (ix2 0 C) = g ⟨(C : ℕ) % 64, lt_place⟩)
    (r : Fin 512) (C : Fin 256) :
    keyNorm Et T E G (ix2 r C)
      = headNorm (fun d => T (ix2 r ⟨64 * ((C : ℕ) / 64) + (d : ℕ), lt_row (n := 4) rfl C.isLt d⟩)) g ⟨(C : ℕ) % 64, lt_place⟩ := by
  refine Eq.trans ?_ (head_norm_eq (W := 256) (n := 4) rfl (by norm_num) (fun k => T (ix2 r k)) C g (G (ix2 0 C)) (hG C))
  pointwise [keyNorm]
  simp only [hE, hEt]

/-- One stored key entry, in terms of the row's key columns `T` and its tables. -/
theorem key_at (Et : FVec Ideal S128x1024 .bf16) (T : FVec Ideal S512x256 .f32) (E : FVec Ideal S256x128 .bf16)
    (G : Vec Ideal S1x256 .f32) (X9 X10 X11 : Vec Ideal S512x128 .f32) (g : Fin 64 → EReal) (cr sr cc sc : Fin 16 → EReal)
    (r : Fin 512) (hE : ∀ k j, E (ix2 k j) = member k j)
    (hEt : ∀ j k, Et (ix2 j k) = member k j) (hG : ∀ C : Fin 256, G (ix2 0 C) = g ⟨(C : ℕ) % 64, lt_place⟩)
    (h9 : ∀ c : Fin 128, X9 (ix2 r c) = four cr cr cc cc ⟨(c : ℕ) % 64, lt_place⟩)
    (h10 : ∀ c : Fin 128, X10 (ix2 r c) = four (fun k => -sr k) (fun _ => 0) (fun k => -sc k) (fun _ => 0) ⟨(c : ℕ) % 64, lt_place⟩)
    (h11 : ∀ c : Fin 128, X11 (ix2 r c) = four (fun _ => 0) sr (fun _ => 0) sc ⟨(c : ℕ) % 64, lt_place⟩)
    (C : Fin 256) :
    k0_pay7 Et T E G X9 X10 X11 (ix3 0 r C)
      = rotary (headNorm (fun d => T (ix2 r ⟨64 * ((C : ℕ) / 64) + (d : ℕ), lt_row (n := 4) rfl C.isLt d⟩)) g) cr sr cc sc
          ⟨(C : ℕ) % 64, lt_place⟩ := by
  have hC := C.isLt
  have hN := keyNorm_at Et T E G g hE hEt hG r
  have m64 : (C : ℕ) % 128 % 64 = (C : ℕ) % 64 := by omega
  have e : k0_pay7 Et T E G X9 X10 X11
      = shapeCast S1x512x256 (truncf .bf16 (addf (addf (mulf (keyNorm Et T E G)
          (concatenate S512x256 1 [⟨S512x128, shapeCast S512x128 X9 shapeCasts_S512x128_S512x128⟩,
            ⟨S512x128, shapeCast S512x128 X9 shapeCasts_S512x128_S512x128⟩] concatenates_S512x128_S512x128_S512x256_d1))
          (mulf (dynamicRotate 1 240#32 none (keyNorm Et T E G) rotates_S512x256_d1)
          (concatenate S512x256 1 [⟨S512x128, shapeCast S512x128 X10 shapeCasts_S512x128_S512x128⟩,
            ⟨S512x128, shapeCast S512x128 X10 shapeCasts_S512x128_S512x128⟩] concatenates_S512x128_S512x128_S512x256_d1)))
          (mulf (dynamicRotate 1 16#32 none (keyNorm Et T E G) rotates_S512x256_d1)
          (concatenate S512x256 1 [⟨S512x128, shapeCast S512x128 X11 shapeCasts_S512x128_S512x128⟩,
            ⟨S512x128, shapeCast S512x128 X11 shapeCasts_S512x128_S512x128⟩] concatenates_S512x128_S512x128_S512x256_d1)))
        bitsLt_bf16_f32) shapeCasts_S512x256_S1x512x256 := rfl
  rw [e]
  generalize keyNorm Et T E G = N at hN
  have e' : ∀ Y : FVec Ideal S512x256 .f32,
      shapeCast S1x512x256 (truncf .bf16 Y bitsLt_bf16_f32) shapeCasts_S512x256_S1x512x256 (ix3 0 r C) = Y (ix2 r C) := by
    intro Y
    pointwise []
  rw [e']
  refine Eq.trans ?_ (rope_eq _ cr sr cc sc ⟨(C : ℕ) % 64, lt_place⟩ (dynamicRotate 1 240#32 none N rotates_S512x256_d1 (ix2 r C))
    (dynamicRotate 1 16#32 none N rotates_S512x256_d1 (ix2 r C)) (fun h => ?_) (fun h => ?_))
  · rw [← hN C]
    show N (ix2 r C) * _ + _ * _ + _ * _ = _
    rw [two_at, two_at, two_at]
    simp only [shapeCast_self, h9, h10, h11, m64]
  · have h' : (C : ℕ) % 64 + 16 < 64 := h
    rw [keyFurther_at N r C (by omega), hN]
    simp only [show ((C : ℕ) + 16) / 64 = (C : ℕ) / 64 by omega, show ((C : ℕ) + 16) % 64 = (C : ℕ) % 64 + 16 by omega]
  · have h' : 16 ≤ (C : ℕ) % 64 := h
    rw [keyBack_at N r C (by omega), hN]
    simp only [show ((C : ℕ) - 16) / 64 = (C : ℕ) / 64 by omega, show ((C : ℕ) - 16) % 64 = (C : ℕ) % 64 - 16 by omega]

end Cert.Kernel6Ideal.Value

end
-- ==== Proof.QkvBlocks.lean ====
/- The projection to queries, keys and values: the kernel's blocks read from the argument arrays, and its three result arrays. -/
module

public import proofs.«01_k».proof.Proof.QkvKernel
public import proofs.«01_k».proof.Proof.FfnRow
public import Idealize.ShloMosaic.Lib.Pipeline.ValueKit

@[expose] public section

set_option maxRecDepth 16384

noncomputable section

namespace Cert.Kernel6Ideal.Value

open Idealize.ShloMosaic Idealize.ShloMosaic.TcCoe Idealize.SL.Sem
open Idealize.ShloMosaic.Pipeline (Dat)
open scoped BigOperators
open Cert.Kernel6Ideal Cert.Kernel6Ideal.Gen Cert.Qkv

variable (m : (ℓ : Loc nD τ sig) → Buf (Elt Ideal) ℓ)

/-- A column number's word is the head number's exactly when the column belongs to the head. -/
theorem member_word (k : Fin 1024) (j : Fin 128) :
    (FloatOps.uitofp FTy.bf16 (IntOp.cmpi CmpIPredicate.eq (BitVec.ofNat 32 ((k : ℕ) / 64)) (BitVec.ofNat 32 (j : ℕ))) : Ideal .bf16) = member k j := by
  have e : (BitVec.ofNat 32 ((k : ℕ) / 64) = BitVec.ofNat 32 (j : ℕ)) ↔ (k : ℕ) / 64 = j := by
    constructor
    · intro h
      have := congrArg BitVec.toNat h
      simp only [BitVec.toNat_ofNat] at this
      omega
    · intro h; rw [h]
  unfold member
  by_cases h : (k : ℕ) / 64 = j
  · have e1 : IntOp.cmpi CmpIPredicate.eq (BitVec.ofNat 32 ((k : ℕ) / 64)) (BitVec.ofNat 32 (j : ℕ)) = 1#1 := by
      rw [h]; simp [IntOp.cmpi]
    rw [if_pos h, e1]
    show (((1#1 : BitVec 1).toNat : ℝ) : EReal) = 1
    simp
  · have e1 : IntOp.cmpi CmpIPredicate.eq (BitVec.ofNat 32 ((k : ℕ) / 64)) (BitVec.ofNat 32 (j : ℕ)) = 0#1 := by
      simp [IntOp.cmpi, beq_eq_decide, decide_eq_false (fun hh => h (e.mp hh))]
    rw [if_neg h, e1]
    show (((0#1 : BitVec 1).toNat : ℝ) : EReal) = 0
    simp

/-- Eight tables of sixteen columns side by side, the last four the first four, read at a column. -/
theorem lanes_at (a b c e : FVec Ideal S4096x16 .f32) (l : Fin 4096) (C : Fin 128) :
    concatenate S4096x128 1 [⟨S4096x16, a⟩, ⟨S4096x16, b⟩, ⟨S4096x16, c⟩, ⟨S4096x16, e⟩, ⟨S4096x16, a⟩, ⟨S4096x16, b⟩, ⟨S4096x16, c⟩, ⟨S4096x16, e⟩]
      concatenates_S4096x16_S4096x16_S4096x16_S4096x16_S4096x16_S4096x16_S4096x16_S4096x16_S4096x128_d1 (ix2 l C)
      = four (fun k => a (ix2 l k)) (fun k => b (ix2 l k)) (fun k => c (ix2 l k)) (fun k => e (ix2 l k)) ⟨(C : ℕ) % 64, lt_place⟩ := by
  have hC := C.isLt
  pointwise []
  unfold four
  repeat' split
  all_goals first
    | (exfalso; simp only [] at *; omega)
    | exact congrArg (fun k => a (ix2 l k)) (Fin.ext (by simp only []; omega))
    | exact congrArg (fun k => b (ix2 l k)) (Fin.ext (by simp only []; omega))
    | exact congrArg (fun k => c (ix2 l k)) (Fin.ext (by simp only []; omega))
    | exact congrArg (fun k => e (ix2 l k)) (Fin.ext (by simp only []; omega))

/-- The membership table. -/
theorem members (c : Dev nD) (k : Fin 1024) (j : Fin 128) : V m c main_v10 (ix2 k j) = member k j := by
  pointwise [V]
  entry_read
  pointwise []
  exact member_word k j

/-- Its transpose. -/
theorem members' (c : Dev nD) (j : Fin 128) (k : Fin 1024) : V m c main_v11 (ix2 j k) = member k j := by
  pointwise [V]
  entry_read
  pointwise []
  exact member_word k j

/-- The gains of the queries' norm, one copy for each head. -/
theorem queryGains (c : Dev nD) (C : Fin 1024) : V m c main_v15 (ix2 0 C) = m ((c : Thread nD τ).loc main_arg5) (ix1 ⟨(C : ℕ) % 64, lt_place⟩) := by
  pointwise [V]
  entry_read
  pointwise []

/-- The gains of the keys' norm. -/
theorem keyGains (c : Dev nD) (C : Fin 256) : V m c main_v19 (ix2 0 C) = m ((c : Thread nD τ).loc main_arg6) (ix1 ⟨(C : ℕ) % 64, lt_place⟩) := by
  pointwise [V]
  entry_read
  pointwise []

/-- The table of cosines, as the host lays it out. -/
theorem cosTable (c : Dev nD) : (V m c main_v25 : FVec Ideal S4096x128 .f32) =
    concatenate S4096x128 1 [⟨S4096x16, (Host.cos (m ((c : Thread nD τ).loc main_arg7)) : FVec Ideal S4096x16 .f32)⟩,
      ⟨S4096x16, (Host.cos (m ((c : Thread nD τ).loc main_arg7)) : FVec Ideal S4096x16 .f32)⟩,
      ⟨S4096x16, (Host.cos (m ((c : Thread nD τ).loc main_arg8)) : FVec Ideal S4096x16 .f32)⟩,
      ⟨S4096x16, (Host.cos (m ((c : Thread nD τ).loc main_arg8)) : FVec Ideal S4096x16 .f32)⟩,
      ⟨S4096x16, (Host.cos (m ((c : Thread nD τ).loc main_arg7)) : FVec Ideal S4096x16 .f32)⟩,
      ⟨S4096x16, (Host.cos (m ((c : Thread nD τ).loc main_arg7)) : FVec Ideal S4096x16 .f32)⟩,
      ⟨S4096x16, (Host.cos (m ((c : Thread nD τ).loc main_arg8)) : FVec Ideal S4096x16 .f32)⟩,
      ⟨S4096x16, (Host.cos (m ((c : Thread nD τ).loc main_arg8)) : FVec Ideal S4096x16 .f32)⟩]
      concatenates_S4096x16_S4096x16_S4096x16_S4096x16_S4096x16_S4096x16_S4096x16_S4096x16_S4096x128_d1 := by
  show StableHlo.after hostOps0 (fun b => m (c, b)) (Proc.tc.devRef main_v25) = _
  after_results_simp <;> (try dsimp only [Matrix.cons_val]) <;> (try after_results_simp) <;> rfl

/-- The table of negated sines. -/
theorem loTable (c : Dev nD) : (V m c main_v28 : FVec Ideal S4096x128 .f32) =
    concatenate S4096x128 1 [⟨S4096x16, (Host.negf (Host.sin (m ((c : Thread nD τ).loc main_arg7)) : FVec Ideal S4096x16 .f32) : FVec Ideal S4096x16 .f32)⟩,
      ⟨S4096x16, (broadcastInDim S4096x16 ![] bcast_S_S4096x16 (constant S_ .f32 0x00000000#32) : FVec Ideal S4096x16 .f32)⟩,
      ⟨S4096x16, (Host.negf (Host.sin (m ((c : Thread nD τ).loc main_arg8)) : FVec Ideal S4096x16 .f32) : FVec Ideal S4096x16 .f32)⟩,
      ⟨S4096x16, (broadcastInDim S4096x16 ![] bcast_S_S4096x16 (constant S_ .f32 0x00000000#32) : FVec Ideal S4096x16 .f32)⟩,
      ⟨S4096x16, (Host.negf (Host.sin (m ((c : Thread nD τ).loc main_arg7)) : FVec Ideal S4096x16 .f32) : FVec Ideal S4096x16 .f32)⟩,
      ⟨S4096x16, (broadcastInDim S4096x16 ![] bcast_S_S4096x16 (constant S_ .f32 0x00000000#32) : FVec Ideal S4096x16 .f32)⟩,
      ⟨S4096x16, (Host.negf (Host.sin (m ((c : Thread nD τ).loc main_arg8)) : FVec Ideal S4096x16 .f32) : FVec Ideal S4096x16 .f32)⟩,
      ⟨S4096x16, (broadcastInDim S4096x16 ![] bcast_S_S4096x16 (constant S_ .f32 0x00000000#32) : FVec Ideal S4096x16 .f32)⟩]
      concatenates_S4096x16_S4096x16_S4096x16_S4096x16_S4096x16_S4096x16_S4096x16_S4096x16_S4096x128_d1 := by
  show StableHlo.after hostOps0 (fun b => m (c, b)) (Proc.tc.devRef main_v28) = _
  after_results_simp <;> (try dsimp only [Matrix.cons_val]) <;> (try after_results_simp) <;> rfl

/-- The table of sines. -/
theorem hiTable (c : Dev nD) : (V m c main_v29 : FVec Ideal S4096x128 .f32) =
    concatenate S4096x128 1 [⟨S4096x16, (broadcastInDim S4096x16 ![] bcast_S_S4096x16 (constant S_ .f32 0x00000000#32) : FVec Ideal S4096x16 .f32)⟩,
      ⟨S4096x16, (Host.sin (m ((c : Thread nD τ).loc main_arg7)) : FVec Ideal S4096x16 .f32)⟩,
      ⟨S4096x16, (broadcastInDim S4096x16 ![] bcast_S_S4096x16 (constant S_ .f32 0x00000000#32) : FVec Ideal S4096x16 .f32)⟩,
      ⟨S4096x16, (Host.sin (m ((c : Thread nD τ).loc main_arg8)) : FVec Ideal S4096x16 .f32)⟩,
      ⟨S4096x16, (broadcastInDim S4096x16 ![] bcast_S_S4096x16 (constant S_ .f32 0x00000000#32) : FVec Ideal S4096x16 .f32)⟩,
      ⟨S4096x16, (Host.sin (m ((c : Thread nD τ).loc main_arg7)) : FVec Ideal S4096x16 .f32)⟩,
      ⟨S4096x16, (broadcastInDim S4096x16 ![] bcast_S_S4096x16 (constant S_ .f32 0x00000000#32) : FVec Ideal S4096x16 .f32)⟩,
      ⟨S4096x16, (Host.sin (m ((c : Thread nD τ).loc main_arg8)) : FVec Ideal S4096x16 .f32)⟩]
      concatenates_S4096x16_S4096x16_S4096x16_S4096x16_S4096x16_S4096x16_S4096x16_S4096x16_S4096x128_d1 := by
  show StableHlo.after hostOps0 (fun b => m (c, b)) (Proc.tc.devRef main_v29) = _
  after_results_simp <;> (try dsimp only [Matrix.cons_val]) <;> (try after_results_simp) <;> rfl

/-- The cosines of the first and the second angle of token `l`. -/
def cosAt (A : FVec Ideal S4096x16 .f32) (l : Fin 4096) (k : Fin 16) : EReal := (Host.cos A : FVec Ideal S4096x16 .f32) (ix2 l k)

/-- The sines. -/
def sinAt (A : FVec Ideal S4096x16 .f32) (l : Fin 4096) (k : Fin 16) : EReal := (Host.sin A : FVec Ideal S4096x16 .f32) (ix2 l k)

/-- The table of cosines at a token and a column. -/
theorem cos_at (c : Dev nD) (l : Fin 4096) (C : Fin 128) : V m c main_v25 (ix2 l C)
    = four (cosAt (m ((c : Thread nD τ).loc main_arg7)) l) (cosAt (m ((c : Thread nD τ).loc main_arg7)) l)
        (cosAt (m ((c : Thread nD τ).loc main_arg8)) l) (cosAt (m ((c : Thread nD τ).loc main_arg8)) l) ⟨(C : ℕ) % 64, lt_place⟩ :=
  (congrFun (cosTable m c) (ix2 l C)).trans (lanes_at _ _ _ _ l C)

/-- The table of negated sines. -/
theorem lo_at (c : Dev nD) (l : Fin 4096) (C : Fin 128) : V m c main_v28 (ix2 l C)
    = four (fun k => -sinAt (m ((c : Thread nD τ).loc main_arg7)) l k) (fun _ => 0)
        (fun k => -sinAt (m ((c : Thread nD τ).loc main_arg8)) l k) (fun _ => 0) ⟨(C : ℕ) % 64, lt_place⟩ := by
  refine (congrFun (loTable m c) (ix2 l C)).trans ((lanes_at _ _ _ _ l C).trans ?_)
  unfold four sinAt
  pointwise []

/-- The table of sines. -/
theorem hi_at (c : Dev nD) (l : Fin 4096) (C : Fin 128) : V m c main_v29 (ix2 l C)
    = four (fun _ => 0) (sinAt (m ((c : Thread nD τ).loc main_arg7)) l)
        (fun _ => 0) (sinAt (m ((c : Thread nD τ).loc main_arg8)) l) ⟨(C : ℕ) % 64, lt_place⟩ := by
  refine (congrFun (hiTable m c) (ix2 l C)).trans ((lanes_at _ _ _ _ l C).trans ?_)
  unfold four sinAt
  pointwise []

/-- One entry of a token's normed row times the weights. -/
def product (A0 : FVec Ideal S16x4096x1024 .f32) (A1 : FVec Ideal S1024 .f32) (A2 A3 : FVec Ideal S16x1x1024 .f32) (A4 : FVec Ideal S1024x1536 .f32)
    (b : Fin 16) (l : Fin 4096) (j : Fin 1536) : EReal :=
  ∑ k, Cert.Ffn.normed (fun k => A0 (ix3 b l k)) (fun k => A1 (ix1 k)) (fun k => A2 (ix3 b 0 k)) (fun k => A3 (ix3 b 0 k)) k * A4 (ix2 k j)

/-- A key's column is a column of the weights. -/
theorem lt_keyCol {C : ℕ} (hC : C < 256) (d : Fin 64) : 1024 + (64 * (C / 64) + (d : ℕ)) < 1536 := by omega

/-- A value's column too. -/
theorem lt_valueCol {C : ℕ} (hC : C < 256) : 1280 + C < 1536 := by omega

/-- The queries as one function of the argument arrays. -/
def queries (A0 : FVec Ideal S16x4096x1024 .f32) (A1 : FVec Ideal S1024 .f32) (A2 A3 : FVec Ideal S16x1x1024 .f32) (A4 : FVec Ideal S1024x1536 .f32)
    (A5 : FVec Ideal S64 .f32) (A7 A8 : FVec Ideal S4096x16 .f32) : FVec Ideal S16x4096x1024 .bf16 := fun i =>
  rotary (headNorm (fun d => product A0 A1 A2 A3 A4 (i 0) (i 1) ⟨64 * ((i 2 : ℕ) / 64) + (d : ℕ), lt_query (i 2).isLt d⟩) (fun d => A5 (ix1 d)))
    (cosAt A7 (i 1)) (sinAt A7 (i 1)) (cosAt A8 (i 1)) (sinAt A8 (i 1)) ⟨(i 2 : ℕ) % 64, lt_place⟩ * Ideal.ofBits .f32 0x3E000000#32

/-- The keys. -/
def keys (A0 : FVec Ideal S16x4096x1024 .f32) (A1 : FVec Ideal S1024 .f32) (A2 A3 : FVec Ideal S16x1x1024 .f32) (A4 : FVec Ideal S1024x1536 .f32)
    (A6 : FVec Ideal S64 .f32) (A7 A8 : FVec Ideal S4096x16 .f32) : FVec Ideal S16x4096x256 .bf16 := fun i =>
  rotary (headNorm (fun d => product A0 A1 A2 A3 A4 (i 0) (i 1) ⟨1024 + (64 * ((i 2 : ℕ) / 64) + (d : ℕ)), lt_keyCol (i 2).isLt d⟩) (fun d => A6 (ix1 d)))
    (cosAt A7 (i 1)) (sinAt A7 (i 1)) (cosAt A8 (i 1)) (sinAt A8 (i 1)) ⟨(i 2 : ℕ) % 64, lt_place⟩

/-- The values. -/
def values (A0 : FVec Ideal S16x4096x1024 .f32) (A1 : FVec Ideal S1024 .f32) (A2 A3 : FVec Ideal S16x1x1024 .f32) (A4 : FVec Ideal S1024x1536 .f32) :
    FVec Ideal S16x4096x256 .bf16 := fun i => product A0 A1 A2 A3 A4 (i 0) (i 1) ⟨1280 + (i 2 : ℕ), lt_valueCol (i 2).isLt⟩

/-- Every window's block index at every grid point. -/
theorem blockIdx : ∀ t : Fin cfg0.N, win0_0.index t = ![t.val / 8, t.val % 8, 0]
    ∧ win0_1.index t = ![0, 0]
    ∧ win0_2.index t = ![t.val / 8, 0, 0]
    ∧ win0_3.index t = ![t.val / 8, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val % 8, 0]
    ∧ win0_10.index t = ![t.val % 8, 0]
    ∧ win0_11.index t = ![t.val % 8, 0]
    ∧ win0_12.index t = ![t.val / 8, t.val % 8, 0]
    ∧ win0_13.index t = ![t.val / 8, t.val % 8, 0]
    ∧ win0_14.index t = ![t.val / 8, t.val % 8, 0] :=
  (by decide +kernel : ∀ t : Fin grid0.N, _)

/-- A grid point's example. -/
theorem lt_example (t : Fin cfg0.N) : t.val / 8 < 16 := by have : t.val < 128 := t.isLt; omega

/-- A row of a grid point's block is a token. -/
theorem lt_token (t : Fin cfg0.N) (r : Fin 512) : t.val % 8 * 512 + (r : ℕ) < 4096 := by omega

/-- The head table's window is the whole table. -/
theorem emb5 (t : Fin cfg0.N) (k : Fin 1024) (j : Fin 128) : (win0_5.blk t).view.emb (ix2 k j) = ix2 k j := by blk_ext! [blockIdx t]

/-- So is its transpose's. -/
theorem emb6 (t : Fin cfg0.N) (j : Fin 128) (k : Fin 1024) : (win0_6.blk t).view.emb (ix2 j k) = ix2 j k := by blk_ext! [blockIdx t]

/-- So is the query gains'. -/
theorem emb7 (t : Fin cfg0.N) (C : Fin 1024) : (win0_7.blk t).view.emb (ix2 0 C) = ix2 0 C := by blk_ext! [blockIdx t]

/-- So is the key gains'. -/
theorem emb8 (t : Fin cfg0.N) (C : Fin 256) : (win0_8.blk t).view.emb (ix2 0 C) = ix2 0 C := by blk_ext! [blockIdx t]

/-- The cosine table's window holds the block's tokens. -/
theorem emb9 (t : Fin cfg0.N) (r : Fin 512) (C : Fin 128) : (win0_9.blk t).view.emb (ix2 r C) = ix2 ⟨t.val % 8 * 512 + (r : ℕ), lt_token t r⟩ C := by
  blk_ext! [blockIdx t]

/-- So does the negated sines'. -/
theorem emb10 (t : Fin cfg0.N) (r : Fin 512) (C : Fin 128) : (win0_10.blk t).view.emb (ix2 r C) = ix2 ⟨t.val % 8 * 512 + (r : ℕ), lt_token t r⟩ C := by
  blk_ext! [blockIdx t]

/-- So does the sines'. -/
theorem emb11 (t : Fin cfg0.N) (r : Fin 512) (C : Fin 128) : (win0_11.blk t).view.emb (ix2 r C) = ix2 ⟨t.val % 8 * 512 + (r : ℕ), lt_token t r⟩ C := by
  blk_ext! [blockIdx t]

/-- Where an index of the queries' block sits. -/
theorem emb12 (t : Fin cfg0.N) (r : Fin 512) (C : Fin 1024) : (win0_12.blk t).view.emb (ix3 0 r C)
    = ix3 ⟨t.val / 8, lt_example t⟩ ⟨t.val % 8 * 512 + (r : ℕ), lt_token t r⟩ C := by
  blk_ext! [blockIdx t]

/-- Where an index of the keys' block sits. -/
theorem emb13 (t : Fin cfg0.N) (r : Fin 512) (C : Fin 256) : (win0_13.blk t).view.emb (ix3 0 r C)
    = ix3 ⟨t.val / 8, lt_example t⟩ ⟨t.val % 8 * 512 + (r : ℕ), lt_token t r⟩ C := by
  blk_ext! [blockIdx t]

/-- Where an index of the values' block sits. -/
theorem emb14 (t : Fin cfg0.N) (r : Fin 512) (C : Fin 256) : (win0_14.blk t).view.emb (ix3 0 r C)
    = ix3 ⟨t.val / 8, lt_example t⟩ ⟨t.val % 8 * 512 + (r : ℕ), lt_token t r⟩ C := by
  blk_ext! [blockIdx t]

/-- The block's product of normed rows with the weights. -/
theorem product_at (c : Dev nD) (t : Fin cfg0.N) (r : Fin 512) (j : Fin 1536) :
    k0_pay2 (iblk m c 0 t) (iblk m c 1 t) (iblk m c 2 t) (iblk m c 3 t) (iblk m c 4 t) (ix2 r j)
      = product (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 8, lt_example t⟩
          ⟨t.val % 8 * 512 + (r : ℕ), lt_token t r⟩ j := by
  pointwise [k0_pay2, product, Cert.Ffn.normed]
  blk_point [iblk, V, blockIdx t]

/-- The same for the columns the keys take. -/
theorem product_key (c : Dev nD) (t : Fin cfg0.N) (r : Fin 512) (j : Fin 256) (h : 1024 + (j : ℕ) < 1536) :
    k0_pay5 (iblk m c 0 t) (iblk m c 1 t) (iblk m c 2 t) (iblk m c 3 t) (iblk m c 4 t) (ix2 r j)
      = product (m ((c : Thread nD τ).loc main_arg0)) (m ((c : Thread nD τ).loc main_arg1)) (m ((c : Thread nD τ).loc main_arg2))
          (m ((c : Thread nD τ).loc main_arg3)) (m ((c : Thread nD τ).loc main_arg4)) ⟨t.val / 8, lt_example t⟩
          ⟨t.val % 8 * 512 + (r : ℕ), lt_token t r⟩ ⟨1024 + (j : ℕ), h⟩ := by
  refine Eq.trans ?_ (product_at m c t r ⟨1024 + (j : ℕ), h⟩)
  unfold k0_pay5
  pointwise []

end Cert.Kernel6Ideal.Value

end
-- ==== Proof.QkvFinal.lean ====
/- The projection to queries, keys and values: the kernel's three result arrays after the run. -/
module

public import proofs.«01_k».proof.Proof.QkvBlocks

@[expose] public section

set_option maxRecDepth 16384

noncomputable section

namespace Cert.Kernel6Ideal.Value

open Idealize.ShloMosaic Idealize.ShloMosaic.TcCoe Idealize.SL.Sem
open Idealize.ShloMosaic.Pipeline (Dat)
open scoped BigOperators
open Cert.Kernel6Ideal Cert.Kernel6Ideal.Gen Cert.Qkv

variable (m : (ℓ : Loc nD τ sig) → Buf (Elt Ideal) ℓ)

/-- The head table the body reads. -/
theorem block5 (c : Dev nD) (t : Fin cfg0.N) (k : Fin 1024) (j : Fin 128) : k0_pay3 (iblk m c 5 t) (ix2 k j) = member k j := by
  pointwise [k0_pay3]
  exact (congrArg (V m c main_v10) (emb5 t k j)).trans (members m c k j)

/-- Its first 256 rows. -/
theorem block5k (c : Dev nD) (t : Fin cfg0.N) (k : Fin 256) (j : Fin 128) : k0_pay6 (iblk m c 5 t) (ix2 k j) = member k j := by
  refine Eq.trans ?_ (block5 m c t ⟨k, by omega⟩ j)
  unfold k0_pay6
  pointwise []

/-- Its transpose. -/
theorem block6 (c : Dev nD) (t : Fin cfg0.N) (j : Fin 128) (k : Fin 1024) : k0_pay4 (iblk m c 6 t) (ix2 j k) = member k j := by
  pointwise [k0_pay4]
  exact (congrArg (V m c main_v11) (emb6 t j k)).trans (members' m c j k)

/-- The gains of the queries' norm. -/
theorem block7 (c : Dev nD) (t : Fin cfg0.N) (C : Fin 1024) :
    iblk m c 7 t (ix2 0 C) = m ((c : Thread nD τ).loc main_arg5) (ix1 ⟨(C : ℕ) % 64, lt_place⟩) :=
  (congrArg (V m c main_v15) (emb7 t C)).trans (queryGains m c C)

/-- The gains of the keys' norm. -/
theorem block8 (c : Dev nD) (t : Fin cfg0.N) (C : Fin 256) :
    iblk m c 8 t (ix2 0 C) = m ((c : Thread nD τ).loc main_arg6) (ix1 ⟨(C : ℕ) % 64, lt_place⟩) :=
  (congrArg (V m c main_v19) (emb8 t C)).trans (keyGains m c C)

/-- The cosines of a row of the block. -/
theorem block9 (c : Dev nD) (t : Fin cfg0.N) (r : Fin 512) (C : Fin 128) : iblk m c 9 t (ix2 r C)
    = four (cosAt (m ((c : Thread nD τ).loc main_arg7)) ⟨t.val % 8 * 512 + (r : ℕ), lt_token t r⟩) (cosAt (m ((c : Thread nD τ).loc main_arg7)) ⟨t.val % 8 * 512 + (r : ℕ), lt_token t r⟩)
      (cosAt (m ((c : Thread nD τ).loc main_arg8)) ⟨t.val % 8 * 512 + (r : ℕ), lt_token t r⟩) (cosAt (m ((c : Thread nD τ).loc main_arg8)) ⟨t.val % 8 * 512 + (r : ℕ), lt_token t r⟩) ⟨(C : ℕ) % 64, lt_place⟩ :=
  (congrArg (V m c main_v25) (emb9 t r C)).trans (cos_at m c _ C)

/-- The negated sines. -/
theorem block10 (c : Dev nD) (t : Fin cfg0.N) (r : Fin 512) (C : Fin 128) : iblk m c 10 t (ix2 r C)
    = four (fun k => -sinAt (m ((c : Thread nD τ).loc main_arg7)) ⟨t.val % 8 * 512 + (r : ℕ), lt_token t r⟩ k) (fun _ => 0)
      (fun k => -sinAt (m ((c : Thread nD τ).loc main_arg8)) ⟨t.val % 8 * 512 + (r : ℕ), lt_token t r⟩ k) (fun _ => 0) ⟨(C : ℕ) % 64, lt_place⟩ :=
  (congrArg (V m c main_v28) (emb10 t r C)).trans (lo_at m c _ C)

/-- The sines. -/
theorem block11 (c : Dev nD) (t : Fin cfg0.N) (r : Fin 512) (C : Fin 128) : iblk m c 11 t (ix2 r C)
    = four (fun _ => 0) (sinAt (m ((c : Thread nD τ).loc main_arg7)) ⟨t.val % 8 * 512 + (r : ℕ), lt_token t r⟩)
      (fun _ => 0) (sinAt (m ((c : Thread nD τ).loc main_arg8)) ⟨t.val % 8 * 512 + (r : ℕ), lt_token t r⟩) ⟨(C : ℕ) % 64, lt_place⟩ :=
  (congrArg (V m c main_v29) (emb11 t r C)).trans (hi_at m c _ C)

/-- What the body stores at index `y` of point `t`'s block of window 12 is `queries` at the array index `y` sits at. -/
theorem stored12 (c : Dev nD) (t : Fin cfg0.N) (y : S1x512x1024.Idx) :
    k0_pay1 (k0_pay10 (k0_pay2 (iblk m c 0 t) (iblk m c 1 t) (iblk m c 2 t) (iblk m c 3 t) (iblk m c 4 t)) (k0_pay3 (iblk m c 5 t))
        (k0_pay4 (iblk m c 6 t)) (iblk m c 7 t) (iblk m c 9 t) (iblk m c 10 t))
      (k0_pay11 (k0_pay2 (iblk m c 0 t) (iblk m c 1 t) (iblk m c 2 t) (iblk m c 3 t) (iblk m c 4 t)) (k0_pay3 (iblk m c 5 t))
        (k0_pay4 (iblk m c 6 t)) (iblk m c 7 t) (iblk m c 11 t)) y
      = queries (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) (m ((c : Thread nD τ).loc main_arg8)) (((cfg0.win 12).blk t).view.emb y) := by
  obtain ⟨z, r, C, rfl⟩ : ∃ (z : Fin 1) (r : Fin 512) (C : Fin 1024), y = ix3 z r C := ⟨y 0, y 1, y 2, eq_ix3 y⟩
  obtain rfl : z = 0 := Subsingleton.elim _ _
  refine (query_at _ _ _ _ _ _ _ (fun d => m ((c : Thread nD τ).loc main_arg5) (ix1 d)) _ _ _ _ r (block5 m c t) (block6 m c t)
    (block7 m c t) (block9 m c t r) (block10 m c t r) (block11 m c t r) C).trans ?_
  refine Eq.trans ?_ (congrArg (queries _ _ _ _ _ _ _ _) (emb12 t r C)).symm
  simp only [product_at]
  rfl

/-- That result array after the run. -/
theorem final12 (c : Dev nD) : (dats m 0 c).arrAt 12 (cfgs 0).N
      = queries (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) (m ((c : Thread nD τ).loc main_arg8)) := by
  refine (dats m 0 c).arrAt_eq_of_covers 12 _ (by decide +kernel) fun t hf y => ?_
  blk_simp
  rw [after0_12]
  frame_out [k0_pay12, k0_pay13, k0_pay14]
  exact stored12 m c t y

/-- What the body stores at index `y` of point `t`'s block of window 13 is `keys` at the array index `y` sits at. -/
theorem stored13 (c : Dev nD) (t : Fin cfg0.N) (y : S1x512x256.Idx) :
    k0_pay7 (k0_pay4 (iblk m c 6 t)) (k0_pay5 (iblk m c 0 t) (iblk m c 1 t) (iblk m c 2 t) (iblk m c 3 t) (iblk m c 4 t)) (k0_pay6 (iblk m c 5 t))
        (iblk m c 8 t) (iblk m c 9 t) (iblk m c 10 t) (iblk m c 11 t) y
      = keys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (m ((c : Thread nD τ).loc main_arg7)) (m ((c : Thread nD τ).loc main_arg8)) (((cfg0.win 13).blk t).view.emb y) := by
  obtain ⟨z, r, C, rfl⟩ : ∃ (z : Fin 1) (r : Fin 512) (C : Fin 256), y = ix3 z r C := ⟨y 0, y 1, y 2, eq_ix3 y⟩
  obtain rfl : z = 0 := Subsingleton.elim _ _
  refine (key_at _ _ _ _ _ _ _ (fun d => m ((c : Thread nD τ).loc main_arg6) (ix1 d)) _ _ _ _ r (block5k m c t) (block6 m c t)
    (block8 m c t) (block9 m c t r) (block10 m c t r) (block11 m c t r) C).trans ?_
  refine Eq.trans ?_ (congrArg (keys _ _ _ _ _ _ _ _) (emb13 t r C)).symm
  have hp := fun d : Fin 64 => product_key m c t r ⟨64 * ((C : ℕ) / 64) + (d : ℕ), lt_row (n := 4) rfl C.isLt d⟩ (lt_keyCol C.isLt d)
  simp only [hp]
  rfl

/-- That result array after the run. -/
theorem final13 (c : Dev nD) : (dats m 0 c).arrAt 13 (cfgs 0).N
      = keys (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6))
          (m ((c : Thread nD τ).loc main_arg7)) (m ((c : Thread nD τ).loc main_arg8)) := by
  refine (dats m 0 c).arrAt_eq_of_covers 13 _ (by decide +kernel) fun t hf y => ?_
  blk_simp
  rw [after0_13]
  frame_out [k0_pay12, k0_pay13, k0_pay14]
  exact stored13 m c t y

/-- What the body stores at index `y` of point `t`'s block of window 14 is `values` at the array index `y` sits at. -/
theorem stored14 (c : Dev nD) (t : Fin cfg0.N) (y : S1x512x256.Idx) :
    k0_pay8 (k0_pay2 (iblk m c 0 t) (iblk m c 1 t) (iblk m c 2 t) (iblk m c 3 t) (iblk m c 4 t)) y
      = values (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 14).blk t).view.emb y) := by
  obtain ⟨z, r, C, rfl⟩ : ∃ (z : Fin 1) (r : Fin 512) (C : Fin 256), y = ix3 z r C := ⟨y 0, y 1, y 2, eq_ix3 y⟩
  obtain rfl : z = 0 := Subsingleton.elim _ _
  refine Eq.trans ?_ (congrArg (values _ _ _ _ _) (emb14 t r C)).symm
  refine Eq.trans ?_ (product_at m c t r ⟨1280 + (C : ℕ), lt_valueCol C.isLt⟩)
  generalize k0_pay2 (iblk m c 0 t) (iblk m c 1 t) (iblk m c 2 t) (iblk m c 3 t) (iblk m c 4 t) = T
  pointwise [k0_pay8]

/-- That result array after the run. -/
theorem final14 (c : Dev nD) : (dats m 0 c).arrAt 14 (cfgs 0).N
      = values (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 14 _ (by decide +kernel) fun t hf y => ?_
  blk_simp
  rw [after0_14]
  frame_out [k0_pay12, k0_pay13, k0_pay14]
  exact stored14 m c t y

end Cert.Kernel6Ideal.Value

end
-- ==== Proof.QkvRef.lean ====
/- The projection to queries, keys and values: the reference's results, entry by entry. -/
module

public import proofs.«01_k».proof.Proof.Gen.Reference6Ideal
public import proofs.«01_k».proof.Proof.Gen.Reference6Ideal.Run
public import proofs.«01_k».proof.Proof.QkvBlocks

@[expose] public section

set_option maxRecDepth 16384

noncomputable section

namespace Cert.QkvRef

open Idealize.ShloMosaic Idealize.ShloMosaic.TcCoe Idealize.SL.Sem
open scoped BigOperators
open Cert.Reference6Ideal Cert.Reference6Ideal.Gen Cert.Qkv
open Cert.Kernel6Ideal.Value (queries keys values product cosAt sinAt lt_query lt_keyCol lt_valueCol lt_place)

/-- The reference's normed rows. -/
def rows (A0 : FVec Ideal S16x4096x1024 .f32) (A1 : FVec Ideal S1024 .f32) (A2 A3 : FVec Ideal S16x1x1024 .f32) : FVec Ideal S16x4096x1024 .f32 :=
  addf (mulf (mulf (mulf A0 (broadcastInDim S16x4096x1024 ![0, 1, 2] bcast_S16x4096x1_S16x4096x1024_0_1_2 (Host.rsqrt (addf (Host.divf (broadcastInDim
    S16x4096x1 ![0, 1] bcast_S16x4096_S16x4096x1_0_1 (Host.reduceAdd (mulf A0 A0) (constant S_ .f32 0x00000000#32) reducesTo_S16x4096x1024_S16x4096_d2
    h_S_)) (broadcastInDim S16x4096x1 ![] bcast_S_S16x4096x1 (constant S_ .f32 0x44800000#32))) (broadcastInDim S16x4096x1 ![] bcast_S_S16x4096x1
    (constant S_ .f32 0x358637BD#32)))))) (broadcastInDim S16x4096x1024 ![0, 1, 2] bcast_S1x1x1024_S16x4096x1024_0_1_2 (broadcastInDim S1x1x1024 ![2]
    bcast_S1024_S1x1x1024_2 A1))) (broadcastInDim S16x4096x1024 ![0, 1, 2] bcast_S16x1x1024_S16x4096x1024_0_1_2 (addf (broadcastInDim S16x1x1024 ![]
    bcast_S_S16x1x1024 (constant S_ .f32 0x3F800000#32)) A3))) (broadcastInDim S16x4096x1024 ![0, 1, 2] bcast_S16x1x1024_S16x4096x1024_0_1_2 A2)

/-- One entry of them. -/
theorem rows_at (A0 : FVec Ideal S16x4096x1024 .f32) (A1 : FVec Ideal S1024 .f32) (A2 A3 : FVec Ideal S16x1x1024 .f32) (b : Fin 16) (l : Fin 4096)
    (k : Fin 1024) : rows A0 A1 A2 A3 (ix3 b l k)
      = Cert.Ffn.normed (fun k => A0 (ix3 b l k)) (fun k => A1 (ix1 k)) (fun k => A2 (ix3 b 0 k)) (fun k => A3 (ix3 b 0 k)) k := by
  pointwise [rows, Cert.Ffn.normed]

/-- Their product with the weights. -/
def all (A0 : FVec Ideal S16x4096x1024 .f32) (A1 : FVec Ideal S1024 .f32) (A2 A3 : FVec Ideal S16x1x1024 .f32) (A4 : FVec Ideal S1024x1536 .f32) :
    FVec Ideal S16x4096x1536 .f32 :=
  Host.dotGeneral dot_S16x4096x1024_S1024x1536_S16x4096x1536_2_0_01_1_n_n none (rows A0 A1 A2 A3) A4

/-- One entry of it. -/
theorem all_at (A0 : FVec Ideal S16x4096x1024 .f32) (A1 : FVec Ideal S1024 .f32) (A2 A3 : FVec Ideal S16x1x1024 .f32) (A4 : FVec Ideal S1024x1536 .f32)
    (b : Fin 16) (l : Fin 4096) (j : Fin 1536) : all A0 A1 A2 A3 A4 (ix3 b l j) = product A0 A1 A2 A3 A4 b l j := by
  unfold all product
  have hr := rows_at A0 A1 A2 A3 b l
  generalize rows A0 A1 A2 A3 = H at hr ⊢
  pointwise []
  exact Finset.sum_congr rfl fun k _ => congrArg (· * _) (hr k)

/-- The columns of the queries, by head. -/
def querySplit (T : FVec Ideal S16x4096x1536 .f32) : FVec Ideal S16x4096x16x64 .f32 :=
  shapeCast _ (extractStridedSlice S16x4096x1024 ![0, 0, 0] T slices_S16x4096x1536_S16x4096x1024_0_0_0) shapeCasts_S16x4096x1024_S16x4096x16x64

/-- Its entries. -/
theorem querySplit_at (T : FVec Ideal S16x4096x1536 .f32) (b : Fin 16) (l : Fin 4096) (h : Fin 16) (d : Fin 64)
    (hc : 64 * (h : ℕ) + (d : ℕ) < 1536) :
    querySplit T (ix4 b l h d) = T (ix3 b l ⟨64 * (h : ℕ) + (d : ℕ), hc⟩) := by
  pointwise [querySplit]
  try refine congrArg (fun j => T (ix3 b l j)) (Fin.ext ?_)
  try simp only []
  try omega

/-- The norm of each head of the queries. -/
def queryNorm (U : FVec Ideal S16x4096x16x64 .f32) (g : FVec Ideal S64 .f32) : FVec Ideal S16x4096x16x64 .f32 :=
  mulf (mulf U (broadcastInDim S16x4096x16x64 ![0, 1, 2, 3] bcast_S16x4096x16x1_S16x4096x16x64_0_1_2_3 (Host.rsqrt (addf (Host.divf (broadcastInDim
    S16x4096x16x1 ![0, 1, 2] bcast_S16x4096x16_S16x4096x16x1_0_1_2 (Host.reduceAdd (mulf U U) (constant S_ .f32 0x00000000#32)
    reducesTo_S16x4096x16x64_S16x4096x16_d3 h_S_)) (broadcastInDim S16x4096x16x1 ![] bcast_S_S16x4096x16x1 (constant S_ .f32 0x42800000#32)))
    (broadcastInDim S16x4096x16x1 ![] bcast_S_S16x4096x16x1 (constant S_ .f32 0x358637BD#32)))))) (broadcastInDim S16x4096x16x64 ![0, 1, 2, 3]
    bcast_S1x1x1x64_S16x4096x16x64_0_1_2_3 (broadcastInDim S1x1x1x64 ![3] bcast_S64_S1x1x1x64_3 g))

/-- Its entries. -/
theorem queryNorm_at (U : FVec Ideal S16x4096x16x64 .f32) (g : FVec Ideal S64 .f32) (b : Fin 16) (l : Fin 4096) (h : Fin 16) (d : Fin 64) :
    queryNorm U g (ix4 b l h d) = headNorm (fun d => U (ix4 b l h d)) (fun d => g (ix1 d)) d := by
  pointwise [queryNorm, headNorm]

/-- Four pieces of sixteen numbers side by side. -/
theorem queryFour_at (a b' c e : FVec Ideal S16x4096x16x16 .f32) (b : Fin 16) (l : Fin 4096) (h : Fin 16) (d : Fin 64) :
    (concatenate S16x4096x16x64 3 [⟨S16x4096x16x16, a⟩, ⟨S16x4096x16x16, b'⟩, ⟨S16x4096x16x16, c⟩, ⟨S16x4096x16x16, e⟩]
      concatenates_S16x4096x16x16_S16x4096x16x16_S16x4096x16x16_S16x4096x16x16_S16x4096x16x64_d3 : FVec Ideal S16x4096x16x64 .f32) (ix4 b l h d)
      = four (fun k => a (ix4 b l h k)) (fun k => b' (ix4 b l h k)) (fun k => c (ix4 b l h k)) (fun k => e (ix4 b l h k)) d := by
  have hd := d.isLt
  pointwise []
  unfold four
  repeat' split
  all_goals first
    | (exfalso; omega)
    | exact congrArg (fun k => a (ix4 b l h k)) (Fin.ext (by (try simp only []); (try omega)))
    | exact congrArg (fun k => b' (ix4 b l h k)) (Fin.ext (by (try simp only []); (try omega)))
    | exact congrArg (fun k => c (ix4 b l h k)) (Fin.ext (by (try simp only []); (try omega)))
    | exact congrArg (fun k => e (ix4 b l h k)) (Fin.ext (by (try simp only []); (try omega)))

/-- The rotation of each head of the queries. -/
def queryRope (N : FVec Ideal S16x4096x16x64 .f32) (A7 A8 : FVec Ideal S4096x16 .f32) : FVec Ideal S16x4096x16x64 .f32 :=
  (concatenate S16x4096x16x64 3 [⟨S16x4096x16x16, ((subf (mulf (extractStridedSlice S16x4096x16x16 ![0, 0, 0, 0] N
    slices_S16x4096x16x64_S16x4096x16x16_0_0_0_0) (broadcastInDim S16x4096x16x16 ![0, 1, 2, 3] bcast_S1x4096x1x16_S16x4096x16x16_0_1_2_3
    (broadcastInDim S1x4096x1x16 ![1, 3] bcast_S4096x16_S1x4096x1x16_1_3 (Host.cos A7)))) (mulf (extractStridedSlice S16x4096x16x16 ![0, 0, 0, 16] N
    slices_S16x4096x16x64_S16x4096x16x16_0_0_0_16) (broadcastInDim S16x4096x16x16 ![0, 1, 2, 3] bcast_S1x4096x1x16_S16x4096x16x16_0_1_2_3
    (broadcastInDim S1x4096x1x16 ![1, 3] bcast_S4096x16_S1x4096x1x16_1_3 (Host.sin A7))))) : (⟨S16x4096x16x16, .f32⟩ : BufTy).Contents (Elt Ideal))⟩,
    ⟨S16x4096x16x16, ((addf (mulf (extractStridedSlice S16x4096x16x16 ![0, 0, 0, 0] N slices_S16x4096x16x64_S16x4096x16x16_0_0_0_0) (broadcastInDim
    S16x4096x16x16 ![0, 1, 2, 3] bcast_S1x4096x1x16_S16x4096x16x16_0_1_2_3 (broadcastInDim S1x4096x1x16 ![1, 3] bcast_S4096x16_S1x4096x1x16_1_3
    (Host.sin A7)))) (mulf (extractStridedSlice S16x4096x16x16 ![0, 0, 0, 16] N slices_S16x4096x16x64_S16x4096x16x16_0_0_0_16) (broadcastInDim
    S16x4096x16x16 ![0, 1, 2, 3] bcast_S1x4096x1x16_S16x4096x16x16_0_1_2_3 (broadcastInDim S1x4096x1x16 ![1, 3] bcast_S4096x16_S1x4096x1x16_1_3
    (Host.cos A7))))) : (⟨S16x4096x16x16, .f32⟩ : BufTy).Contents (Elt Ideal))⟩, ⟨S16x4096x16x16, ((subf (mulf (extractStridedSlice S16x4096x16x16
    ![0, 0, 0, 32] N slices_S16x4096x16x64_S16x4096x16x16_0_0_0_32) (broadcastInDim S16x4096x16x16 ![0, 1, 2, 3]
    bcast_S1x4096x1x16_S16x4096x16x16_0_1_2_3 (broadcastInDim S1x4096x1x16 ![1, 3] bcast_S4096x16_S1x4096x1x16_1_3 (Host.cos A8)))) (mulf
    (extractStridedSlice S16x4096x16x16 ![0, 0, 0, 48] N slices_S16x4096x16x64_S16x4096x16x16_0_0_0_48) (broadcastInDim S16x4096x16x16 ![0, 1, 2, 3]
    bcast_S1x4096x1x16_S16x4096x16x16_0_1_2_3 (broadcastInDim S1x4096x1x16 ![1, 3] bcast_S4096x16_S1x4096x1x16_1_3 (Host.sin A8))))) :
    (⟨S16x4096x16x16, .f32⟩ : BufTy).Contents (Elt Ideal))⟩, ⟨S16x4096x16x16, ((addf (mulf (extractStridedSlice S16x4096x16x16 ![0, 0, 0, 32] N
    slices_S16x4096x16x64_S16x4096x16x16_0_0_0_32) (broadcastInDim S16x4096x16x16 ![0, 1, 2, 3] bcast_S1x4096x1x16_S16x4096x16x16_0_1_2_3
    (broadcastInDim S1x4096x1x16 ![1, 3] bcast_S4096x16_S1x4096x1x16_1_3 (Host.sin A8)))) (mulf (extractStridedSlice S16x4096x16x16 ![0, 0, 0, 48] N
    slices_S16x4096x16x64_S16x4096x16x16_0_0_0_48) (broadcastInDim S16x4096x16x16 ![0, 1, 2, 3] bcast_S1x4096x1x16_S16x4096x16x16_0_1_2_3
    (broadcastInDim S1x4096x1x16 ![1, 3] bcast_S4096x16_S1x4096x1x16_1_3 (Host.cos A8))))) : (⟨S16x4096x16x16, .f32⟩ : BufTy).Contents (Elt Ideal))⟩]
    concatenates_S16x4096x16x16_S16x4096x16x16_S16x4096x16x16_S16x4096x16x16_S16x4096x16x64_d3 : (⟨S16x4096x16x64, .f32⟩ : BufTy).Contents (Elt
    Ideal))

/-- Its entries. -/
theorem queryRope_at (N : FVec Ideal S16x4096x16x64 .f32) (A7 A8 : FVec Ideal S4096x16 .f32) (b : Fin 16) (l : Fin 4096) (h : Fin 16) (d : Fin 64) :
    queryRope N A7 A8 (ix4 b l h d) = rotary (fun d => N (ix4 b l h d)) (cosAt A7 l) (sinAt A7 l) (cosAt A8 l) (sinAt A8 l) d := by
  have hd := d.isLt
  unfold queryRope
  rw [queryFour_at]
  unfold four rotary cosAt sinAt
  repeat' split
  all_goals first
    | (exfalso; omega)
    | skip
  all_goals pointwise []
  all_goals first
    | refine congrArg₂ HSub.hSub (congrArg (· * _) ?_) (congrArg (· * _) ?_)
    | refine congrArg₂ HAdd.hAdd (congrArg (· * _) ?_) (congrArg (· * _) ?_)
  all_goals exact congrArg (fun i => N (ix4 b l h i)) (Fin.ext (by (try simp only []); (try omega)))

/-- A head and a place of a column of the queries. -/
theorem lt_queryHead {C : ℕ} (hC : C < 1024) : C / 64 < 16 := by omega

/-- The reference's queries, entry by entry. -/
theorem queries_at (A0 : FVec Ideal S16x4096x1024 .f32) (A1 : FVec Ideal S1024 .f32) (A2 A3 : FVec Ideal S16x1x1024 .f32) (A4 : FVec Ideal S1024x1536 .f32)
    (A5 : FVec Ideal S64 .f32) (A7 A8 : FVec Ideal S4096x16 .f32) (b : Fin 16) (l : Fin 4096) (C : Fin 1024) :
    (truncf .bf16 (shapeCast _ (mulf ((queryRope (queryNorm (querySplit (all A0 A1 A2 A3 A4)) A5) A7 A8)) (broadcastInDim S16x4096x16x64 ![] bcast_S_S16x4096x16x64 (constant S_ .f32 0x3E000000#32))) shapeCasts_S16x4096x16x64_S16x4096x1024) bitsLt_bf16_f32 : FVec Ideal S16x4096x1024 .bf16) (ix3 b l C)
      = queries A0 A1 A2 A3 A4 A5 A7 A8 (ix3 b l C) := by
  have hR := queryRope_at (queryNorm (querySplit (all A0 A1 A2 A3 A4)) A5) A7 A8 b l ⟨(C : ℕ) / 64, lt_queryHead C.isLt⟩ ⟨(C : ℕ) % 64, lt_place⟩
  simp only [queryNorm_at] at hR
  have hS : ∀ d : Fin 64, querySplit (all A0 A1 A2 A3 A4) (ix4 b l ⟨(C : ℕ) / 64, lt_queryHead C.isLt⟩ d) = _ := fun d =>
    (querySplit_at (all A0 A1 A2 A3 A4) b l ⟨(C : ℕ) / 64, lt_queryHead C.isLt⟩ d (by have := C.isLt; simp only []; omega)).trans (all_at A0 A1 A2 A3 A4 b l _)
  simp only [hS] at hR
  generalize queryRope (queryNorm (querySplit (all A0 A1 A2 A3 A4)) A5) A7 A8 = R at hR ⊢
  unfold queries
  pointwise []
  exact congrArg (· * _) hR

/-- The columns of the keys, by head. -/
def keySplit (T : FVec Ideal S16x4096x1536 .f32) : FVec Ideal S16x4096x4x64 .f32 :=
  shapeCast _ (extractStridedSlice S16x4096x256 ![0, 0, 1024] T slices_S16x4096x1536_S16x4096x256_0_0_1024) shapeCasts_S16x4096x256_S16x4096x4x64

/-- Its entries. -/
theorem keySplit_at (T : FVec Ideal S16x4096x1536 .f32) (b : Fin 16) (l : Fin 4096) (h : Fin 4) (d : Fin 64)
    (hc : 1024 + (64 * (h : ℕ) + (d : ℕ)) < 1536) :
    keySplit T (ix4 b l h d) = T (ix3 b l ⟨1024 + (64 * (h : ℕ) + (d : ℕ)), hc⟩) := by
  pointwise [keySplit]
  try refine congrArg (fun j => T (ix3 b l j)) (Fin.ext ?_)
  try simp only []
  try omega

/-- The norm of each head of the keys. -/
def keyNorm (U : FVec Ideal S16x4096x4x64 .f32) (g : FVec Ideal S64 .f32) : FVec Ideal S16x4096x4x64 .f32 :=
  mulf (mulf U (broadcastInDim S16x4096x4x64 ![0, 1, 2, 3] bcast_S16x4096x4x1_S16x4096x4x64_0_1_2_3 (Host.rsqrt (addf (Host.divf (broadcastInDim
    S16x4096x4x1 ![0, 1, 2] bcast_S16x4096x4_S16x4096x4x1_0_1_2 (Host.reduceAdd (mulf U U) (constant S_ .f32 0x00000000#32)
    reducesTo_S16x4096x4x64_S16x4096x4_d3 h_S_)) (broadcastInDim S16x4096x4x1 ![] bcast_S_S16x4096x4x1 (constant S_ .f32 0x42800000#32)))
    (broadcastInDim S16x4096x4x1 ![] bcast_S_S16x4096x4x1 (constant S_ .f32 0x358637BD#32)))))) (broadcastInDim S16x4096x4x64 ![0, 1, 2, 3]
    bcast_S1x1x1x64_S16x4096x4x64_0_1_2_3 (broadcastInDim S1x1x1x64 ![3] bcast_S64_S1x1x1x64_3 g))

/-- Its entries. -/
theorem keyNorm_at (U : FVec Ideal S16x4096x4x64 .f32) (g : FVec Ideal S64 .f32) (b : Fin 16) (l : Fin 4096) (h : Fin 4) (d : Fin 64) :
    keyNorm U g (ix4 b l h d) = headNorm (fun d => U (ix4 b l h d)) (fun d => g (ix1 d)) d := by
  pointwise [keyNorm, headNorm]

/-- Four pieces of sixteen numbers side by side. -/
theorem keyFour_at (a b' c e : FVec Ideal S16x4096x4x16 .f32) (b : Fin 16) (l : Fin 4096) (h : Fin 4) (d : Fin 64) :
    (concatenate S16x4096x4x64 3 [⟨S16x4096x4x16, a⟩, ⟨S16x4096x4x16, b'⟩, ⟨S16x4096x4x16, c⟩, ⟨S16x4096x4x16, e⟩]
      concatenates_S16x4096x4x16_S16x4096x4x16_S16x4096x4x16_S16x4096x4x16_S16x4096x4x64_d3 : FVec Ideal S16x4096x4x64 .f32) (ix4 b l h d)
      = four (fun k => a (ix4 b l h k)) (fun k => b' (ix4 b l h k)) (fun k => c (ix4 b l h k)) (fun k => e (ix4 b l h k)) d := by
  have hd := d.isLt
  pointwise []
  unfold four
  repeat' split
  all_goals first
    | (exfalso; omega)
    | exact congrArg (fun k => a (ix4 b l h k)) (Fin.ext (by (try simp only []); (try omega)))
    | exact congrArg (fun k => b' (ix4 b l h k)) (Fin.ext (by (try simp only []); (try omega)))
    | exact congrArg (fun k => c (ix4 b l h k)) (Fin.ext (by (try simp only []); (try omega)))
    | exact congrArg (fun k => e (ix4 b l h k)) (Fin.ext (by (try simp only []); (try omega)))

/-- The rotation of each head of the keys. -/
def keyRope (N : FVec Ideal S16x4096x4x64 .f32) (A7 A8 : FVec Ideal S4096x16 .f32) : FVec Ideal S16x4096x4x64 .f32 :=
  (concatenate S16x4096x4x64 3 [⟨S16x4096x4x16, ((subf (mulf (extractStridedSlice S16x4096x4x16 ![0, 0, 0, 0] N
    slices_S16x4096x4x64_S16x4096x4x16_0_0_0_0) (broadcastInDim S16x4096x4x16 ![0, 1, 2, 3] bcast_S1x4096x1x16_S16x4096x4x16_0_1_2_3 (broadcastInDim
    S1x4096x1x16 ![1, 3] bcast_S4096x16_S1x4096x1x16_1_3 (Host.cos A7)))) (mulf (extractStridedSlice S16x4096x4x16 ![0, 0, 0, 16] N
    slices_S16x4096x4x64_S16x4096x4x16_0_0_0_16) (broadcastInDim S16x4096x4x16 ![0, 1, 2, 3] bcast_S1x4096x1x16_S16x4096x4x16_0_1_2_3 (broadcastInDim
    S1x4096x1x16 ![1, 3] bcast_S4096x16_S1x4096x1x16_1_3 (Host.sin A7))))) : (⟨S16x4096x4x16, .f32⟩ : BufTy).Contents (Elt Ideal))⟩, ⟨S16x4096x4x16,
    ((addf (mulf (extractStridedSlice S16x4096x4x16 ![0, 0, 0, 0] N slices_S16x4096x4x64_S16x4096x4x16_0_0_0_0) (broadcastInDim S16x4096x4x16 ![0, 1,
    2, 3] bcast_S1x4096x1x16_S16x4096x4x16_0_1_2_3 (broadcastInDim S1x4096x1x16 ![1, 3] bcast_S4096x16_S1x4096x1x16_1_3 (Host.sin A7)))) (mulf
    (extractStridedSlice S16x4096x4x16 ![0, 0, 0, 16] N slices_S16x4096x4x64_S16x4096x4x16_0_0_0_16) (broadcastInDim S16x4096x4x16 ![0, 1, 2, 3]
    bcast_S1x4096x1x16_S16x4096x4x16_0_1_2_3 (broadcastInDim S1x4096x1x16 ![1, 3] bcast_S4096x16_S1x4096x1x16_1_3 (Host.cos A7))))) : (⟨S16x4096x4x16,
    .f32⟩ : BufTy).Contents (Elt Ideal))⟩, ⟨S16x4096x4x16, ((subf (mulf (extractStridedSlice S16x4096x4x16 ![0, 0, 0, 32] N
    slices_S16x4096x4x64_S16x4096x4x16_0_0_0_32) (broadcastInDim S16x4096x4x16 ![0, 1, 2, 3] bcast_S1x4096x1x16_S16x4096x4x16_0_1_2_3 (broadcastInDim
    S1x4096x1x16 ![1, 3] bcast_S4096x16_S1x4096x1x16_1_3 (Host.cos A8)))) (mulf (extractStridedSlice S16x4096x4x16 ![0, 0, 0, 48] N
    slices_S16x4096x4x64_S16x4096x4x16_0_0_0_48) (broadcastInDim S16x4096x4x16 ![0, 1, 2, 3] bcast_S1x4096x1x16_S16x4096x4x16_0_1_2_3 (broadcastInDim
    S1x4096x1x16 ![1, 3] bcast_S4096x16_S1x4096x1x16_1_3 (Host.sin A8))))) : (⟨S16x4096x4x16, .f32⟩ : BufTy).Contents (Elt Ideal))⟩, ⟨S16x4096x4x16,
    ((addf (mulf (extractStridedSlice S16x4096x4x16 ![0, 0, 0, 32] N slices_S16x4096x4x64_S16x4096x4x16_0_0_0_32) (broadcastInDim S16x4096x4x16 ![0,
    1, 2, 3] bcast_S1x4096x1x16_S16x4096x4x16_0_1_2_3 (broadcastInDim S1x4096x1x16 ![1, 3] bcast_S4096x16_S1x4096x1x16_1_3 (Host.sin A8)))) (mulf
    (extractStridedSlice S16x4096x4x16 ![0, 0, 0, 48] N slices_S16x4096x4x64_S16x4096x4x16_0_0_0_48) (broadcastInDim S16x4096x4x16 ![0, 1, 2, 3]
    bcast_S1x4096x1x16_S16x4096x4x16_0_1_2_3 (broadcastInDim S1x4096x1x16 ![1, 3] bcast_S4096x16_S1x4096x1x16_1_3 (Host.cos A8))))) : (⟨S16x4096x4x16,
    .f32⟩ : BufTy).Contents (Elt Ideal))⟩] concatenates_S16x4096x4x16_S16x4096x4x16_S16x4096x4x16_S16x4096x4x16_S16x4096x4x64_d3 : (⟨S16x4096x4x64,
    .f32⟩ : BufTy).Contents (Elt Ideal))

/-- Its entries. -/
theorem keyRope_at (N : FVec Ideal S16x4096x4x64 .f32) (A7 A8 : FVec Ideal S4096x16 .f32) (b : Fin 16) (l : Fin 4096) (h : Fin 4) (d : Fin 64) :
    keyRope N A7 A8 (ix4 b l h d) = rotary (fun d => N (ix4 b l h d)) (cosAt A7 l) (sinAt A7 l) (cosAt A8 l) (sinAt A8 l) d := by
  have hd := d.isLt
  unfold keyRope
  rw [keyFour_at]
  unfold four rotary cosAt sinAt
  repeat' split
  all_goals first
    | (exfalso; omega)
    | skip
  all_goals pointwise []
  all_goals first
    | refine congrArg₂ HSub.hSub (congrArg (· * _) ?_) (congrArg (· * _) ?_)
    | refine congrArg₂ HAdd.hAdd (congrArg (· * _) ?_) (congrArg (· * _) ?_)
  all_goals exact congrArg (fun i => N (ix4 b l h i)) (Fin.ext (by (try simp only []); (try omega)))

/-- A head and a place of a column of the keys. -/
theorem lt_keyHead {C : ℕ} (hC : C < 256) : C / 64 < 4 := by omega

/-- The reference's keys, entry by entry. -/
theorem keys_at (A0 : FVec Ideal S16x4096x1024 .f32) (A1 : FVec Ideal S1024 .f32) (A2 A3 : FVec Ideal S16x1x1024 .f32) (A4 : FVec Ideal S1024x1536 .f32)
    (A6 : FVec Ideal S64 .f32) (A7 A8 : FVec Ideal S4096x16 .f32) (b : Fin 16) (l : Fin 4096) (C : Fin 256) :
    (truncf .bf16 (shapeCast _ ((keyRope (keyNorm (keySplit (all A0 A1 A2 A3 A4)) A6) A7 A8)) shapeCasts_S16x4096x4x64_S16x4096x256) bitsLt_bf16_f32 : FVec Ideal S16x4096x256 .bf16) (ix3 b l C)
      = keys A0 A1 A2 A3 A4 A6 A7 A8 (ix3 b l C) := by
  have hR := keyRope_at (keyNorm (keySplit (all A0 A1 A2 A3 A4)) A6) A7 A8 b l ⟨(C : ℕ) / 64, lt_keyHead C.isLt⟩ ⟨(C : ℕ) % 64, lt_place⟩
  simp only [keyNorm_at] at hR
  have hS : ∀ d : Fin 64, keySplit (all A0 A1 A2 A3 A4) (ix4 b l ⟨(C : ℕ) / 64, lt_keyHead C.isLt⟩ d) = _ := fun d =>
    (keySplit_at (all A0 A1 A2 A3 A4) b l ⟨(C : ℕ) / 64, lt_keyHead C.isLt⟩ d (by have := C.isLt; simp only []; omega)).trans (all_at A0 A1 A2 A3 A4 b l _)
  simp only [hS] at hR
  generalize keyRope (keyNorm (keySplit (all A0 A1 A2 A3 A4)) A6) A7 A8 = R at hR ⊢
  unfold keys
  pointwise []
  exact hR

/-- The reference's values, entry by entry. -/
theorem values_at (A0 : FVec Ideal S16x4096x1024 .f32) (A1 : FVec Ideal S1024 .f32) (A2 A3 : FVec Ideal S16x1x1024 .f32) (A4 : FVec Ideal S1024x1536 .f32)
    (b : Fin 16) (l : Fin 4096) (C : Fin 256) :
    (truncf .bf16 (extractStridedSlice S16x4096x256 ![0, 0, 1280] (all A0 A1 A2 A3 A4) slices_S16x4096x1536_S16x4096x256_0_0_1280) bitsLt_bf16_f32 :
      FVec Ideal S16x4096x256 .bf16) (ix3 b l C) = values A0 A1 A2 A3 A4 (ix3 b l C) := by
  refine Eq.trans ?_ (all_at A0 A1 A2 A3 A4 b l ⟨1280 + (C : ℕ), lt_valueCol C.isLt⟩)
  generalize all A0 A1 A2 A3 A4 = T
  pointwise []

end Cert.QkvRef

end
-- ==== Proof.QkvClaims.lean ====
/- The claims about the projection to queries, keys and values. -/
module

public import proofs.«01_k».proof.Defs
public import proofs.«01_k».proof.Proof.Gen.Kernel6
public import proofs.«01_k».proof.Proof.Gen.Kernel6.Frame
public import proofs.«01_k».proof.Proof.QkvFinal
public import proofs.«01_k».proof.Proof.QkvRef

@[expose] public section

set_option maxRecDepth 16384

noncomputable section

namespace Cert.QkvClaims

open Idealize.ShloMosaic Idealize.ShloMosaic.TcCoe Idealize.SL.Sem

/-- Every execution of the kernel ends, its arguments unchanged and its counters at zero, on rounded numbers. -/
theorem frame_kernel : Cert.quiescent_Kernel6 := fun m ρ _ => Cert.Kernel6.Gen.frame m ρ

/-- The same on the extended reals. -/
theorem frame_kernelIdeal : Cert.quiescent_Kernel6Ideal := fun m ρ _ => Cert.Kernel6Ideal.Gen.frame m ρ

/-- Every execution of the reference ends, its arguments unchanged; it has no counters. -/
theorem frame_reference : Cert.quiescent_Reference6Ideal := fun m ρ _ =>
  (θ_run Cert.Reference6Ideal.defs _ _).mono
    (fun r h => ⟨fun c => (h c).2.2.2, sem_eq_zero_of_no_sems (by decide) r.2⟩) (Cert.Reference6Ideal.Value.run (F := Ideal) m ρ)

/-- From memories that agree on the arguments the kernel's results are the reference's, entry by entry. -/
theorem algebraic : Cert.algebraic_Kernel6Ideal_Reference6Ideal := by
  intro m ρ m' ρ' _ hag
  refine ⟨_, _, _, Cert.Kernel6Ideal.Value.run_blocks (F := Ideal) m ρ, ?_⟩
  refine (θ_run Cert.Reference6Ideal.defs _ _).mono
    (fun _ h c => ⟨(h c).1.trans ?_, (h c).2.1.trans ?_, (h c).2.2.1.trans ?_, (h c).2.2.2⟩)
    (Cert.Reference6Ideal.Value.run (F := Ideal) m' ρ')
  all_goals obtain ⟨h0, h1, h2, h3, h4, h5, h6, h7, h8⟩ := hag c
  · refine Eq.trans ?_ (Cert.Kernel6Ideal.Value.final12 m c).symm
    refine funext fun (i : Cert.Reference6Ideal.S16x4096x1024.Idx) => ?_
    rw [eq_ix3 i, ← h0, ← h1, ← h2, ← h3, ← h4, ← h5, ← h7, ← h8]
    exact Cert.QkvRef.queries_at _ _ _ _ _ _ _ _ (i 0) (i 1) (i 2)
  · refine Eq.trans ?_ (Cert.Kernel6Ideal.Value.final13 m c).symm
    refine funext fun (i : Cert.Reference6Ideal.S16x4096x256.Idx) => ?_
    rw [eq_ix3 i, ← h0, ← h1, ← h2, ← h3, ← h4, ← h6, ← h7, ← h8]
    exact Cert.QkvRef.keys_at _ _ _ _ _ _ _ _ (i 0) (i 1) (i 2)
  · refine Eq.trans ?_ (Cert.Kernel6Ideal.Value.final14 m c).symm
    refine funext fun (i : Cert.Reference6Ideal.S16x4096x256.Idx) => ?_
    rw [eq_ix3 i, ← h0, ← h1, ← h2, ← h3, ← h4]
    exact Cert.QkvRef.values_at _ _ _ _ _ (i 0) (i 1) (i 2)

end Cert.QkvClaims

end
-- ==== Proof.lean ====
module

public import proofs.«01_k».proof.Defs
public import proofs.«01_k».proof.Proof.AttnClaims
public import proofs.«01_k».proof.Proof.MixerClaims
public import proofs.«01_k».proof.Proof.ExpertClaims
public import proofs.«01_k».proof.Proof.NormClaims
public import proofs.«01_k».proof.Proof.ProjClaims
public import proofs.«01_k».proof.Proof.QkvClaims

@[expose] public section

noncomputable section

namespace Cert.Proof

open Idealize.ShloMosaic Idealize.ShloMosaic.TcCoe Idealize.SL.Sem

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Pre_finite_scores.Gen.facts,
    Cert.Pre_table_names_experts.Gen.facts,
    AttnClaims.frame_kernel, AttnClaims.frame_kernelIdeal, AttnClaims.frame_kernelIdeal_finite, AttnClaims.frame_reference,
    AttnClaims.frame_reference_finite,
    MixerClaims.frame_kernel, MixerClaims.frame_kernelIdeal, MixerClaims.frame_reference,
    ExpertClaims.frame_kernel, ExpertClaims.frame_kernelIdeal, ExpertClaims.frame_reference,
    NormClaims.frame_kernel, NormClaims.frame_kernelIdeal, NormClaims.frame_reference,
    ProjClaims.frame_kernel, ProjClaims.frame_kernelIdeal, ProjClaims.frame_reference,
    QkvClaims.frame_kernel, QkvClaims.frame_kernelIdeal, QkvClaims.frame_reference,
    IdealRules.named_const.statement Cert.KernelIdeal.κ "mask" .f32 0xF149F2CA#32 ⊥ rfl, AttnClaims.algebraic, trivial,
    MixerClaims.algebraic, trivial, ExpertClaims.algebraic, trivial, NormClaims.algebraic, trivial,
    ProjClaims.algebraic, trivial, QkvClaims.algebraic⟩

end Cert.Proof

end
